-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_light [hPre_light : Cert.Pre_light.Facts] (m : (ℓ : Loc Cert.KernelIdeal.nD Cert.KernelIdeal.τ Cert.KernelIdeal.sig) → Buf (Elt Ideal) ℓ) : Prop :=
  ∀ c : Dev Cert.KernelIdeal.nD,
    (Cert.Pre_light.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ClampedIdeal (m : (ℓ : Loc Cert.ClampedIdeal.nD Cert.ClampedIdeal.τ Cert.ClampedIdeal.sig) → Buf (Elt Ideal) ℓ) : Prop :=
  True

def Pre_ClampedIdeal_light [hPre_light : Cert.Pre_light.Facts] (m : (ℓ : Loc Cert.ClampedIdeal.nD Cert.ClampedIdeal.τ Cert.ClampedIdeal.sig) → Buf (Elt Ideal) ℓ) : Prop :=
  ∀ c : Dev Cert.ClampedIdeal.nD,
    (Cert.Pre_light.fn (F := Ideal) (m ((c.tc : Thread Cert.ClampedIdeal.nD Cert.ClampedIdeal.τ).loc Cert.ClampedIdeal.main_arg0)) (m ((c.tc : Thread Cert.ClampedIdeal.nD Cert.ClampedIdeal.τ).loc Cert.ClampedIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_light [hKernelIdeal : Cert.KernelIdeal.Facts] [hPre_light : Cert.Pre_light.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_light m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClampedIdeal [hClampedIdeal : Cert.ClampedIdeal.Facts] : Prop :=
  ∀ (m : (ℓ : Loc Cert.ClampedIdeal.nD Cert.ClampedIdeal.τ Cert.ClampedIdeal.sig) → Buf (Elt Ideal) ℓ) (g : Dev Cert.ClampedIdeal.nD → PrngReg), Pre_ClampedIdeal m →
    θ_run (Cert.ClampedIdeal.defs (F := Ideal)) (onTc (τ := Cert.ClampedIdeal.τ) (Cert.ClampedIdeal.main (F := Ideal))) ⟨m, fun _ => 0, g⟩ (fun r => (∀ c : Dev Cert.ClampedIdeal.nD,
      r.2.mem ((c.tc : Thread Cert.ClampedIdeal.nD Cert.ClampedIdeal.τ).loc Cert.ClampedIdeal.main_arg0) = m ((c.tc : Thread Cert.ClampedIdeal.nD Cert.ClampedIdeal.τ).loc Cert.ClampedIdeal.main_arg0)
      ∧ r.2.mem ((c.tc : Thread Cert.ClampedIdeal.nD Cert.ClampedIdeal.τ).loc Cert.ClampedIdeal.main_arg1) = m ((c.tc : Thread Cert.ClampedIdeal.nD Cert.ClampedIdeal.τ).loc Cert.ClampedIdeal.main_arg1))
      ∧ r.2.sem = fun _ => 0)

def quiescent_ClampedIdeal_pre_light [hClampedIdeal : Cert.ClampedIdeal.Facts] [hPre_light : Cert.Pre_light.Facts] : Prop :=
  ∀ (m : (ℓ : Loc Cert.ClampedIdeal.nD Cert.ClampedIdeal.τ Cert.ClampedIdeal.sig) → Buf (Elt Ideal) ℓ) (g : Dev Cert.ClampedIdeal.nD → PrngReg), Pre_ClampedIdeal_light m →
    θ_run (Cert.ClampedIdeal.defs (F := Ideal)) (onTc (τ := Cert.ClampedIdeal.τ) (Cert.ClampedIdeal.main (F := Ideal))) ⟨m, fun _ => 0, g⟩ (fun r => (∀ c : Dev Cert.ClampedIdeal.nD,
      r.2.mem ((c.tc : Thread Cert.ClampedIdeal.nD Cert.ClampedIdeal.τ).loc Cert.ClampedIdeal.main_arg0) = m ((c.tc : Thread Cert.ClampedIdeal.nD Cert.ClampedIdeal.τ).loc Cert.ClampedIdeal.main_arg0)
      ∧ r.2.mem ((c.tc : Thread Cert.ClampedIdeal.nD Cert.ClampedIdeal.τ).loc Cert.ClampedIdeal.main_arg1) = m ((c.tc : Thread Cert.ClampedIdeal.nD Cert.ClampedIdeal.τ).loc Cert.ClampedIdeal.main_arg1))
      ∧ r.2.sem = fun _ => 0)

def preserves_Kernel_KernelIdeal : Prop :=
  True

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ClampedIdeal_pre_light [hKernelIdeal : Cert.KernelIdeal.Facts] [hClampedIdeal : Cert.ClampedIdeal.Facts] [hPre_light : Cert.Pre_light.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClampedIdeal.nD Cert.ClampedIdeal.τ Cert.ClampedIdeal.sig) → Buf (Elt Ideal) ℓ) (g' : Dev Cert.ClampedIdeal.nD → PrngReg), Pre_KernelIdeal_light m →
    (∀ c : Dev Cert.KernelIdeal.nD,
      m' ((c.tc : Thread Cert.ClampedIdeal.nD Cert.ClampedIdeal.τ).loc Cert.ClampedIdeal.main_arg0) = m ((c.tc : Thread Cert.KernelIdeal.nD Cert.KernelIdeal.τ).loc Cert.KernelIdeal.main_arg0)
      ∧ m' ((c.tc : Thread Cert.ClampedIdeal.nD Cert.ClampedIdeal.τ).loc Cert.ClampedIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClampedIdeal.defs (F := Ideal)) (onTc (τ := Cert.ClampedIdeal.τ) (Cert.ClampedIdeal.main (F := Ideal))) ⟨m', fun _ => 0, g'⟩ (fun r => ∀ c : Dev Cert.ClampedIdeal.nD,
          r.2.mem ((c.tc : Thread Cert.ClampedIdeal.nD Cert.ClampedIdeal.τ).loc Cert.ClampedIdeal.main_v54) = v0 c
          ∧ r.2.mem ((c.tc : Thread Cert.ClampedIdeal.nD Cert.ClampedIdeal.τ).loc Cert.ClampedIdeal.main_v69) = v1 c
          ∧ r.2.mem ((c.tc : Thread Cert.ClampedIdeal.nD Cert.ClampedIdeal.τ).loc Cert.ClampedIdeal.main_arg0) = m' ((c.tc : Thread Cert.ClampedIdeal.nD Cert.ClampedIdeal.τ).loc Cert.ClampedIdeal.main_arg0)
          ∧ r.2.mem ((c.tc : Thread Cert.ClampedIdeal.nD Cert.ClampedIdeal.τ).loc Cert.ClampedIdeal.main_arg1) = m' ((c.tc : Thread Cert.ClampedIdeal.nD Cert.ClampedIdeal.τ).loc Cert.ClampedIdeal.main_arg1))

def Claim : Prop :=
  ∃ (hKernel : Cert.Kernel.Facts) (hKernelIdeal : Cert.KernelIdeal.Facts) (hReferenceIdeal : Cert.ReferenceIdeal.Facts) (hClampedIdeal : Cert.ClampedIdeal.Facts) (hPre_below_infinity : Cert.Pre_below_infinity.Facts) (hPre_light : Cert.Pre_light.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_KernelIdeal_pre_light (hKernelIdeal := hKernelIdeal) (hPre_light := hPre_light)
    ∧ quiescent_ReferenceIdeal (hReferenceIdeal := hReferenceIdeal)
    ∧ quiescent_ReferenceIdeal_pre_below_infinity (hReferenceIdeal := hReferenceIdeal) (hPre_below_infinity := hPre_below_infinity)
    ∧ quiescent_ClampedIdeal (hClampedIdeal := hClampedIdeal)
    ∧ quiescent_ClampedIdeal_pre_light (hClampedIdeal := hClampedIdeal) (hPre_light := hPre_light)
    ∧ preserves_Kernel_KernelIdeal
    ∧ algebraic_KernelIdeal_ReferenceIdeal_pre_below_infinity (hKernelIdeal := hKernelIdeal) (hReferenceIdeal := hReferenceIdeal) (hPre_below_infinity := hPre_below_infinity)
    ∧ algebraic_KernelIdeal_ClampedIdeal_pre_light (hKernelIdeal := hKernelIdeal) (hClampedIdeal := hClampedIdeal) (hPre_light := hPre_light)
-- ==== Pre_below_infinity.lean ====
abbrev S262144x128 : Shape := ⟨2, ![262144, 128]⟩
abbrev S262144x1 : Shape := ⟨2, ![262144, 1]⟩
abbrev S_ : Shape := ⟨0, ![]⟩

class Facts : Prop where
  bcast_S_S262144x1 : S_.BroadcastsInDim S262144x1 (![] : Fin 0 → Fin S262144x1.rank)

variable [Facts]

def fn {F : FTy → Type} [FloatOps F] (main_arg0 : FVec F S262144x128 .f32) (main_arg1 : FVec F S262144x1 .f32) : IVec S262144x1 1 :=
  let main_cst : FVec F S_ .f32 := constant S_ .f32 0x7F800000#32
  let main_v0 : FVec F S262144x1 .f32 := broadcastInDim S262144x1 ![] bcast_S_S262144x1 main_cst
  let main_v1 : IVec S262144x1 1 := cmpf .olt main_arg1 main_v0
  main_v1
-- ==== Pre_light.lean ====
abbrev S262144x128 : Shape := ⟨2, ![262144, 128]⟩
abbrev S262144x1 : Shape := ⟨2, ![262144, 1]⟩
abbrev S1x1 : Shape := ⟨2, ![1, 1]⟩
abbrev S_ : Shape := ⟨0, ![]⟩

class Facts : Prop where
  slices_S262144x1_S1x1_46624_0 : S262144x1.Slices ![46624, 0] S1x1
  bcast_S_S1x1 : S_.BroadcastsInDim S1x1 (![] : Fin 0 → Fin S1x1.rank)
  slices_S262144x1_S1x1_177696_0 : S262144x1.Slices ![177696, 0] S1x1
  slices_S262144x1_S1x1_210629_0 : S262144x1.Slices ![210629, 0] S1x1
  slices_S262144x1_S1x1_54981_0 : S262144x1.Slices ![54981, 0] S1x1
  slices_S262144x1_S1x1_14143_0 : S262144x1.Slices ![14143, 0] S1x1
  slices_S262144x1_S1x1_10047_0 : S262144x1.Slices ![10047, 0] S1x1
  slices_S262144x1_S1x1_239960_0 : S262144x1.Slices ![239960, 0] S1x1
  slices_S262144x1_S1x1_235864_0 : S262144x1.Slices ![235864, 0] S1x1
  bcast_S_S262144x1 : S_.BroadcastsInDim S262144x1 (![] : Fin 0 → Fin S262144x1.rank)
  bcast_S1x1_S262144x1_0_1 : S1x1.BroadcastsInDim S262144x1 (![0, 1] : Fin 2 → Fin S262144x1.rank)

variable [Facts]

def fn_part3 {F : FTy → Type} [FloatOps F] (main_arg1 : FVec F S262144x1 .f32) (main_v14 : IVec S1x1 1) (main_v29 : IVec S1x1 1) (main_v44 : IVec S1x1 1) (main_v50 : FVec F S1x1 .f32) (main_v52 : FVec F S1x1 .f32) (main_v53 : FVec F S1x1 .f32) : IVec S262144x1 1 :=
  let main_v54 : FVec F S1x1 .f32 := mulf main_v53 main_v52
  let main_cst_17 : FVec F S_ .f32 := constant S_ .f32 0x3C000000#32
  let main_v55 : FVec F S1x1 .f32 := broadcastInDim S1x1 ![] bcast_S_S1x1 main_cst_17
  let main_v56 : FVec F S1x1 .f32 := addf main_v54 main_v55
  let main_cst_18 : FVec F S_ .f32 := constant S_ .f32 0x44800000#32
  let main_v57 : FVec F S1x1 .f32 := broadcastInDim S1x1 ![] bcast_S_S1x1 main_cst_18
  let main_v58 : FVec F S1x1 .f32 := mulf main_v57 main_v56
  let main_v59 : IVec S1x1 1 := cmpf .ole main_v50 main_v58
  let main_v60 : IVec S1x1 1 := andi main_v14 main_v29
  let main_v61 : IVec S1x1 1 := andi main_v60 main_v44
  let main_v62 : IVec S1x1 1 := andi main_v61 main_v59
  let main_cst_19 : FVec F S_ .f32 := constant S_ .f32 0x7F800000#32
  let main_v63 : FVec F S262144x1 .f32 := broadcastInDim S262144x1 ![] bcast_S_S262144x1 main_cst_19
  let main_v64 : IVec S262144x1 1 := cmpf .olt main_arg1 main_v63
  let main_v65 : IVec S262144x1 1 := broadcastInDim S262144x1 ![0, 1] bcast_S1x1_S262144x1_0_1 main_v62
  let main_v66 : IVec S262144x1 1 := andi main_v65 main_v64
  main_v66

def fn_part2 {F : FTy → Type} [FloatOps F] (main_arg1 : FVec F S262144x1 .f32) (main_v14 : IVec S1x1 1) (main_v29 : IVec S1x1 1) (main_v35 : FVec F S1x1 .f32) : IVec S262144x1 1 :=
  let main_v36 : FVec F S1x1 .f32 := (extractStridedSlice S1x1 ![10047, 0] · slices_S262144x1_S1x1_10047_0) main_arg1
  let main_v37 : FVec F S1x1 .f32 := Host.exp main_v36
  let main_cst_11 : FVec F S_ .f32 := constant S_ .f32 0x3F000000#32
  let main_v38 : FVec F S1x1 .f32 := broadcastInDim S1x1 ![] bcast_S_S1x1 main_cst_11
  let main_v39 : FVec F S1x1 .f32 := mulf main_v38 main_v37
  let main_cst_12 : FVec F S_ .f32 := constant S_ .f32 0x3C000000#32
  let main_v40 : FVec F S1x1 .f32 := broadcastInDim S1x1 ![] bcast_S_S1x1 main_cst_12
  let main_v41 : FVec F S1x1 .f32 := addf main_v39 main_v40
  let main_cst_13 : FVec F S_ .f32 := constant S_ .f32 0x44800000#32
  let main_v42 : FVec F S1x1 .f32 := broadcastInDim S1x1 ![] bcast_S_S1x1 main_cst_13
  let main_v43 : FVec F S1x1 .f32 := mulf main_v42 main_v41
  let main_v44 : IVec S1x1 1 := cmpf .ole main_v35 main_v43
  let main_v45 : FVec F S1x1 .f32 := (extractStridedSlice S1x1 ![239960, 0] · slices_S262144x1_S1x1_239960_0) main_arg1
  let main_v46 : FVec F S1x1 .f32 := Host.exp main_v45
  let main_cst_14 : FVec F S_ .f32 := constant S_ .f32 0x3F000000#32
  let main_v47 : FVec F S1x1 .f32 := broadcastInDim S1x1 ![] bcast_S_S1x1 main_cst_14
  let main_v48 : FVec F S1x1 .f32 := mulf main_v47 main_v46
  let main_cst_15 : FVec F S_ .f32 := constant S_ .f32 0x3C000000#32
  let main_v49 : FVec F S1x1 .f32 := broadcastInDim S1x1 ![] bcast_S_S1x1 main_cst_15
  let main_v50 : FVec F S1x1 .f32 := addf main_v48 main_v49
  let main_v51 : FVec F S1x1 .f32 := (extractStridedSlice S1x1 ![235864, 0] · slices_S262144x1_S1x1_235864_0) main_arg1
  let main_v52 : FVec F S1x1 .f32 := Host.exp main_v51
  let main_cst_16 : FVec F S_ .f32 := constant S_ .f32 0x3F000000#32
  let main_v53 : FVec F S1x1 .f32 := broadcastInDim S1x1 ![] bcast_S_S1x1 main_cst_16
  fn_part3 (F := F) main_arg1 main_v14 main_v29 main_v44 main_v50 main_v52 main_v53

def fn_part1 {F : FTy → Type} [FloatOps F] (main_arg1 : FVec F S262144x1 .f32) (main_v14 : IVec S1x1 1) (main_v16 : FVec F S1x1 .f32) (main_v17 : FVec F S1x1 .f32) : IVec S262144x1 1 :=
  let main_v18 : FVec F S1x1 .f32 := mulf main_v17 main_v16
  let main_cst_5 : FVec F S_ .f32 := constant S_ .f32 0x3C000000#32
  let main_v19 : FVec F S1x1 .f32 := broadcastInDim S1x1 ![] bcast_S_S1x1 main_cst_5
  let main_v20 : FVec F S1x1 .f32 := addf main_v18 main_v19
  let main_v21 : FVec F S1x1 .f32 := (extractStridedSlice S1x1 ![54981, 0] · slices_S262144x1_S1x1_54981_0) main_arg1
  let main_v22 : FVec F S1x1 .f32 := Host.exp main_v21
  let main_cst_6 : FVec F S_ .f32 := constant S_ .f32 0x3F000000#32
  let main_v23 : FVec F S1x1 .f32 := broadcastInDim S1x1 ![] bcast_S_S1x1 main_cst_6
  let main_v24 : FVec F S1x1 .f32 := mulf main_v23 main_v22
  let main_cst_7 : FVec F S_ .f32 := constant S_ .f32 0x3C000000#32
  let main_v25 : FVec F S1x1 .f32 := broadcastInDim S1x1 ![] bcast_S_S1x1 main_cst_7
  let main_v26 : FVec F S1x1 .f32 := addf main_v24 main_v25
  let main_cst_8 : FVec F S_ .f32 := constant S_ .f32 0x44800000#32
  let main_v27 : FVec F S1x1 .f32 := broadcastInDim S1x1 ![] bcast_S_S1x1 main_cst_8
  let main_v28 : FVec F S1x1 .f32 := mulf main_v27 main_v26
  let main_v29 : IVec S1x1 1 := cmpf .ole main_v20 main_v28
  let main_v30 : FVec F S1x1 .f32 := (extractStridedSlice S1x1 ![14143, 0] · slices_S262144x1_S1x1_14143_0) main_arg1
  let main_v31 : FVec F S1x1 .f32 := Host.exp main_v30
  let main_cst_9 : FVec F S_ .f32 := constant S_ .f32 0x3F000000#32
  let main_v32 : FVec F S1x1 .f32 := broadcastInDim S1x1 ![] bcast_S_S1x1 main_cst_9
  let main_v33 : FVec F S1x1 .f32 := mulf main_v32 main_v31
  let main_cst_10 : FVec F S_ .f32 := constant S_ .f32 0x3C000000#32
  let main_v34 : FVec F S1x1 .f32 := broadcastInDim S1x1 ![] bcast_S_S1x1 main_cst_10
  let main_v35 : FVec F S1x1 .f32 := addf main_v33 main_v34
  fn_part2 (F := F) main_arg1 main_v14 main_v29 main_v35

def fn {F : FTy → Type} [FloatOps F] (main_arg0 : FVec F S262144x128 .f32) (main_arg1 : FVec F S262144x1 .f32) : IVec S262144x1 1 :=
  let main_v0 : FVec F S1x1 .f32 := (extractStridedSlice S1x1 ![46624, 0] · slices_S262144x1_S1x1_46624_0) main_arg1
  let main_v1 : FVec F S1x1 .f32 := Host.exp main_v0
  let main_cst : FVec F S_ .f32 := constant S_ .f32 0x3F000000#32
  let main_v2 : FVec F S1x1 .f32 := broadcastInDim S1x1 ![] bcast_S_S1x1 main_cst
  let main_v3 : FVec F S1x1 .f32 := mulf main_v2 main_v1
  let main_cst_0 : FVec F S_ .f32 := constant S_ .f32 0x3C000000#32
  let main_v4 : FVec F S1x1 .f32 := broadcastInDim S1x1 ![] bcast_S_S1x1 main_cst_0
  let main_v5 : FVec F S1x1 .f32 := addf main_v3 main_v4
  let main_v6 : FVec F S1x1 .f32 := (extractStridedSlice S1x1 ![177696, 0] · slices_S262144x1_S1x1_177696_0) main_arg1
  let main_v7 : FVec F S1x1 .f32 := Host.exp main_v6
  let main_cst_1 : FVec F S_ .f32 := constant S_ .f32 0x3F000000#32
  let main_v8 : FVec F S1x1 .f32 := broadcastInDim S1x1 ![] bcast_S_S1x1 main_cst_1
  let main_v9 : FVec F S1x1 .f32 := mulf main_v8 main_v7
  let main_cst_2 : FVec F S_ .f32 := constant S_ .f32 0x3C000000#32
  let main_v10 : FVec F S1x1 .f32 := broadcastInDim S1x1 ![] bcast_S_S1x1 main_cst_2
  let main_v11 : FVec F S1x1 .f32 := addf main_v9 main_v10
  let main_cst_3 : FVec F S_ .f32 := constant S_ .f32 0x44800000#32
  let main_v12 : FVec F S1x1 .f32 := broadcastInDim S1x1 ![] bcast_S_S1x1 main_cst_3
  let main_v13 : FVec F S1x1 .f32 := mulf main_v12 main_v11
  let main_v14 : IVec S1x1 1 := cmpf .ole main_v5 main_v13
  let main_v15 : FVec F S1x1 .f32 := (extractStridedSlice S1x1 ![210629, 0] · slices_S262144x1_S1x1_210629_0) main_arg1
  let main_v16 : FVec F S1x1 .f32 := Host.exp main_v15
  let main_cst_4 : FVec F S_ .f32 := constant S_ .f32 0x3F000000#32
  let main_v17 : FVec F S1x1 .f32 := broadcastInDim S1x1 ![] bcast_S_S1x1 main_cst_4
  fn_part1 (F := F) main_arg1 main_v14 main_v16 main_v17
-- ==== Kernel.lean ====
abbrev S262144x128 : Shape := ⟨2, ![262144, 128]⟩
abbrev S262144x1 : Shape := ⟨2, ![262144, 1]⟩
abbrev S64x4096 : Shape := ⟨2, ![64, 4096]⟩
abbrev S262144 : Shape := ⟨1, ![262144]⟩
abbrev S64 : Shape := ⟨1, ![64]⟩
abbrev S64x1 : Shape := ⟨2, ![64, 1]⟩
abbrev S64x8 : Shape := ⟨2, ![64, 8]⟩
abbrev S64x128 : Shape := ⟨2, ![64, 128]⟩
abbrev S64x4096x128 : Shape := ⟨3, ![64, 4096, 128]⟩
abbrev S64x128x128 : Shape := ⟨3, ![64, 128, 128]⟩
abbrev S32x64x128 : Shape := ⟨3, ![32, 64, 128]⟩
abbrev S32x128 : Shape := ⟨2, ![32, 128]⟩
abbrev S32x1x128 : Shape := ⟨3, ![32, 1, 128]⟩
abbrev S1x64x128 : Shape := ⟨3, ![1, 64, 128]⟩
abbrev S32x128x1 : Shape := ⟨3, ![32, 128, 1]⟩
abbrev S32x128x64 : Shape := ⟨3, ![32, 128, 64]⟩
abbrev S4096x64 : Shape := ⟨2, ![4096, 64]⟩
abbrev S4096x128 : Shape := ⟨2, ![4096, 128]⟩
abbrev S32x128x128 : Shape := ⟨3, ![32, 128, 128]⟩
abbrev S4096x8 : Shape := ⟨2, ![4096, 8]⟩
abbrev S32x128x8 : Shape := ⟨3, ![32, 128, 8]⟩
abbrev S4096 : Shape := ⟨1, ![4096]⟩
abbrev S1x4096 : Shape := ⟨2, ![1, 4096]⟩

abbrev nBuf : Space → Nat
  | .hbm => 15
  | .vmem => 17
  | .smem => 0
  | _ => 0

abbrev bufTy : (tb : Table) → Fin (tcTables nBuf tb) → BufTy
  | .hbm, ⟨0, _⟩ => ⟨S262144x128, .f32⟩
  | .hbm, ⟨1, _⟩ => ⟨S262144x1, .f32⟩
  | .hbm, ⟨2, _⟩ => ⟨S64x4096, .f32⟩
  | .hbm, ⟨3, _⟩ => ⟨S262144, .f32⟩
  | .hbm, ⟨4, _⟩ => ⟨S64, .f32⟩
  | .hbm, ⟨5, _⟩ => ⟨S64x1, .f32⟩
  | .hbm, ⟨6, _⟩ => ⟨S64x8, .f32⟩
  | .hbm, ⟨7, _⟩ => ⟨S64x128, .f32⟩
  | .hbm, ⟨8, _⟩ => ⟨S64x4096, .f32⟩
  | .hbm, ⟨9, _⟩ => ⟨S64x8, .f32⟩
  | .hbm, ⟨10, _⟩ => ⟨S64x4096, .i32⟩
  | .hbm, ⟨11, _⟩ => ⟨S64x4096x128, .f32⟩
  | .hbm, ⟨12, _⟩ => ⟨S64x4096, .f32⟩
  | .hbm, ⟨13, _⟩ => ⟨S64x4096, .f32⟩
  | .hbm, ⟨14, _⟩ => ⟨S262144x128, .f32⟩
  | .local _ .vmem, ⟨0, _⟩ => ⟨S64x4096, .f32⟩
  | .local _ .vmem, ⟨1, _⟩ => ⟨S64x8, .f32⟩
  | .local _ .vmem, ⟨2, _⟩ => ⟨S64x4096, .f32⟩
  | .local _ .vmem, ⟨3, _⟩ => ⟨S64x8, .f32⟩
  | .local _ .vmem, ⟨4, _⟩ => ⟨S64x4096, .i32⟩
  | .local _ .vmem, ⟨5, _⟩ => ⟨S64x128, .f32⟩
  | .local _ .vmem, ⟨6, _⟩ => ⟨S64x128, .f32⟩
  | .local _ .vmem, ⟨7, _⟩ => ⟨S64x128, .i32⟩
  | .local _ .vmem, ⟨8, _⟩ => ⟨S64x128, .i32⟩
  | .local _ .vmem, ⟨9, _⟩ => ⟨S64x8, .f32⟩
  | .local _ .vmem, ⟨10, _⟩ => ⟨S64x128, .f32⟩
  | .local _ .vmem, ⟨11, _⟩ => ⟨S64x128x128, .f32⟩
  | .local _ .vmem, ⟨12, _⟩ => ⟨S64x128x128, .f32⟩
  | .local _ .vmem, ⟨13, _⟩ => ⟨S64x128, .f32⟩
  | .local _ .vmem, ⟨14, _⟩ => ⟨S64x128, .f32⟩
  | .local _ .vmem, ⟨15, _⟩ => ⟨S64x4096, .f32⟩
  | .local _ .vmem, ⟨16, _⟩ => ⟨S64x4096, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6_0 : Ref sig .tc := ⟨.hbm, 8, rfl⟩
abbrev main_call0_v6_1 : Ref sig .tc := ⟨.hbm, 9, rfl⟩
abbrev main_call0_v6_2 : Ref sig .tc := ⟨.hbm, 10, rfl⟩
abbrev main_call0_v7_0 : Ref sig .tc := ⟨.hbm, 11, rfl⟩
abbrev main_call0_v7_1 : Ref sig .tc := ⟨.hbm, 12, rfl⟩
abbrev main_v0_1 : Ref sig .tc := ⟨.hbm, 13, rfl⟩
abbrev main_v0_0 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg1_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem1_0 : DmaSem sig := 16

abbrev nD : Nat := 1
abbrev τ : Topo := Topo.v7x

variable {F : FTy → Type} [FloatOps F]

abbrev grid0 : Pipeline.Grid := .none

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := .none

abbrev stage2_0 : Fin 1 → Memref sig .tc .vmem S64x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
-- ==== ReferenceIdeal.lean ====
abbrev S262144x128 : Shape := ⟨2, ![262144, 128]⟩
abbrev S262144x1 : Shape := ⟨2, ![262144, 1]⟩
abbrev S_ : Shape := ⟨0, ![]⟩
abbrev S64x4096 : Shape := ⟨2, ![64, 4096]⟩
abbrev S4096x64 : Shape := ⟨2, ![4096, 64]⟩
abbrev S1 : Shape := ⟨1, ![1]⟩
abbrev S2 : Shape := ⟨1, ![2]⟩
abbrev S4096x64x64 : Shape := ⟨3, ![4096, 64, 64]⟩
abbrev S4096x1x64 : Shape := ⟨3, ![4096, 1, 64]⟩
abbrev S262144 : Shape := ⟨1, ![262144]⟩
abbrev S1x1 : Shape := ⟨2, ![1, 1]⟩
abbrev S4096 : Shape := ⟨1, ![4096]⟩
abbrev S1x4096 : Shape := ⟨2, ![1, 4096]⟩

abbrev nBuf : Space → Nat
  | .hbm => 353
  | .vmem => 0
  | .smem => 0
  | _ => 0

abbrev hbmTy0_0 (i : Nat) : BufTy := match i % 128 with
  | 0 => ⟨S262144x128, .f32⟩
  | 1 => ⟨S262144x1, .f32⟩
  | 2 => ⟨S262144x1, .f32⟩
  | 3 => ⟨S_, .f32⟩
  | 4 => ⟨S262144x1, .f32⟩
  | 5 => ⟨S262144x1, .f32⟩
  | 6 => ⟨S_, .f32⟩
  | 7 => ⟨S262144x1, .f32⟩
  | 8 => ⟨S262144x1, .f32⟩
  | 9 => ⟨S64x4096, .f32⟩
  | 10 => ⟨S4096x64, .f32⟩
  | 11 => ⟨S4096x64, .f32⟩
  | 12 => ⟨S_, .i32⟩
  | 13 => ⟨S_, .i32⟩
  | 14 => ⟨S_, .i32⟩
  | 15 => ⟨S_, .i32⟩
  | 16 => ⟨S1, .i32⟩
  | 17 => ⟨S_, .i32⟩
  | 18 => ⟨S_, .i32⟩
  | 19 => ⟨S_, .i32⟩
  | 20 => ⟨S1, .i32⟩
  | 21 => ⟨S2, .i32⟩
  | 22 => ⟨S1, .i32⟩
  | 23 => ⟨S_, .i32⟩
  | 24 => ⟨S1, .i32⟩
  | 25 => ⟨S_, .i32⟩
  | 26 => ⟨S4096x64x64, .i64⟩
  | 27 => ⟨S4096x64x64, .i64⟩
  | 28 => ⟨S4096x64x64, .i64⟩
  | 29 => ⟨S_, .i64⟩
  | 30 => ⟨S4096x64x64, .i64⟩
  | 31 => ⟨S4096x64x64, .i64⟩
  | 32 => ⟨S_, .i64⟩
  | 33 => ⟨S4096x64x64, .i64⟩
  | 34 => ⟨S4096x64x64, .i64⟩
  | 35 => ⟨S_, .i64⟩
  | 36 => ⟨S4096x64x64, .i64⟩
  | 37 => ⟨S4096x64x64, .i64⟩
  | 38 => ⟨S4096x64x64, .i64⟩
  | 39 => ⟨S4096x64x64, .i64⟩
  | 40 => ⟨S_, .i64⟩
  | 41 => ⟨S4096x64x64, .i64⟩
  | 42 => ⟨S4096x64x64, .i64⟩
  | 43 => ⟨S4096x64x64, .i32⟩
  | 44 => ⟨S4096x64x64, .i32⟩
  | 45 => ⟨S_, .i32⟩
  | 46 => ⟨S_, .i32⟩
  | 47 => ⟨S_, .i32⟩
  | 48 => ⟨S4096x64x64, .i32⟩
  | 49 => ⟨S4096x64x64, .i32⟩
  | 50 => ⟨S4096x64x64, .i32⟩
  | 51 => ⟨S4096x64x64, .i32⟩
  | 52 => ⟨S4096x64x64, .i32⟩
  | 53 => ⟨S_, .i32⟩
  | 54 => ⟨S4096x64x64, .i32⟩
  | 55 => ⟨S4096x64x64, .i32⟩
  | 56 => ⟨S_, .i32⟩
  | 57 => ⟨S4096x64x64, .i32⟩
  | 58 => ⟨S4096x64x64, .i32⟩
  | 59 => ⟨S4096x64x64, .i32⟩
  | 60 => ⟨S4096x64x64, .i32⟩
  | 61 => ⟨S4096x64x64, .i32⟩
  | 62 => ⟨S_, .i32⟩
  | 63 => ⟨S4096x64x64, .i32⟩
  | 64 => ⟨S4096x64x64, .i32⟩
  | 65 => ⟨S_, .i32⟩
  | 66 => ⟨S4096x64x64, .i32⟩
  | 67 => ⟨S4096x64x64, .i32⟩
  | 68 => ⟨S4096x64x64, .i32⟩
  | 69 => ⟨S4096x64x64, .i32⟩
  | 70 => ⟨S4096x64x64, .i32⟩
  | 71 => ⟨S_, .i32⟩
  | 72 => ⟨S4096x64x64, .i32⟩
  | 73 => ⟨S4096x64x64, .i32⟩
  | 74 => ⟨S_, .i32⟩
  | 75 => ⟨S4096x64x64, .i32⟩
  | 76 => ⟨S4096x64x64, .i32⟩
  | 77 => ⟨S4096x64x64, .i32⟩
  | 78 => ⟨S4096x64x64, .i32⟩
  | 79 => ⟨S4096x64x64, .i32⟩
  | 80 => ⟨S_, .i32⟩
  | 81 => ⟨S4096x64x64, .i32⟩
  | 82 => ⟨S4096x64x64, .i32⟩
  | 83 => ⟨S_, .i32⟩
  | 84 => ⟨S4096x64x64, .i32⟩
  | 85 => ⟨S4096x64x64, .i32⟩
  | 86 => ⟨S4096x64x64, .i32⟩
  | 87 => ⟨S4096x64x64, .i32⟩
  | 88 => ⟨S4096x64x64, .i32⟩
  | 89 => ⟨S4096x64x64, .i32⟩
  | 90 => ⟨S4096x64x64, .i32⟩
  | 91 => ⟨S4096x64x64, .i32⟩
  | 92 => ⟨S_, .i32⟩
  | 93 => ⟨S4096x64x64, .i32⟩
  | 94 => ⟨S4096x64x64, .i32⟩
  | 95 => ⟨S4096x64x64, .i32⟩
  | 96 => ⟨S_, .i32⟩
  | 97 => ⟨S4096x64x64, .i32⟩
  | 98 => ⟨S4096x64x64, .i32⟩
  | 99 => ⟨S_, .i32⟩
  | 100 => ⟨S4096x64x64, .i32⟩
  | 101 => ⟨S4096x64x64, .i32⟩
  | 102 => ⟨S4096x64x64, .i32⟩
  | 103 => ⟨S4096x64x64, .i32⟩
  | 104 => ⟨S4096x64x64, .i32⟩
  | 105 => ⟨S_, .i32⟩
  | 106 => ⟨S4096x64x64, .i32⟩
  | 107 => ⟨S4096x64x64, .i32⟩
  | 108 => ⟨S_, .i32⟩
  | 109 => ⟨S4096x64x64, .i32⟩
  | 110 => ⟨S4096x64x64, .i32⟩
  | 111 => ⟨S4096x64x64, .i32⟩
  | 112 => ⟨S4096x64x64, .i32⟩
  | 113 => ⟨S4096x64x64, .i32⟩
  | 114 => ⟨S_, .i32⟩
  | 115 => ⟨S4096x64x64, .i32⟩
  | 116 => ⟨S4096x64x64, .i32⟩
  | 117 => ⟨S_, .i32⟩
  | 118 => ⟨S4096x64x64, .i32⟩
  | 119 => ⟨S4096x64x64, .i32⟩
  | 120 => ⟨S4096x64x64, .i32⟩
  | 121 => ⟨S4096x64x64, .i32⟩
  | 122 => ⟨S4096x64x64, .i32⟩
  | 123 => ⟨S_, .i32⟩
  | 124 => ⟨S4096x64x64, .i32⟩
  | 125 => ⟨S4096x64x64, .i32⟩
  | 126 => ⟨S_, .i32⟩
  | 127 => ⟨S4096x64x64, .i32⟩
  | _ => ⟨S262144x128, .f32⟩

abbrev hbmTy0_1 (i : Nat) : BufTy := match i % 128 with
  | 0 => ⟨S4096x64x64, .i32⟩
  | 1 => ⟨S4096x64x64, .i32⟩
  | 2 => ⟨S4096x64x64, .i32⟩
  | 3 => ⟨S4096x64x64, .i32⟩
  | 4 => ⟨S4096x64x64, .i32⟩
  | 5 => ⟨S4096x64x64, .i32⟩
  | 6 => ⟨S4096x64x64, .i32⟩
  | 7 => ⟨S_, .i32⟩
  | 8 => ⟨S4096x64x64, .i32⟩
  | 9 => ⟨S4096x64x64, .i32⟩
  | 10 => ⟨S4096x64x64, .i32⟩
  | 11 => ⟨S_, .i32⟩
  | 12 => ⟨S4096x64x64, .i32⟩
  | 13 => ⟨S4096x64x64, .i32⟩
  | 14 => ⟨S_, .i32⟩
  | 15 => ⟨S4096x64x64, .i32⟩
  | 16 => ⟨S4096x64x64, .i32⟩
  | 17 => ⟨S4096x64x64, .i32⟩
  | 18 => ⟨S4096x64x64, .i32⟩
  | 19 => ⟨S4096x64x64, .i32⟩
  | 20 => ⟨S_, .i32⟩
  | 21 => ⟨S4096x64x64, .i32⟩
  | 22 => ⟨S4096x64x64, .i32⟩
  | 23 => ⟨S_, .i32⟩
  | 24 => ⟨S4096x64x64, .i32⟩
  | 25 => ⟨S4096x64x64, .i32⟩
  | 26 => ⟨S4096x64x64, .i32⟩
  | 27 => ⟨S4096x64x64, .i32⟩
  | 28 => ⟨S4096x64x64, .i32⟩
  | 29 => ⟨S_, .i32⟩
  | 30 => ⟨S4096x64x64, .i32⟩
  | 31 => ⟨S4096x64x64, .i32⟩
  | 32 => ⟨S_, .i32⟩
  | 33 => ⟨S4096x64x64, .i32⟩
  | 34 => ⟨S4096x64x64, .i32⟩
  | 35 => ⟨S4096x64x64, .i32⟩
  | 36 => ⟨S4096x64x64, .i32⟩
  | 37 => ⟨S4096x64x64, .i32⟩
  | 38 => ⟨S_, .i32⟩
  | 39 => ⟨S4096x64x64, .i32⟩
  | 40 => ⟨S4096x64x64, .i32⟩
  | 41 => ⟨S_, .i32⟩
  | 42 => ⟨S4096x64x64, .i32⟩
  | 43 => ⟨S4096x64x64, .i32⟩
  | 44 => ⟨S4096x64x64, .i32⟩
  | 45 => ⟨S4096x64x64, .i32⟩
  | 46 => ⟨S4096x64x64, .i32⟩
  | 47 => ⟨S4096x64x64, .i32⟩
  | 48 => ⟨S4096x64x64, .i32⟩
  | 49 => ⟨S4096x64x64, .i32⟩
  | 50 => ⟨S_, .i32⟩
  | 51 => ⟨S4096x64x64, .i32⟩
  | 52 => ⟨S4096x64x64, .i32⟩
  | 53 => ⟨S4096x64x64, .i32⟩
  | 54 => ⟨S_, .i32⟩
  | 55 => ⟨S4096x64x64, .i32⟩
  | 56 => ⟨S4096x64x64, .i32⟩
  | 57 => ⟨S_, .i32⟩
  | 58 => ⟨S4096x64x64, .i32⟩
  | 59 => ⟨S4096x64x64, .i32⟩
  | 60 => ⟨S4096x64x64, .i32⟩
  | 61 => ⟨S4096x64x64, .i32⟩
  | 62 => ⟨S4096x64x64, .i32⟩
  | 63 => ⟨S_, .i32⟩
  | 64 => ⟨S4096x64x64, .i32⟩
  | 65 => ⟨S4096x64x64, .i32⟩
  | 66 => ⟨S_, .i32⟩
  | 67 => ⟨S4096x64x64, .i32⟩
  | 68 => ⟨S4096x64x64, .i32⟩
  | 69 => ⟨S4096x64x64, .i32⟩
  | 70 => ⟨S4096x64x64, .i32⟩
  | 71 => ⟨S4096x64x64, .i32⟩
  | 72 => ⟨S_, .i32⟩
  | 73 => ⟨S4096x64x64, .i32⟩
  | 74 => ⟨S4096x64x64, .i32⟩
  | 75 => ⟨S_, .i32⟩
  | 76 => ⟨S4096x64x64, .i32⟩
  | 77 => ⟨S4096x64x64, .i32⟩
  | 78 => ⟨S4096x64x64, .i32⟩
  | 79 => ⟨S4096x64x64, .i32⟩
  | 80 => ⟨S4096x64x64, .i32⟩
  | 81 => ⟨S_, .i32⟩
  | 82 => ⟨S4096x64x64, .i32⟩
  | 83 => ⟨S4096x64x64, .i32⟩
  | 84 => ⟨S_, .i32⟩
  | 85 => ⟨S4096x64x64, .i32⟩
  | 86 => ⟨S4096x64x64, .i32⟩
  | 87 => ⟨S4096x64x64, .i32⟩
  | 88 => ⟨S4096x64x64, .i32⟩
  | 89 => ⟨S4096x64x64, .i32⟩
  | 90 => ⟨S4096x64x64, .i32⟩
  | 91 => ⟨S4096x64x64, .i32⟩
  | 92 => ⟨S4096x64x64, .i32⟩
  | 93 => ⟨S_, .i32⟩
  | 94 => ⟨S4096x64x64, .i32⟩
  | 95 => ⟨S4096x64x64, .i32⟩
  | 96 => ⟨S4096x64x64, .i32⟩
  | 97 => ⟨S_, .i32⟩
  | 98 => ⟨S4096x64x64, .i32⟩
  | 99 => ⟨S4096x64x64, .i32⟩
  | 100 => ⟨S_, .i32⟩
  | 101 => ⟨S4096x64x64, .i32⟩
  | 102 => ⟨S4096x64x64, .i32⟩
  | 103 => ⟨S4096x64x64, .i32⟩
  | 104 => ⟨S4096x64x64, .i32⟩
  | 105 => ⟨S4096x64x64, .i32⟩
  | 106 => ⟨S_, .i32⟩
  | 107 => ⟨S4096x64x64, .i32⟩
  | 108 => ⟨S4096x64x64, .i32⟩
  | 109 => ⟨S_, .i32⟩
  | 110 => ⟨S4096x64x64, .i32⟩
  | 111 => ⟨S4096x64x64, .i32⟩
  | 112 => ⟨S4096x64x64, .i32⟩
  | 113 => ⟨S4096x64x64, .i32⟩
  | 114 => ⟨S4096x64x64, .i32⟩
  | 115 => ⟨S_, .i32⟩
  | 116 => ⟨S4096x64x64, .i32⟩
  | 117 => ⟨S4096x64x64, .i32⟩
  | 118 => ⟨S_, .i32⟩
  | 119 => ⟨S4096x64x64, .i32⟩
  | 120 => ⟨S4096x64x64, .i32⟩
  | 121 => ⟨S4096x64x64, .i32⟩
  | 122 => ⟨S4096x64x64, .i32⟩
  | 123 => ⟨S4096x64x64, .i32⟩
  | 124 => ⟨S_, .i32⟩
  | 125 => ⟨S4096x64x64, .i32⟩
  | 126 => ⟨S4096x64x64, .i32⟩
  | 127 => ⟨S_, .i32⟩
  | _ => ⟨S262144x128, .f32⟩

abbrev hbmTy0_2 (i : Nat) : BufTy := match i % 128 with
  | 0 => ⟨S4096x64x64, .i32⟩
  | 1 => ⟨S4096x64x64, .i32⟩
  | 2 => ⟨S4096x64x64, .i32⟩
  | 3 => ⟨S4096x64x64, .i32⟩
  | 4 => ⟨S4096x64x64, .i32⟩
  | 5 => ⟨S4096x64x64, .i32⟩
  | 6 => ⟨S4096x64x64, .i32⟩
  | 7 => ⟨S4096x64x64, .i32⟩
  | 8 => ⟨S_, .i32⟩
  | 9 => ⟨S4096x64x64, .i32⟩
  | 10 => ⟨S4096x64x64, .i32⟩
  | 11 => ⟨S4096x64x64, .i32⟩
  | 12 => ⟨S_, .i32⟩
  | 13 => ⟨S4096x64x64, .i32⟩
  | 14 => ⟨S4096x64x64, .i32⟩
  | 15 => ⟨S4096x64x64, .i32⟩
  | 16 => ⟨S4096x64x64, .f32⟩
  | 17 => ⟨S_, .f32⟩
  | 18 => ⟨S4096x64x64, .f32⟩
  | 19 => ⟨S4096x64x64, .f32⟩
  | 20 => ⟨S4096x64x64, .f32⟩
  | 21 => ⟨S4096x64x64, .f32⟩
  | 22 => ⟨S4096x64x64, .f32⟩
  | 23 => ⟨S4096x64x64, .f32⟩
  | 24 => ⟨S4096x1x64, .f32⟩
  | 25 => ⟨S4096x64x64, .f32⟩
  | 26 => ⟨S4096x64x64, .f32⟩
  | 27 => ⟨S4096x64x64, .i32⟩
  | 28 => ⟨S_, .f32⟩
  | 29 => ⟨S_, .i32⟩
  | 30 => ⟨S4096x64, .f32⟩
  | 31 => ⟨S4096x64, .i32⟩
  | 32 => ⟨S64x4096, .i32⟩
  | 33 => ⟨S262144, .i32⟩
  | 34 => ⟨S_, .i32⟩
  | 35 => ⟨S262144, .i32⟩
  | 36 => ⟨S262144, .i1⟩
  | 37 => ⟨S_, .i32⟩
  | 38 => ⟨S262144, .i32⟩
  | 39 => ⟨S262144, .i32⟩
  | 40 => ⟨S262144, .i32⟩
  | 41 => ⟨S262144x1, .i32⟩
  | 42 => ⟨S1, .i32⟩
  | 43 => ⟨S_, .i32⟩
  | 44 => ⟨S262144x1, .i32⟩
  | 45 => ⟨S262144x1, .i1⟩
  | 46 => ⟨S1x1, .i32⟩
  | 47 => ⟨S262144x1, .i32⟩
  | 48 => ⟨S262144x1, .i1⟩
  | 49 => ⟨S262144x1, .i1⟩
  | 50 => ⟨S_, .i1⟩
  | 51 => ⟨S262144, .i1⟩
  | 52 => ⟨S262144x128, .f32⟩
  | 53 => ⟨S262144x128, .i1⟩
  | 54 => ⟨S_, .f32⟩
  | 55 => ⟨S262144x128, .f32⟩
  | 56 => ⟨S262144x128, .f32⟩
  | 57 => ⟨S_, .i32⟩
  | 58 => ⟨S262144, .i32⟩
  | 59 => ⟨S262144, .i1⟩
  | 60 => ⟨S_, .i32⟩
  | 61 => ⟨S262144, .i32⟩
  | 62 => ⟨S262144, .i32⟩
  | 63 => ⟨S262144, .i32⟩
  | 64 => ⟨S262144x1, .i32⟩
  | 65 => ⟨S1, .i32⟩
  | 66 => ⟨S_, .i32⟩
  | 67 => ⟨S262144x1, .i32⟩
  | 68 => ⟨S262144x1, .i1⟩
  | 69 => ⟨S1x1, .i32⟩
  | 70 => ⟨S262144x1, .i32⟩
  | 71 => ⟨S262144x1, .i1⟩
  | 72 => ⟨S262144x1, .i1⟩
  | 73 => ⟨S_, .i1⟩
  | 74 => ⟨S262144, .i1⟩
  | 75 => ⟨S262144x1, .f32⟩
  | 76 => ⟨S262144x1, .i1⟩
  | 77 => ⟨S_, .f32⟩
  | 78 => ⟨S262144x1, .f32⟩
  | 79 => ⟨S262144x1, .f32⟩
  | 80 => ⟨S262144x1, .f32⟩
  | 81 => ⟨S_, .f32⟩
  | 82 => ⟨S262144x1, .f32⟩
  | 83 => ⟨S262144x1, .f32⟩
  | 84 => ⟨S_, .f32⟩
  | 85 => ⟨S262144x1, .f32⟩
  | 86 => ⟨S262144x1, .f32⟩
  | 87 => ⟨S262144x1, .f32⟩
  | 88 => ⟨S262144x1, .f32⟩
  | 89 => ⟨S64x4096, .f32⟩
  | 90 => ⟨S64x4096, .f32⟩
  | 91 => ⟨S_, .f32⟩
  | 92 => ⟨S4096, .f32⟩
  | 93 => ⟨S1x4096, .f32⟩
  | 94 => ⟨S1x4096, .f32⟩
  | 95 => ⟨S64x4096, .f32⟩
  | 96 => ⟨S64x4096, .f32⟩
  | _ => ⟨S262144x128, .f32⟩

abbrev hbmTy (i : Nat) : BufTy := match i / 128 with
  | 0 => hbmTy0_0 i
  | 1 => hbmTy0_1 i
  | 2 => hbmTy0_2 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_c_0 : Ref sig .tc := ⟨.hbm, 53, rfl⟩
abbrev main_call0_v7 : Ref sig .tc := ⟨.hbm, 54, rfl⟩
abbrev main_call0_v8 : Ref sig .tc := ⟨.hbm, 55, rfl⟩
abbrev main_call0_c_1 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_v12 : Ref sig .tc := ⟨.hbm, 60, rfl⟩
abbrev main_call0_v13 : Ref sig .tc := ⟨.hbm, 61, rfl⟩
abbrev main_call0_c_2 : Ref sig .tc := ⟨.hbm, 62, rfl⟩
abbrev main_call0_v14 : Ref sig .tc := ⟨.hbm, 63, rfl⟩
abbrev main_call0_v15 : Ref sig .tc := ⟨.hbm, 64, rfl⟩
abbrev main_call0_c_3 : Ref sig .tc := ⟨.hbm, 65, rfl⟩
abbrev main_call0_v16 : Ref sig .tc := ⟨.hbm, 66, rfl⟩
abbrev main_call0_v17 : Ref sig .tc := ⟨.hbm, 67, rfl⟩
abbrev main_call0_v18 : Ref sig .tc := ⟨.hbm, 68, rfl⟩
abbrev main_call0_v19 : Ref sig .tc := ⟨.hbm, 69, rfl⟩
abbrev main_call0_v20 : Ref sig .tc := ⟨.hbm, 70, rfl⟩
abbrev main_call0_c_4 : Ref sig .tc := ⟨.hbm, 71, rfl⟩
abbrev main_call0_v21 : Ref sig .tc := ⟨.hbm, 72, rfl⟩
abbrev main_call0_v22 : Ref sig .tc := ⟨.hbm, 73, rfl⟩
abbrev main_call0_c_5 : Ref sig .tc := ⟨.hbm, 74, rfl⟩
abbrev main_call0_v23 : Ref sig .tc := ⟨.hbm, 75, rfl⟩
abbrev main_call0_v24 : Ref sig .tc := ⟨.hbm, 76, rfl⟩
abbrev main_call0_v25 : Ref sig .tc := ⟨.hbm, 77, rfl⟩
abbrev main_call0_v26 : Ref sig .tc := ⟨.hbm, 78, rfl⟩
abbrev main_call0_v27 : Ref sig .tc := ⟨.hbm, 79, rfl⟩
abbrev main_call0_c_6 : Ref sig .tc := ⟨.hbm, 80, rfl⟩
abbrev main_call0_v28 : Ref sig .tc := ⟨.hbm, 81, rfl⟩
abbrev main_call0_v29 : Ref sig .tc := ⟨.hbm, 82, rfl⟩
abbrev main_call0_c_7 : Ref sig .tc := ⟨.hbm, 83, rfl⟩
abbrev main_call0_v30 : Ref sig .tc := ⟨.hbm, 84, rfl⟩
abbrev main_call0_v31 : Ref sig .tc := ⟨.hbm, 85, rfl⟩
abbrev main_call0_v32 : Ref sig .tc := ⟨.hbm, 86, rfl⟩
abbrev main_call0_v33 : Ref sig .tc := ⟨.hbm, 87, rfl⟩
abbrev main_call0_v34 : Ref sig .tc := ⟨.hbm, 88, rfl⟩
abbrev main_call0_v35 : Ref sig .tc := ⟨.hbm, 89, rfl⟩
abbrev main_call0_v36 : Ref sig .tc := ⟨.hbm, 90, rfl⟩
abbrev main_call0_v37 : Ref sig .tc := ⟨.hbm, 91, rfl⟩
abbrev main_call0_c_8 : Ref sig .tc := ⟨.hbm, 92, rfl⟩
abbrev main_call0_v38 : Ref sig .tc := ⟨.hbm, 93, rfl⟩
abbrev main_call0_v39 : Ref sig .tc := ⟨.hbm, 94, rfl⟩
abbrev main_call0_v40 : Ref sig .tc := ⟨.hbm, 95, rfl⟩
abbrev main_call0_c_9 : Ref sig .tc := ⟨.hbm, 96, rfl⟩
abbrev main_call0_v41 : Ref sig .tc := ⟨.hbm, 97, rfl⟩
abbrev main_call0_v42 : Ref sig .tc := ⟨.hbm, 98, rfl⟩
abbrev main_call0_c_10 : Ref sig .tc := ⟨.hbm, 99, rfl⟩
abbrev main_call0_v43 : Ref sig .tc := ⟨.hbm, 100, rfl⟩
abbrev main_call0_v44 : Ref sig .tc := ⟨.hbm, 101, rfl⟩
abbrev main_call0_v45 : Ref sig .tc := ⟨.hbm, 102, rfl⟩
abbrev main_call0_v46 : Ref sig .tc := ⟨.hbm, 103, rfl⟩
abbrev main_call0_v47 : Ref sig .tc := ⟨.hbm, 104, rfl⟩
abbrev main_call0_c_11 : Ref sig .tc := ⟨.hbm, 105, rfl⟩
abbrev main_call0_v48 : Ref sig .tc := ⟨.hbm, 106, rfl⟩
abbrev main_call0_v49 : Ref sig .tc := ⟨.hbm, 107, rfl⟩
abbrev main_call0_c_12 : Ref sig .tc := ⟨.hbm, 108, rfl⟩
abbrev main_call0_v50 : Ref sig .tc := ⟨.hbm, 109, rfl⟩
abbrev main_call0_v51 : Ref sig .tc := ⟨.hbm, 110, rfl⟩
abbrev main_call0_v52 : Ref sig .tc := ⟨.hbm, 111, rfl⟩
abbrev main_call0_v53 : Ref sig .tc := ⟨.hbm, 112, rfl⟩
abbrev main_call0_v54 : Ref sig .tc := ⟨.hbm, 113, rfl⟩
abbrev main_call0_c_13 : Ref sig .tc := ⟨.hbm, 114, rfl⟩
abbrev main_call0_v55 : Ref sig .tc := ⟨.hbm, 115, rfl⟩
abbrev main_call0_v56 : Ref sig .tc := ⟨.hbm, 116, rfl⟩
abbrev main_call0_c_14 : Ref sig .tc := ⟨.hbm, 117, rfl⟩
abbrev main_call0_v57 : Ref sig .tc := ⟨.hbm, 118, rfl⟩
abbrev main_call0_v58 : Ref sig .tc := ⟨.hbm, 119, rfl⟩
abbrev main_call0_v59 : Ref sig .tc := ⟨.hbm, 120, rfl⟩
abbrev main_call0_v60 : Ref sig .tc := ⟨.hbm, 121, rfl⟩
abbrev main_call0_v61 : Ref sig .tc := ⟨.hbm, 122, rfl⟩
abbrev main_call0_c_15 : Ref sig .tc := ⟨.hbm, 123, rfl⟩
abbrev main_call0_v62 : Ref sig .tc := ⟨.hbm, 124, rfl⟩
abbrev main_call0_v63 : Ref sig .tc := ⟨.hbm, 125, rfl⟩
abbrev main_call0_c_16 : Ref sig .tc := ⟨.hbm, 126, rfl⟩
abbrev main_call0_v64 : Ref sig .tc := ⟨.hbm, 127, rfl⟩
abbrev main_call0_v65 : Ref sig .tc := ⟨.hbm, 128, rfl⟩
abbrev main_call0_v66 : Ref sig .tc := ⟨.hbm, 129, rfl⟩
abbrev main_call0_v67 : Ref sig .tc := ⟨.hbm, 130, rfl⟩
abbrev main_call0_v68 : Ref sig .tc := ⟨.hbm, 131, rfl⟩
abbrev main_call0_v69 : Ref sig .tc := ⟨.hbm, 132, rfl⟩
abbrev main_call0_v70 : Ref sig .tc := ⟨.hbm, 133, rfl⟩
abbrev main_call0_v71 : Ref sig .tc := ⟨.hbm, 134, rfl⟩
abbrev main_call0_c_17 : Ref sig .tc := ⟨.hbm, 135, rfl⟩
abbrev main_call0_v72 : Ref sig .tc := ⟨.hbm, 136, rfl⟩
abbrev main_call0_v73 : Ref sig .tc := ⟨.hbm, 137, rfl⟩
abbrev main_call0_v74 : Ref sig .tc := ⟨.hbm, 138, rfl⟩
abbrev main_call0_c_18 : Ref sig .tc := ⟨.hbm, 139, rfl⟩
abbrev main_call0_v75 : Ref sig .tc := ⟨.hbm, 140, rfl⟩
abbrev main_call0_v76 : Ref sig .tc := ⟨.hbm, 141, rfl⟩
abbrev main_call0_c_19 : Ref sig .tc := ⟨.hbm, 142, rfl⟩
abbrev main_call0_v77 : Ref sig .tc := ⟨.hbm, 143, rfl⟩
abbrev main_call0_v78 : Ref sig .tc := ⟨.hbm, 144, rfl⟩
abbrev main_call0_v79 : Ref sig .tc := ⟨.hbm, 145, rfl⟩
abbrev main_call0_v80 : Ref sig .tc := ⟨.hbm, 146, rfl⟩
abbrev main_call0_v81 : Ref sig .tc := ⟨.hbm, 147, rfl⟩
abbrev main_call0_c_20 : Ref sig .tc := ⟨.hbm, 148, rfl⟩
abbrev main_call0_v82 : Ref sig .tc := ⟨.hbm, 149, rfl⟩
abbrev main_call0_v83 : Ref sig .tc := ⟨.hbm, 150, rfl⟩
abbrev main_call0_c_21 : Ref sig .tc := ⟨.hbm, 151, rfl⟩
abbrev main_call0_v84 : Ref sig .tc := ⟨.hbm, 152, rfl⟩
abbrev main_call0_v85 : Ref sig .tc := ⟨.hbm, 153, rfl⟩
abbrev main_call0_v86 : Ref sig .tc := ⟨.hbm, 154, rfl⟩
abbrev main_call0_v87 : Ref sig .tc := ⟨.hbm, 155, rfl⟩
abbrev main_call0_v88 : Ref sig .tc := ⟨.hbm, 156, rfl⟩
abbrev main_call0_c_22 : Ref sig .tc := ⟨.hbm, 157, rfl⟩
abbrev main_call0_v89 : Ref sig .tc := ⟨.hbm, 158, rfl⟩
abbrev main_call0_v90 : Ref sig .tc := ⟨.hbm, 159, rfl⟩
abbrev main_call0_c_23 : Ref sig .tc := ⟨.hbm, 160, rfl⟩
abbrev main_call0_v91 : Ref sig .tc := ⟨.hbm, 161, rfl⟩
abbrev main_call0_v92 : Ref sig .tc := ⟨.hbm, 162, rfl⟩
abbrev main_call0_v93 : Ref sig .tc := ⟨.hbm, 163, rfl⟩
abbrev main_call0_v94 : Ref sig .tc := ⟨.hbm, 164, rfl⟩
abbrev main_call0_v95 : Ref sig .tc := ⟨.hbm, 165, rfl⟩
abbrev main_call0_c_24 : Ref sig .tc := ⟨.hbm, 166, rfl⟩
abbrev main_call0_v96 : Ref sig .tc := ⟨.hbm, 167, rfl⟩
abbrev main_call0_v97 : Ref sig .tc := ⟨.hbm, 168, rfl⟩
abbrev main_call0_c_25 : Ref sig .tc := ⟨.hbm, 169, rfl⟩
abbrev main_call0_v98 : Ref sig .tc := ⟨.hbm, 170, rfl⟩
abbrev main_call0_v99 : Ref sig .tc := ⟨.hbm, 171, rfl⟩
abbrev main_call0_v100 : Ref sig .tc := ⟨.hbm, 172, rfl⟩
abbrev main_call0_v101 : Ref sig .tc := ⟨.hbm, 173, rfl⟩
abbrev main_call0_v102 : Ref sig .tc := ⟨.hbm, 174, rfl⟩
abbrev main_call0_v103 : Ref sig .tc := ⟨.hbm, 175, rfl⟩
abbrev main_call0_v104 : Ref sig .tc := ⟨.hbm, 176, rfl⟩
abbrev main_call0_v105 : Ref sig .tc := ⟨.hbm, 177, rfl⟩
abbrev main_call0_c_26 : Ref sig .tc := ⟨.hbm, 178, rfl⟩
abbrev main_call0_v106 : Ref sig .tc := ⟨.hbm, 179, rfl⟩
abbrev main_call0_v107 : Ref sig .tc := ⟨.hbm, 180, rfl⟩
abbrev main_call0_v108 : Ref sig .tc := ⟨.hbm, 181, rfl⟩
abbrev main_call0_c_27 : Ref sig .tc := ⟨.hbm, 182, rfl⟩
abbrev main_call0_v109 : Ref sig .tc := ⟨.hbm, 183, rfl⟩
abbrev main_call0_v110 : Ref sig .tc := ⟨.hbm, 184, rfl⟩
abbrev main_call0_c_28 : Ref sig .tc := ⟨.hbm, 185, rfl⟩
abbrev main_call0_v111 : Ref sig .tc := ⟨.hbm, 186, rfl⟩
abbrev main_call0_v112 : Ref sig .tc := ⟨.hbm, 187, rfl⟩
abbrev main_call0_v113 : Ref sig .tc := ⟨.hbm, 188, rfl⟩
abbrev main_call0_v114 : Ref sig .tc := ⟨.hbm, 189, rfl⟩
abbrev main_call0_v115 : Ref sig .tc := ⟨.hbm, 190, rfl⟩
abbrev main_call0_c_29 : Ref sig .tc := ⟨.hbm, 191, rfl⟩
abbrev main_call0_v116 : Ref sig .tc := ⟨.hbm, 192, rfl⟩
abbrev main_call0_v117 : Ref sig .tc := ⟨.hbm, 193, rfl⟩
abbrev main_call0_c_30 : Ref sig .tc := ⟨.hbm, 194, rfl⟩
abbrev main_call0_v118 : Ref sig .tc := ⟨.hbm, 195, rfl⟩
abbrev main_call0_v119 : Ref sig .tc := ⟨.hbm, 196, rfl⟩
abbrev main_call0_v120 : Ref sig .tc := ⟨.hbm, 197, rfl⟩
abbrev main_call0_v121 : Ref sig .tc := ⟨.hbm, 198, rfl⟩
abbrev main_call0_v122 : Ref sig .tc := ⟨.hbm, 199, rfl⟩
abbrev main_call0_c_31 : Ref sig .tc := ⟨.hbm, 200, rfl⟩
abbrev main_call0_v123 : Ref sig .tc := ⟨.hbm, 201, rfl⟩
abbrev main_call0_v124 : Ref sig .tc := ⟨.hbm, 202, rfl⟩
abbrev main_call0_c_32 : Ref sig .tc := ⟨.hbm, 203, rfl⟩
abbrev main_call0_v125 : Ref sig .tc := ⟨.hbm, 204, rfl⟩
abbrev main_call0_v126 : Ref sig .tc := ⟨.hbm, 205, rfl⟩
abbrev main_call0_v127 : Ref sig .tc := ⟨.hbm, 206, rfl⟩
abbrev main_call0_v128 : Ref sig .tc := ⟨.hbm, 207, rfl⟩
abbrev main_call0_v129 : Ref sig .tc := ⟨.hbm, 208, rfl⟩
abbrev main_call0_c_33 : Ref sig .tc := ⟨.hbm, 209, rfl⟩
abbrev main_call0_v130 : Ref sig .tc := ⟨.hbm, 210, rfl⟩
abbrev main_call0_v131 : Ref sig .tc := ⟨.hbm, 211, rfl⟩
abbrev main_call0_c_34 : Ref sig .tc := ⟨.hbm, 212, rfl⟩
abbrev main_call0_v132 : Ref sig .tc := ⟨.hbm, 213, rfl⟩
abbrev main_call0_v133 : Ref sig .tc := ⟨.hbm, 214, rfl⟩
abbrev main_call0_v134 : Ref sig .tc := ⟨.hbm, 215, rfl⟩
abbrev main_call0_v135 : Ref sig .tc := ⟨.hbm, 216, rfl⟩
abbrev main_call0_v136 : Ref sig .tc := ⟨.hbm, 217, rfl⟩
abbrev main_call0_v137 : Ref sig .tc := ⟨.hbm, 218, rfl⟩
abbrev main_call0_v138 : Ref sig .tc := ⟨.hbm, 219, rfl⟩
abbrev main_call0_v139 : Ref sig .tc := ⟨.hbm, 220, rfl⟩
abbrev main_call0_c_35 : Ref sig .tc := ⟨.hbm, 221, rfl⟩
abbrev main_call0_v140 : Ref sig .tc := ⟨.hbm, 222, rfl⟩
abbrev main_call0_v141 : Ref sig .tc := ⟨.hbm, 223, rfl⟩
abbrev main_call0_v142 : Ref sig .tc := ⟨.hbm, 224, rfl⟩
abbrev main_call0_c_36 : Ref sig .tc := ⟨.hbm, 225, rfl⟩
abbrev main_call0_v143 : Ref sig .tc := ⟨.hbm, 226, rfl⟩
abbrev main_call0_v144 : Ref sig .tc := ⟨.hbm, 227, rfl⟩
abbrev main_call0_c_37 : Ref sig .tc := ⟨.hbm, 228, rfl⟩
abbrev main_call0_v145 : Ref sig .tc := ⟨.hbm, 229, rfl⟩
abbrev main_call0_v146 : Ref sig .tc := ⟨.hbm, 230, rfl⟩
abbrev main_call0_v147 : Ref sig .tc := ⟨.hbm, 231, rfl⟩
abbrev main_call0_v148 : Ref sig .tc := ⟨.hbm, 232, rfl⟩
abbrev main_call0_v149 : Ref sig .tc := ⟨.hbm, 233, rfl⟩
abbrev main_call0_c_38 : Ref sig .tc := ⟨.hbm, 234, rfl⟩
abbrev main_call0_v150 : Ref sig .tc := ⟨.hbm, 235, rfl⟩
abbrev main_call0_v151 : Ref sig .tc := ⟨.hbm, 236, rfl⟩
abbrev main_call0_c_39 : Ref sig .tc := ⟨.hbm, 237, rfl⟩
abbrev main_call0_v152 : Ref sig .tc := ⟨.hbm, 238, rfl⟩
abbrev main_call0_v153 : Ref sig .tc := ⟨.hbm, 239, rfl⟩
abbrev main_call0_v154 : Ref sig .tc := ⟨.hbm, 240, rfl⟩
abbrev main_call0_v155 : Ref sig .tc := ⟨.hbm, 241, rfl⟩
abbrev main_call0_v156 : Ref sig .tc := ⟨.hbm, 242, rfl⟩
abbrev main_call0_c_40 : Ref sig .tc := ⟨.hbm, 243, rfl⟩
abbrev main_call0_v157 : Ref sig .tc := ⟨.hbm, 244, rfl⟩
abbrev main_call0_v158 : Ref sig .tc := ⟨.hbm, 245, rfl⟩
abbrev main_call0_c_41 : Ref sig .tc := ⟨.hbm, 246, rfl⟩
abbrev main_call0_v159 : Ref sig .tc := ⟨.hbm, 247, rfl⟩
abbrev main_call0_v160 : Ref sig .tc := ⟨.hbm, 248, rfl⟩
abbrev main_call0_v161 : Ref sig .tc := ⟨.hbm, 249, rfl⟩
abbrev main_call0_v162 : Ref sig .tc := ⟨.hbm, 250, rfl⟩
abbrev main_call0_v163 : Ref sig .tc := ⟨.hbm, 251, rfl⟩
abbrev main_call0_c_42 : Ref sig .tc := ⟨.hbm, 252, rfl⟩
abbrev main_call0_v164 : Ref sig .tc := ⟨.hbm, 253, rfl⟩
abbrev main_call0_v165 : Ref sig .tc := ⟨.hbm, 254, rfl⟩
abbrev main_call0_c_43 : Ref sig .tc := ⟨.hbm, 255, rfl⟩
abbrev main_call0_v166 : Ref sig .tc := ⟨.hbm, 256, rfl⟩
abbrev main_call0_v167 : Ref sig .tc := ⟨.hbm, 257, rfl⟩
abbrev main_call0_v168 : Ref sig .tc := ⟨.hbm, 258, rfl⟩
abbrev main_call0_v169 : Ref sig .tc := ⟨.hbm, 259, rfl⟩
abbrev main_call0_v170 : Ref sig .tc := ⟨.hbm, 260, rfl⟩
abbrev main_v34_0 : Ref sig .tc := ⟨.hbm, 261, rfl⟩
abbrev main_call0_v172 : Ref sig .tc := ⟨.hbm, 262, rfl⟩
abbrev main_call0_v173 : Ref sig .tc := ⟨.hbm, 263, rfl⟩
abbrev main_call0_c_44 : Ref sig .tc := ⟨.hbm, 264, rfl⟩
abbrev main_call0_v174 : Ref sig .tc := ⟨.hbm, 265, rfl⟩
abbrev main_v34_1 : Ref sig .tc := ⟨.hbm, 266, rfl⟩
abbrev main_v35 : Ref sig .tc := ⟨.hbm, 267, rfl⟩
abbrev main_c_7 : Ref sig .tc := ⟨.hbm, 268, rfl⟩
abbrev main_v36 : Ref sig .tc := ⟨.hbm, 269, rfl⟩
abbrev main_v37 : Ref sig .tc := ⟨.hbm, 270, rfl⟩
abbrev main_v38 : Ref sig .tc := ⟨.hbm, 271, rfl⟩
abbrev main_v39 : Ref sig .tc := ⟨.hbm, 272, rfl⟩
abbrev main_cst_8 : Ref sig .tc := ⟨.hbm, 273, rfl⟩
abbrev main_v40 : Ref sig .tc := ⟨.hbm, 274, rfl⟩
abbrev main_v41 : Ref sig .tc := ⟨.hbm, 275, rfl⟩
abbrev main_v42 : Ref sig .tc := ⟨.hbm, 276, rfl⟩
abbrev main_v43 : Ref sig .tc := ⟨.hbm, 277, rfl⟩
abbrev main_v44 : Ref sig .tc := ⟨.hbm, 278, rfl⟩
abbrev main_v45 : Ref sig .tc := ⟨.hbm, 279, rfl⟩
abbrev main_v46 : Ref sig .tc := ⟨.hbm, 280, rfl⟩
abbrev main_v47 : Ref sig .tc := ⟨.hbm, 281, rfl⟩
abbrev main_v48 : Ref sig .tc := ⟨.hbm, 282, rfl⟩
abbrev main_call1_v0 : Ref sig .tc := ⟨.hbm, 283, rfl⟩
abbrev main_call1_cst : Ref sig .tc := ⟨.hbm, 284, rfl⟩
abbrev main_call1_c : Ref sig .tc := ⟨.hbm, 285, rfl⟩
abbrev main_call1_v1_0 : Ref sig .tc := ⟨.hbm, 286, rfl⟩
abbrev main_v49 : Ref sig .tc := ⟨.hbm, 287, rfl⟩
abbrev main_v50 : Ref sig .tc := ⟨.hbm, 288, rfl⟩
abbrev main_v51 : Ref sig .tc := ⟨.hbm, 289, rfl⟩
abbrev main_call2_c : Ref sig .tc := ⟨.hbm, 290, rfl⟩
abbrev main_call2_v0 : Ref sig .tc := ⟨.hbm, 291, rfl⟩
abbrev main_call2_v1 : Ref sig .tc := ⟨.hbm, 292, rfl⟩
abbrev main_call2_c_0 : Ref sig .tc := ⟨.hbm, 293, rfl⟩
abbrev main_call2_v2 : Ref sig .tc := ⟨.hbm, 294, rfl⟩
abbrev main_call2_v3 : Ref sig .tc := ⟨.hbm, 295, rfl⟩
abbrev main_call2_v4 : Ref sig .tc := ⟨.hbm, 296, rfl⟩
abbrev main_call2_v5 : Ref sig .tc := ⟨.hbm, 297, rfl⟩
abbrev main_call2_c_1 : Ref sig .tc := ⟨.hbm, 298, rfl⟩
abbrev main_call2_c_2 : Ref sig .tc := ⟨.hbm, 299, rfl⟩
abbrev main_call2_v6 : Ref sig .tc := ⟨.hbm, 300, rfl⟩
abbrev main_call2_v7 : Ref sig .tc := ⟨.hbm, 301, rfl⟩
abbrev main_call2_v8 : Ref sig .tc := ⟨.hbm, 302, rfl⟩
abbrev main_call2_v9 : Ref sig .tc := ⟨.hbm, 303, rfl⟩
abbrev main_call2_v10 : Ref sig .tc := ⟨.hbm, 304, rfl⟩
abbrev main_call2_v11 : Ref sig .tc := ⟨.hbm, 305, rfl⟩
abbrev main_call2_c_3 : Ref sig .tc := ⟨.hbm, 306, rfl⟩
abbrev main_call2_v12 : Ref sig .tc := ⟨.hbm, 307, rfl⟩
abbrev main_call2_v13 : Ref sig .tc := ⟨.hbm, 308, rfl⟩
abbrev main_call2_v14 : Ref sig .tc := ⟨.hbm, 309, rfl⟩
abbrev main_call2_cst : Ref sig .tc := ⟨.hbm, 310, rfl⟩
abbrev main_call2_v15 : Ref sig .tc := ⟨.hbm, 311, rfl⟩
abbrev main_v52 : Ref sig .tc := ⟨.hbm, 312, rfl⟩
abbrev main_call3_c : Ref sig .tc := ⟨.hbm, 313, rfl⟩
abbrev main_call3_v0 : Ref sig .tc := ⟨.hbm, 314, rfl⟩
abbrev main_call3_v1 : Ref sig .tc := ⟨.hbm, 315, rfl⟩
abbrev main_call3_c_0 : Ref sig .tc := ⟨.hbm, 316, rfl⟩
abbrev main_call3_v2 : Ref sig .tc := ⟨.hbm, 317, rfl⟩
abbrev main_call3_v3 : Ref sig .tc := ⟨.hbm, 318, rfl⟩
abbrev main_call3_v4 : Ref sig .tc := ⟨.hbm, 319, rfl⟩
abbrev main_call3_v5 : Ref sig .tc := ⟨.hbm, 320, rfl⟩
abbrev main_call3_c_1 : Ref sig .tc := ⟨.hbm, 321, rfl⟩
abbrev main_call3_c_2 : Ref sig .tc := ⟨.hbm, 322, rfl⟩
abbrev main_call3_v6 : Ref sig .tc := ⟨.hbm, 323, rfl⟩
abbrev main_call3_v7 : Ref sig .tc := ⟨.hbm, 324, rfl⟩
abbrev main_call3_v8 : Ref sig .tc := ⟨.hbm, 325, rfl⟩
abbrev main_call3_v9 : Ref sig .tc := ⟨.hbm, 326, rfl⟩
abbrev main_call3_v10 : Ref sig .tc := ⟨.hbm, 327, rfl⟩
abbrev main_call3_v11 : Ref sig .tc := ⟨.hbm, 328, rfl⟩
abbrev main_call3_c_3 : Ref sig .tc := ⟨.hbm, 329, rfl⟩
abbrev main_call3_v12 : Ref sig .tc := ⟨.hbm, 330, rfl⟩
abbrev main_call3_v13 : Ref sig .tc := ⟨.hbm, 331, rfl⟩
abbrev main_call3_v14 : Ref sig .tc := ⟨.hbm, 332, rfl⟩
abbrev main_call3_cst : Ref sig .tc := ⟨.hbm, 333, rfl⟩
abbrev main_call3_v15 : Ref sig .tc := ⟨.hbm, 334, rfl⟩
abbrev main_v53 : Ref sig .tc := ⟨.hbm, 335, rfl⟩
abbrev main_v54 : Ref sig .tc := ⟨.hbm, 336, rfl⟩
abbrev main_cst_9 : Ref sig .tc := ⟨.hbm, 337, rfl⟩
abbrev main_v55 : Ref sig .tc := ⟨.hbm, 338, rfl⟩
abbrev main_v56 : Ref sig .tc := ⟨.hbm, 339, rfl⟩
abbrev main_cst_10 : Ref sig .tc := ⟨.hbm, 340, rfl⟩
abbrev main_v57 : Ref sig .tc := ⟨.hbm, 341, rfl⟩
abbrev main_v58 : Ref sig .tc := ⟨.hbm, 342, rfl⟩
abbrev main_v59 : Ref sig .tc := ⟨.hbm, 343, rfl⟩
abbrev main_v60 : Ref sig .tc := ⟨.hbm, 344, rfl⟩
abbrev main_v61 : Ref sig .tc := ⟨.hbm, 345, rfl⟩
abbrev main_v62 : Ref sig .tc := ⟨.hbm, 346, rfl⟩
abbrev main_cst_11 : Ref sig .tc := ⟨.hbm, 347, rfl⟩
abbrev main_v63 : Ref sig .tc := ⟨.hbm, 348, rfl⟩
abbrev main_v64 : Ref sig .tc := ⟨.hbm, 349, rfl⟩
abbrev main_v65 : Ref sig .tc := ⟨.hbm, 350, rfl⟩
abbrev main_v66 : Ref sig .tc := ⟨.hbm, 351, rfl⟩
abbrev main_v67 : Ref sig .tc := ⟨.hbm, 352, rfl⟩

abbrev nD : Nat := 1
abbrev τ : Topo := Topo.v7x

variable {F : FTy → Type} [FloatOps F]
-- ==== ClampedIdeal.lean ====
abbrev S262144x128 : Shape := ⟨2, ![262144, 128]⟩
abbrev S262144x1 : Shape := ⟨2, ![262144, 1]⟩
abbrev S_ : Shape := ⟨0, ![]⟩
abbrev S64x4096 : Shape := ⟨2, ![64, 4096]⟩
abbrev S4096x64 : Shape := ⟨2, ![4096, 64]⟩
abbrev S1 : Shape := ⟨1, ![1]⟩
abbrev S2 : Shape := ⟨1, ![2]⟩
abbrev S4096x64x64 : Shape := ⟨3, ![4096, 64, 64]⟩
abbrev S4096x1x64 : Shape := ⟨3, ![4096, 1, 64]⟩
abbrev S262144 : Shape := ⟨1, ![262144]⟩
abbrev S1x1 : Shape := ⟨2, ![1, 1]⟩
abbrev S4096 : Shape := ⟨1, ![4096]⟩
abbrev S1x4096 : Shape := ⟨2, ![1, 4096]⟩

abbrev nBuf : Space → Nat
  | .hbm => 356
  | .vmem => 0
  | .smem => 0
  | _ => 0

abbrev hbmTy0_0 (i : Nat) : BufTy := match i % 128 with
  | 0 => ⟨S262144x128, .f32⟩
  | 1 => ⟨S262144x1, .f32⟩
  | 2 => ⟨S262144x1, .f32⟩
  | 3 => ⟨S_, .f32⟩
  | 4 => ⟨S262144x1, .f32⟩
  | 5 => ⟨S262144x1, .f32⟩
  | 6 => ⟨S_, .f32⟩
  | 7 => ⟨S262144x1, .f32⟩
  | 8 => ⟨S262144x1, .f32⟩
  | 9 => ⟨S64x4096, .f32⟩
  | 10 => ⟨S4096x64, .f32⟩
  | 11 => ⟨S4096x64, .f32⟩
  | 12 => ⟨S_, .i32⟩
  | 13 => ⟨S_, .i32⟩
  | 14 => ⟨S_, .i32⟩
  | 15 => ⟨S_, .i32⟩
  | 16 => ⟨S1, .i32⟩
  | 17 => ⟨S_, .i32⟩
  | 18 => ⟨S_, .i32⟩
  | 19 => ⟨S_, .i32⟩
  | 20 => ⟨S1, .i32⟩
  | 21 => ⟨S2, .i32⟩
  | 22 => ⟨S1, .i32⟩
  | 23 => ⟨S_, .i32⟩
  | 24 => ⟨S1, .i32⟩
  | 25 => ⟨S_, .i32⟩
  | 26 => ⟨S4096x64x64, .i64⟩
  | 27 => ⟨S4096x64x64, .i64⟩
  | 28 => ⟨S4096x64x64, .i64⟩
  | 29 => ⟨S_, .i64⟩
  | 30 => ⟨S4096x64x64, .i64⟩
  | 31 => ⟨S4096x64x64, .i64⟩
  | 32 => ⟨S_, .i64⟩
  | 33 => ⟨S4096x64x64, .i64⟩
  | 34 => ⟨S4096x64x64, .i64⟩
  | 35 => ⟨S_, .i64⟩
  | 36 => ⟨S4096x64x64, .i64⟩
  | 37 => ⟨S4096x64x64, .i64⟩
  | 38 => ⟨S4096x64x64, .i64⟩
  | 39 => ⟨S4096x64x64, .i64⟩
  | 40 => ⟨S_, .i64⟩
  | 41 => ⟨S4096x64x64, .i64⟩
  | 42 => ⟨S4096x64x64, .i64⟩
  | 43 => ⟨S4096x64x64, .i32⟩
  | 44 => ⟨S4096x64x64, .i32⟩
  | 45 => ⟨S_, .i32⟩
  | 46 => ⟨S_, .i32⟩
  | 47 => ⟨S_, .i32⟩
  | 48 => ⟨S4096x64x64, .i32⟩
  | 49 => ⟨S4096x64x64, .i32⟩
  | 50 => ⟨S4096x64x64, .i32⟩
  | 51 => ⟨S4096x64x64, .i32⟩
  | 52 => ⟨S4096x64x64, .i32⟩
  | 53 => ⟨S_, .i32⟩
  | 54 => ⟨S4096x64x64, .i32⟩
  | 55 => ⟨S4096x64x64, .i32⟩
  | 56 => ⟨S_, .i32⟩
  | 57 => ⟨S4096x64x64, .i32⟩
  | 58 => ⟨S4096x64x64, .i32⟩
  | 59 => ⟨S4096x64x64, .i32⟩
  | 60 => ⟨S4096x64x64, .i32⟩
  | 61 => ⟨S4096x64x64, .i32⟩
  | 62 => ⟨S_, .i32⟩
  | 63 => ⟨S4096x64x64, .i32⟩
  | 64 => ⟨S4096x64x64, .i32⟩
  | 65 => ⟨S_, .i32⟩
  | 66 => ⟨S4096x64x64, .i32⟩
  | 67 => ⟨S4096x64x64, .i32⟩
  | 68 => ⟨S4096x64x64, .i32⟩
  | 69 => ⟨S4096x64x64, .i32⟩
  | 70 => ⟨S4096x64x64, .i32⟩
  | 71 => ⟨S_, .i32⟩
  | 72 => ⟨S4096x64x64, .i32⟩
  | 73 => ⟨S4096x64x64, .i32⟩
  | 74 => ⟨S_, .i32⟩
  | 75 => ⟨S4096x64x64, .i32⟩
  | 76 => ⟨S4096x64x64, .i32⟩
  | 77 => ⟨S4096x64x64, .i32⟩
  | 78 => ⟨S4096x64x64, .i32⟩
  | 79 => ⟨S4096x64x64, .i32⟩
  | 80 => ⟨S_, .i32⟩
  | 81 => ⟨S4096x64x64, .i32⟩
  | 82 => ⟨S4096x64x64, .i32⟩
  | 83 => ⟨S_, .i32⟩
  | 84 => ⟨S4096x64x64, .i32⟩
  | 85 => ⟨S4096x64x64, .i32⟩
  | 86 => ⟨S4096x64x64, .i32⟩
  | 87 => ⟨S4096x64x64, .i32⟩
  | 88 => ⟨S4096x64x64, .i32⟩
  | 89 => ⟨S4096x64x64, .i32⟩
  | 90 => ⟨S4096x64x64, .i32⟩
  | 91 => ⟨S4096x64x64, .i32⟩
  | 92 => ⟨S_, .i32⟩
  | 93 => ⟨S4096x64x64, .i32⟩
  | 94 => ⟨S4096x64x64, .i32⟩
  | 95 => ⟨S4096x64x64, .i32⟩
  | 96 => ⟨S_, .i32⟩
  | 97 => ⟨S4096x64x64, .i32⟩
  | 98 => ⟨S4096x64x64, .i32⟩
  | 99 => ⟨S_, .i32⟩
  | 100 => ⟨S4096x64x64, .i32⟩
  | 101 => ⟨S4096x64x64, .i32⟩
  | 102 => ⟨S4096x64x64, .i32⟩
  | 103 => ⟨S4096x64x64, .i32⟩
  | 104 => ⟨S4096x64x64, .i32⟩
  | 105 => ⟨S_, .i32⟩
  | 106 => ⟨S4096x64x64, .i32⟩
  | 107 => ⟨S4096x64x64, .i32⟩
  | 108 => ⟨S_, .i32⟩
  | 109 => ⟨S4096x64x64, .i32⟩
  | 110 => ⟨S4096x64x64, .i32⟩
  | 111 => ⟨S4096x64x64, .i32⟩
  | 112 => ⟨S4096x64x64, .i32⟩
  | 113 => ⟨S4096x64x64, .i32⟩
  | 114 => ⟨S_, .i32⟩
  | 115 => ⟨S4096x64x64, .i32⟩
  | 116 => ⟨S4096x64x64, .i32⟩
  | 117 => ⟨S_, .i32⟩
  | 118 => ⟨S4096x64x64, .i32⟩
  | 119 => ⟨S4096x64x64, .i32⟩
  | 120 => ⟨S4096x64x64, .i32⟩
  | 121 => ⟨S4096x64x64, .i32⟩
  | 122 => ⟨S4096x64x64, .i32⟩
  | 123 => ⟨S_, .i32⟩
  | 124 => ⟨S4096x64x64, .i32⟩
  | 125 => ⟨S4096x64x64, .i32⟩
  | 126 => ⟨S_, .i32⟩
  | 127 => ⟨S4096x64x64, .i32⟩
  | _ => ⟨S262144x128, .f32⟩

abbrev hbmTy0_1 (i : Nat) : BufTy := match i % 128 with
  | 0 => ⟨S4096x64x64, .i32⟩
  | 1 => ⟨S4096x64x64, .i32⟩
  | 2 => ⟨S4096x64x64, .i32⟩
  | 3 => ⟨S4096x64x64, .i32⟩
  | 4 => ⟨S4096x64x64, .i32⟩
  | 5 => ⟨S4096x64x64, .i32⟩
  | 6 => ⟨S4096x64x64, .i32⟩
  | 7 => ⟨S_, .i32⟩
  | 8 => ⟨S4096x64x64, .i32⟩
  | 9 => ⟨S4096x64x64, .i32⟩
  | 10 => ⟨S4096x64x64, .i32⟩
  | 11 => ⟨S_, .i32⟩
  | 12 => ⟨S4096x64x64, .i32⟩
  | 13 => ⟨S4096x64x64, .i32⟩
  | 14 => ⟨S_, .i32⟩
  | 15 => ⟨S4096x64x64, .i32⟩
  | 16 => ⟨S4096x64x64, .i32⟩
  | 17 => ⟨S4096x64x64, .i32⟩
  | 18 => ⟨S4096x64x64, .i32⟩
  | 19 => ⟨S4096x64x64, .i32⟩
  | 20 => ⟨S_, .i32⟩
  | 21 => ⟨S4096x64x64, .i32⟩
  | 22 => ⟨S4096x64x64, .i32⟩
  | 23 => ⟨S_, .i32⟩
  | 24 => ⟨S4096x64x64, .i32⟩
  | 25 => ⟨S4096x64x64, .i32⟩
  | 26 => ⟨S4096x64x64, .i32⟩
  | 27 => ⟨S4096x64x64, .i32⟩
  | 28 => ⟨S4096x64x64, .i32⟩
  | 29 => ⟨S_, .i32⟩
  | 30 => ⟨S4096x64x64, .i32⟩
  | 31 => ⟨S4096x64x64, .i32⟩
  | 32 => ⟨S_, .i32⟩
  | 33 => ⟨S4096x64x64, .i32⟩
  | 34 => ⟨S4096x64x64, .i32⟩
  | 35 => ⟨S4096x64x64, .i32⟩
  | 36 => ⟨S4096x64x64, .i32⟩
  | 37 => ⟨S4096x64x64, .i32⟩
  | 38 => ⟨S_, .i32⟩
  | 39 => ⟨S4096x64x64, .i32⟩
  | 40 => ⟨S4096x64x64, .i32⟩
  | 41 => ⟨S_, .i32⟩
  | 42 => ⟨S4096x64x64, .i32⟩
  | 43 => ⟨S4096x64x64, .i32⟩
  | 44 => ⟨S4096x64x64, .i32⟩
  | 45 => ⟨S4096x64x64, .i32⟩
  | 46 => ⟨S4096x64x64, .i32⟩
  | 47 => ⟨S4096x64x64, .i32⟩
  | 48 => ⟨S4096x64x64, .i32⟩
  | 49 => ⟨S4096x64x64, .i32⟩
  | 50 => ⟨S_, .i32⟩
  | 51 => ⟨S4096x64x64, .i32⟩
  | 52 => ⟨S4096x64x64, .i32⟩
  | 53 => ⟨S4096x64x64, .i32⟩
  | 54 => ⟨S_, .i32⟩
  | 55 => ⟨S4096x64x64, .i32⟩
  | 56 => ⟨S4096x64x64, .i32⟩
  | 57 => ⟨S_, .i32⟩
  | 58 => ⟨S4096x64x64, .i32⟩
  | 59 => ⟨S4096x64x64, .i32⟩
  | 60 => ⟨S4096x64x64, .i32⟩
  | 61 => ⟨S4096x64x64, .i32⟩
  | 62 => ⟨S4096x64x64, .i32⟩
  | 63 => ⟨S_, .i32⟩
  | 64 => ⟨S4096x64x64, .i32⟩
  | 65 => ⟨S4096x64x64, .i32⟩
  | 66 => ⟨S_, .i32⟩
  | 67 => ⟨S4096x64x64, .i32⟩
  | 68 => ⟨S4096x64x64, .i32⟩
  | 69 => ⟨S4096x64x64, .i32⟩
  | 70 => ⟨S4096x64x64, .i32⟩
  | 71 => ⟨S4096x64x64, .i32⟩
  | 72 => ⟨S_, .i32⟩
  | 73 => ⟨S4096x64x64, .i32⟩
  | 74 => ⟨S4096x64x64, .i32⟩
  | 75 => ⟨S_, .i32⟩
  | 76 => ⟨S4096x64x64, .i32⟩
  | 77 => ⟨S4096x64x64, .i32⟩
  | 78 => ⟨S4096x64x64, .i32⟩
  | 79 => ⟨S4096x64x64, .i32⟩
  | 80 => ⟨S4096x64x64, .i32⟩
  | 81 => ⟨S_, .i32⟩
  | 82 => ⟨S4096x64x64, .i32⟩
  | 83 => ⟨S4096x64x64, .i32⟩
  | 84 => ⟨S_, .i32⟩
  | 85 => ⟨S4096x64x64, .i32⟩
  | 86 => ⟨S4096x64x64, .i32⟩
  | 87 => ⟨S4096x64x64, .i32⟩
  | 88 => ⟨S4096x64x64, .i32⟩
  | 89 => ⟨S4096x64x64, .i32⟩
  | 90 => ⟨S4096x64x64, .i32⟩
  | 91 => ⟨S4096x64x64, .i32⟩
  | 92 => ⟨S4096x64x64, .i32⟩
  | 93 => ⟨S_, .i32⟩
  | 94 => ⟨S4096x64x64, .i32⟩
  | 95 => ⟨S4096x64x64, .i32⟩
  | 96 => ⟨S4096x64x64, .i32⟩
  | 97 => ⟨S_, .i32⟩
  | 98 => ⟨S4096x64x64, .i32⟩
  | 99 => ⟨S4096x64x64, .i32⟩
  | 100 => ⟨S_, .i32⟩
  | 101 => ⟨S4096x64x64, .i32⟩
  | 102 => ⟨S4096x64x64, .i32⟩
  | 103 => ⟨S4096x64x64, .i32⟩
  | 104 => ⟨S4096x64x64, .i32⟩
  | 105 => ⟨S4096x64x64, .i32⟩
  | 106 => ⟨S_, .i32⟩
  | 107 => ⟨S4096x64x64, .i32⟩
  | 108 => ⟨S4096x64x64, .i32⟩
  | 109 => ⟨S_, .i32⟩
  | 110 => ⟨S4096x64x64, .i32⟩
  | 111 => ⟨S4096x64x64, .i32⟩
  | 112 => ⟨S4096x64x64, .i32⟩
  | 113 => ⟨S4096x64x64, .i32⟩
  | 114 => ⟨S4096x64x64, .i32⟩
  | 115 => ⟨S_, .i32⟩
  | 116 => ⟨S4096x64x64, .i32⟩
  | 117 => ⟨S4096x64x64, .i32⟩
  | 118 => ⟨S_, .i32⟩
  | 119 => ⟨S4096x64x64, .i32⟩
  | 120 => ⟨S4096x64x64, .i32⟩
  | 121 => ⟨S4096x64x64, .i32⟩
  | 122 => ⟨S4096x64x64, .i32⟩
  | 123 => ⟨S4096x64x64, .i32⟩
  | 124 => ⟨S_, .i32⟩
  | 125 => ⟨S4096x64x64, .i32⟩
  | 126 => ⟨S4096x64x64, .i32⟩
  | 127 => ⟨S_, .i32⟩
  | _ => ⟨S262144x128, .f32⟩

abbrev hbmTy0_2 (i : Nat) : BufTy := match i % 128 with
  | 0 => ⟨S4096x64x64, .i32⟩
  | 1 => ⟨S4096x64x64, .i32⟩
  | 2 => ⟨S4096x64x64, .i32⟩
  | 3 => ⟨S4096x64x64, .i32⟩
  | 4 => ⟨S4096x64x64, .i32⟩
  | 5 => ⟨S4096x64x64, .i32⟩
  | 6 => ⟨S4096x64x64, .i32⟩
  | 7 => ⟨S4096x64x64, .i32⟩
  | 8 => ⟨S_, .i32⟩
  | 9 => ⟨S4096x64x64, .i32⟩
  | 10 => ⟨S4096x64x64, .i32⟩
  | 11 => ⟨S4096x64x64, .i32⟩
  | 12 => ⟨S_, .i32⟩
  | 13 => ⟨S4096x64x64, .i32⟩
  | 14 => ⟨S4096x64x64, .i32⟩
  | 15 => ⟨S4096x64x64, .i32⟩
  | 16 => ⟨S4096x64x64, .f32⟩
  | 17 => ⟨S_, .f32⟩
  | 18 => ⟨S4096x64x64, .f32⟩
  | 19 => ⟨S4096x64x64, .f32⟩
  | 20 => ⟨S_, .f32⟩
  | 21 => ⟨S4096x64x64, .f32⟩
  | 22 => ⟨S4096x64x64, .f32⟩
  | 23 => ⟨S4096x64x64, .f32⟩
  | 24 => ⟨S4096x64x64, .f32⟩
  | 25 => ⟨S4096x64x64, .f32⟩
  | 26 => ⟨S4096x64x64, .f32⟩
  | 27 => ⟨S4096x1x64, .f32⟩
  | 28 => ⟨S4096x64x64, .f32⟩
  | 29 => ⟨S4096x64x64, .f32⟩
  | 30 => ⟨S4096x64x64, .i32⟩
  | 31 => ⟨S_, .f32⟩
  | 32 => ⟨S_, .i32⟩
  | 33 => ⟨S4096x64, .f32⟩
  | 34 => ⟨S4096x64, .i32⟩
  | 35 => ⟨S64x4096, .i32⟩
  | 36 => ⟨S262144, .i32⟩
  | 37 => ⟨S_, .i32⟩
  | 38 => ⟨S262144, .i32⟩
  | 39 => ⟨S262144, .i1⟩
  | 40 => ⟨S_, .i32⟩
  | 41 => ⟨S262144, .i32⟩
  | 42 => ⟨S262144, .i32⟩
  | 43 => ⟨S262144, .i32⟩
  | 44 => ⟨S262144x1, .i32⟩
  | 45 => ⟨S1, .i32⟩
  | 46 => ⟨S_, .i32⟩
  | 47 => ⟨S262144x1, .i32⟩
  | 48 => ⟨S262144x1, .i1⟩
  | 49 => ⟨S1x1, .i32⟩
  | 50 => ⟨S262144x1, .i32⟩
  | 51 => ⟨S262144x1, .i1⟩
  | 52 => ⟨S262144x1, .i1⟩
  | 53 => ⟨S_, .i1⟩
  | 54 => ⟨S262144, .i1⟩
  | 55 => ⟨S262144x128, .f32⟩
  | 56 => ⟨S262144x128, .i1⟩
  | 57 => ⟨S_, .f32⟩
  | 58 => ⟨S262144x128, .f32⟩
  | 59 => ⟨S262144x128, .f32⟩
  | 60 => ⟨S_, .i32⟩
  | 61 => ⟨S262144, .i32⟩
  | 62 => ⟨S262144, .i1⟩
  | 63 => ⟨S_, .i32⟩
  | 64 => ⟨S262144, .i32⟩
  | 65 => ⟨S262144, .i32⟩
  | 66 => ⟨S262144, .i32⟩
  | 67 => ⟨S262144x1, .i32⟩
  | 68 => ⟨S1, .i32⟩
  | 69 => ⟨S_, .i32⟩
  | 70 => ⟨S262144x1, .i32⟩
  | 71 => ⟨S262144x1, .i1⟩
  | 72 => ⟨S1x1, .i32⟩
  | 73 => ⟨S262144x1, .i32⟩
  | 74 => ⟨S262144x1, .i1⟩
  | 75 => ⟨S262144x1, .i1⟩
  | 76 => ⟨S_, .i1⟩
  | 77 => ⟨S262144, .i1⟩
  | 78 => ⟨S262144x1, .f32⟩
  | 79 => ⟨S262144x1, .i1⟩
  | 80 => ⟨S_, .f32⟩
  | 81 => ⟨S262144x1, .f32⟩
  | 82 => ⟨S262144x1, .f32⟩
  | 83 => ⟨S262144x1, .f32⟩
  | 84 => ⟨S_, .f32⟩
  | 85 => ⟨S262144x1, .f32⟩
  | 86 => ⟨S262144x1, .f32⟩
  | 87 => ⟨S_, .f32⟩
  | 88 => ⟨S262144x1, .f32⟩
  | 89 => ⟨S262144x1, .f32⟩
  | 90 => ⟨S262144x1, .f32⟩
  | 91 => ⟨S262144x1, .f32⟩
  | 92 => ⟨S64x4096, .f32⟩
  | 93 => ⟨S64x4096, .f32⟩
  | 94 => ⟨S_, .f32⟩
  | 95 => ⟨S4096, .f32⟩
  | 96 => ⟨S1x4096, .f32⟩
  | 97 => ⟨S1x4096, .f32⟩
  | 98 => ⟨S64x4096, .f32⟩
  | 99 => ⟨S64x4096, .f32⟩
  | _ => ⟨S262144x128, .f32⟩

abbrev hbmTy (i : Nat) : BufTy := match i / 128 with
  | 0 => hbmTy0_0 i
  | 1 => hbmTy0_1 i
  | 2 => hbmTy0_2 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_c_0 : Ref sig .tc := ⟨.hbm, 53, rfl⟩
abbrev main_call0_v7 : Ref sig .tc := ⟨.hbm, 54, rfl⟩
abbrev main_call0_v8 : Ref sig .tc := ⟨.hbm, 55, rfl⟩
abbrev main_call0_c_1 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_v12 : Ref sig .tc := ⟨.hbm, 60, rfl⟩
abbrev main_call0_v13 : Ref sig .tc := ⟨.hbm, 61, rfl⟩
abbrev main_call0_c_2 : Ref sig .tc := ⟨.hbm, 62, rfl⟩
abbrev main_call0_v14 : Ref sig .tc := ⟨.hbm, 63, rfl⟩
abbrev main_call0_v15 : Ref sig .tc := ⟨.hbm, 64, rfl⟩
abbrev main_call0_c_3 : Ref sig .tc := ⟨.hbm, 65, rfl⟩
abbrev main_call0_v16 : Ref sig .tc := ⟨.hbm, 66, rfl⟩
abbrev main_call0_v17 : Ref sig .tc := ⟨.hbm, 67, rfl⟩
abbrev main_call0_v18 : Ref sig .tc := ⟨.hbm, 68, rfl⟩
abbrev main_call0_v19 : Ref sig .tc := ⟨.hbm, 69, rfl⟩
abbrev main_call0_v20 : Ref sig .tc := ⟨.hbm, 70, rfl⟩
abbrev main_call0_c_4 : Ref sig .tc := ⟨.hbm, 71, rfl⟩
abbrev main_call0_v21 : Ref sig .tc := ⟨.hbm, 72, rfl⟩
abbrev main_call0_v22 : Ref sig .tc := ⟨.hbm, 73, rfl⟩
abbrev main_call0_c_5 : Ref sig .tc := ⟨.hbm, 74, rfl⟩
abbrev main_call0_v23 : Ref sig .tc := ⟨.hbm, 75, rfl⟩
abbrev main_call0_v24 : Ref sig .tc := ⟨.hbm, 76, rfl⟩
abbrev main_call0_v25 : Ref sig .tc := ⟨.hbm, 77, rfl⟩
abbrev main_call0_v26 : Ref sig .tc := ⟨.hbm, 78, rfl⟩
abbrev main_call0_v27 : Ref sig .tc := ⟨.hbm, 79, rfl⟩
abbrev main_call0_c_6 : Ref sig .tc := ⟨.hbm, 80, rfl⟩
abbrev main_call0_v28 : Ref sig .tc := ⟨.hbm, 81, rfl⟩
abbrev main_call0_v29 : Ref sig .tc := ⟨.hbm, 82, rfl⟩
abbrev main_call0_c_7 : Ref sig .tc := ⟨.hbm, 83, rfl⟩
abbrev main_call0_v30 : Ref sig .tc := ⟨.hbm, 84, rfl⟩
abbrev main_call0_v31 : Ref sig .tc := ⟨.hbm, 85, rfl⟩
abbrev main_call0_v32 : Ref sig .tc := ⟨.hbm, 86, rfl⟩
abbrev main_call0_v33 : Ref sig .tc := ⟨.hbm, 87, rfl⟩
abbrev main_call0_v34 : Ref sig .tc := ⟨.hbm, 88, rfl⟩
abbrev main_call0_v35 : Ref sig .tc := ⟨.hbm, 89, rfl⟩
abbrev main_call0_v36 : Ref sig .tc := ⟨.hbm, 90, rfl⟩
abbrev main_call0_v37 : Ref sig .tc := ⟨.hbm, 91, rfl⟩
abbrev main_call0_c_8 : Ref sig .tc := ⟨.hbm, 92, rfl⟩
abbrev main_call0_v38 : Ref sig .tc := ⟨.hbm, 93, rfl⟩
abbrev main_call0_v39 : Ref sig .tc := ⟨.hbm, 94, rfl⟩
abbrev main_call0_v40 : Ref sig .tc := ⟨.hbm, 95, rfl⟩
abbrev main_call0_c_9 : Ref sig .tc := ⟨.hbm, 96, rfl⟩
abbrev main_call0_v41 : Ref sig .tc := ⟨.hbm, 97, rfl⟩
abbrev main_call0_v42 : Ref sig .tc := ⟨.hbm, 98, rfl⟩
abbrev main_call0_c_10 : Ref sig .tc := ⟨.hbm, 99, rfl⟩
abbrev main_call0_v43 : Ref sig .tc := ⟨.hbm, 100, rfl⟩
abbrev main_call0_v44 : Ref sig .tc := ⟨.hbm, 101, rfl⟩
abbrev main_call0_v45 : Ref sig .tc := ⟨.hbm, 102, rfl⟩
abbrev main_call0_v46 : Ref sig .tc := ⟨.hbm, 103, rfl⟩
abbrev main_call0_v47 : Ref sig .tc := ⟨.hbm, 104, rfl⟩
abbrev main_call0_c_11 : Ref sig .tc := ⟨.hbm, 105, rfl⟩
abbrev main_call0_v48 : Ref sig .tc := ⟨.hbm, 106, rfl⟩
abbrev main_call0_v49 : Ref sig .tc := ⟨.hbm, 107, rfl⟩
abbrev main_call0_c_12 : Ref sig .tc := ⟨.hbm, 108, rfl⟩
abbrev main_call0_v50 : Ref sig .tc := ⟨.hbm, 109, rfl⟩
abbrev main_call0_v51 : Ref sig .tc := ⟨.hbm, 110, rfl⟩
abbrev main_call0_v52 : Ref sig .tc := ⟨.hbm, 111, rfl⟩
abbrev main_call0_v53 : Ref sig .tc := ⟨.hbm, 112, rfl⟩
abbrev main_call0_v54 : Ref sig .tc := ⟨.hbm, 113, rfl⟩
abbrev main_call0_c_13 : Ref sig .tc := ⟨.hbm, 114, rfl⟩
abbrev main_call0_v55 : Ref sig .tc := ⟨.hbm, 115, rfl⟩
abbrev main_call0_v56 : Ref sig .tc := ⟨.hbm, 116, rfl⟩
abbrev main_call0_c_14 : Ref sig .tc := ⟨.hbm, 117, rfl⟩
abbrev main_call0_v57 : Ref sig .tc := ⟨.hbm, 118, rfl⟩
abbrev main_call0_v58 : Ref sig .tc := ⟨.hbm, 119, rfl⟩
abbrev main_call0_v59 : Ref sig .tc := ⟨.hbm, 120, rfl⟩
abbrev main_call0_v60 : Ref sig .tc := ⟨.hbm, 121, rfl⟩
abbrev main_call0_v61 : Ref sig .tc := ⟨.hbm, 122, rfl⟩
abbrev main_call0_c_15 : Ref sig .tc := ⟨.hbm, 123, rfl⟩
abbrev main_call0_v62 : Ref sig .tc := ⟨.hbm, 124, rfl⟩
abbrev main_call0_v63 : Ref sig .tc := ⟨.hbm, 125, rfl⟩
abbrev main_call0_c_16 : Ref sig .tc := ⟨.hbm, 126, rfl⟩
abbrev main_call0_v64 : Ref sig .tc := ⟨.hbm, 127, rfl⟩
abbrev main_call0_v65 : Ref sig .tc := ⟨.hbm, 128, rfl⟩
abbrev main_call0_v66 : Ref sig .tc := ⟨.hbm, 129, rfl⟩
abbrev main_call0_v67 : Ref sig .tc := ⟨.hbm, 130, rfl⟩
abbrev main_call0_v68 : Ref sig .tc := ⟨.hbm, 131, rfl⟩
abbrev main_call0_v69 : Ref sig .tc := ⟨.hbm, 132, rfl⟩
abbrev main_call0_v70 : Ref sig .tc := ⟨.hbm, 133, rfl⟩
abbrev main_call0_v71 : Ref sig .tc := ⟨.hbm, 134, rfl⟩
abbrev main_call0_c_17 : Ref sig .tc := ⟨.hbm, 135, rfl⟩
abbrev main_call0_v72 : Ref sig .tc := ⟨.hbm, 136, rfl⟩
abbrev main_call0_v73 : Ref sig .tc := ⟨.hbm, 137, rfl⟩
abbrev main_call0_v74 : Ref sig .tc := ⟨.hbm, 138, rfl⟩
abbrev main_call0_c_18 : Ref sig .tc := ⟨.hbm, 139, rfl⟩
abbrev main_call0_v75 : Ref sig .tc := ⟨.hbm, 140, rfl⟩
abbrev main_call0_v76 : Ref sig .tc := ⟨.hbm, 141, rfl⟩
abbrev main_call0_c_19 : Ref sig .tc := ⟨.hbm, 142, rfl⟩
abbrev main_call0_v77 : Ref sig .tc := ⟨.hbm, 143, rfl⟩
abbrev main_call0_v78 : Ref sig .tc := ⟨.hbm, 144, rfl⟩
abbrev main_call0_v79 : Ref sig .tc := ⟨.hbm, 145, rfl⟩
abbrev main_call0_v80 : Ref sig .tc := ⟨.hbm, 146, rfl⟩
abbrev main_call0_v81 : Ref sig .tc := ⟨.hbm, 147, rfl⟩
abbrev main_call0_c_20 : Ref sig .tc := ⟨.hbm, 148, rfl⟩
abbrev main_call0_v82 : Ref sig .tc := ⟨.hbm, 149, rfl⟩
abbrev main_call0_v83 : Ref sig .tc := ⟨.hbm, 150, rfl⟩
abbrev main_call0_c_21 : Ref sig .tc := ⟨.hbm, 151, rfl⟩
abbrev main_call0_v84 : Ref sig .tc := ⟨.hbm, 152, rfl⟩
abbrev main_call0_v85 : Ref sig .tc := ⟨.hbm, 153, rfl⟩
abbrev main_call0_v86 : Ref sig .tc := ⟨.hbm, 154, rfl⟩
abbrev main_call0_v87 : Ref sig .tc := ⟨.hbm, 155, rfl⟩
abbrev main_call0_v88 : Ref sig .tc := ⟨.hbm, 156, rfl⟩
abbrev main_call0_c_22 : Ref sig .tc := ⟨.hbm, 157, rfl⟩
abbrev main_call0_v89 : Ref sig .tc := ⟨.hbm, 158, rfl⟩
abbrev main_call0_v90 : Ref sig .tc := ⟨.hbm, 159, rfl⟩
abbrev main_call0_c_23 : Ref sig .tc := ⟨.hbm, 160, rfl⟩
abbrev main_call0_v91 : Ref sig .tc := ⟨.hbm, 161, rfl⟩
abbrev main_call0_v92 : Ref sig .tc := ⟨.hbm, 162, rfl⟩
abbrev main_call0_v93 : Ref sig .tc := ⟨.hbm, 163, rfl⟩
abbrev main_call0_v94 : Ref sig .tc := ⟨.hbm, 164, rfl⟩
abbrev main_call0_v95 : Ref sig .tc := ⟨.hbm, 165, rfl⟩
abbrev main_call0_c_24 : Ref sig .tc := ⟨.hbm, 166, rfl⟩
abbrev main_call0_v96 : Ref sig .tc := ⟨.hbm, 167, rfl⟩
abbrev main_call0_v97 : Ref sig .tc := ⟨.hbm, 168, rfl⟩
abbrev main_call0_c_25 : Ref sig .tc := ⟨.hbm, 169, rfl⟩
abbrev main_call0_v98 : Ref sig .tc := ⟨.hbm, 170, rfl⟩
abbrev main_call0_v99 : Ref sig .tc := ⟨.hbm, 171, rfl⟩
abbrev main_call0_v100 : Ref sig .tc := ⟨.hbm, 172, rfl⟩
abbrev main_call0_v101 : Ref sig .tc := ⟨.hbm, 173, rfl⟩
abbrev main_call0_v102 : Ref sig .tc := ⟨.hbm, 174, rfl⟩
abbrev main_call0_v103 : Ref sig .tc := ⟨.hbm, 175, rfl⟩
abbrev main_call0_v104 : Ref sig .tc := ⟨.hbm, 176, rfl⟩
abbrev main_call0_v105 : Ref sig .tc := ⟨.hbm, 177, rfl⟩
abbrev main_call0_c_26 : Ref sig .tc := ⟨.hbm, 178, rfl⟩
abbrev main_call0_v106 : Ref sig .tc := ⟨.hbm, 179, rfl⟩
abbrev main_call0_v107 : Ref sig .tc := ⟨.hbm, 180, rfl⟩
abbrev main_call0_v108 : Ref sig .tc := ⟨.hbm, 181, rfl⟩
abbrev main_call0_c_27 : Ref sig .tc := ⟨.hbm, 182, rfl⟩
abbrev main_call0_v109 : Ref sig .tc := ⟨.hbm, 183, rfl⟩
abbrev main_call0_v110 : Ref sig .tc := ⟨.hbm, 184, rfl⟩
abbrev main_call0_c_28 : Ref sig .tc := ⟨.hbm, 185, rfl⟩
abbrev main_call0_v111 : Ref sig .tc := ⟨.hbm, 186, rfl⟩
abbrev main_call0_v112 : Ref sig .tc := ⟨.hbm, 187, rfl⟩
abbrev main_call0_v113 : Ref sig .tc := ⟨.hbm, 188, rfl⟩
abbrev main_call0_v114 : Ref sig .tc := ⟨.hbm, 189, rfl⟩
abbrev main_call0_v115 : Ref sig .tc := ⟨.hbm, 190, rfl⟩
abbrev main_call0_c_29 : Ref sig .tc := ⟨.hbm, 191, rfl⟩
abbrev main_call0_v116 : Ref sig .tc := ⟨.hbm, 192, rfl⟩
abbrev main_call0_v117 : Ref sig .tc := ⟨.hbm, 193, rfl⟩
abbrev main_call0_c_30 : Ref sig .tc := ⟨.hbm, 194, rfl⟩
abbrev main_call0_v118 : Ref sig .tc := ⟨.hbm, 195, rfl⟩
abbrev main_call0_v119 : Ref sig .tc := ⟨.hbm, 196, rfl⟩
abbrev main_call0_v120 : Ref sig .tc := ⟨.hbm, 197, rfl⟩
abbrev main_call0_v121 : Ref sig .tc := ⟨.hbm, 198, rfl⟩
abbrev main_call0_v122 : Ref sig .tc := ⟨.hbm, 199, rfl⟩
abbrev main_call0_c_31 : Ref sig .tc := ⟨.hbm, 200, rfl⟩
abbrev main_call0_v123 : Ref sig .tc := ⟨.hbm, 201, rfl⟩
abbrev main_call0_v124 : Ref sig .tc := ⟨.hbm, 202, rfl⟩
abbrev main_call0_c_32 : Ref sig .tc := ⟨.hbm, 203, rfl⟩
abbrev main_call0_v125 : Ref sig .tc := ⟨.hbm, 204, rfl⟩
abbrev main_call0_v126 : Ref sig .tc := ⟨.hbm, 205, rfl⟩
abbrev main_call0_v127 : Ref sig .tc := ⟨.hbm, 206, rfl⟩
abbrev main_call0_v128 : Ref sig .tc := ⟨.hbm, 207, rfl⟩
abbrev main_call0_v129 : Ref sig .tc := ⟨.hbm, 208, rfl⟩
abbrev main_call0_c_33 : Ref sig .tc := ⟨.hbm, 209, rfl⟩
abbrev main_call0_v130 : Ref sig .tc := ⟨.hbm, 210, rfl⟩
abbrev main_call0_v131 : Ref sig .tc := ⟨.hbm, 211, rfl⟩
abbrev main_call0_c_34 : Ref sig .tc := ⟨.hbm, 212, rfl⟩
abbrev main_call0_v132 : Ref sig .tc := ⟨.hbm, 213, rfl⟩
abbrev main_call0_v133 : Ref sig .tc := ⟨.hbm, 214, rfl⟩
abbrev main_call0_v134 : Ref sig .tc := ⟨.hbm, 215, rfl⟩
abbrev main_call0_v135 : Ref sig .tc := ⟨.hbm, 216, rfl⟩
abbrev main_call0_v136 : Ref sig .tc := ⟨.hbm, 217, rfl⟩
abbrev main_call0_v137 : Ref sig .tc := ⟨.hbm, 218, rfl⟩
abbrev main_call0_v138 : Ref sig .tc := ⟨.hbm, 219, rfl⟩
abbrev main_call0_v139 : Ref sig .tc := ⟨.hbm, 220, rfl⟩
abbrev main_call0_c_35 : Ref sig .tc := ⟨.hbm, 221, rfl⟩
abbrev main_call0_v140 : Ref sig .tc := ⟨.hbm, 222, rfl⟩
abbrev main_call0_v141 : Ref sig .tc := ⟨.hbm, 223, rfl⟩
abbrev main_call0_v142 : Ref sig .tc := ⟨.hbm, 224, rfl⟩
abbrev main_call0_c_36 : Ref sig .tc := ⟨.hbm, 225, rfl⟩
abbrev main_call0_v143 : Ref sig .tc := ⟨.hbm, 226, rfl⟩
abbrev main_call0_v144 : Ref sig .tc := ⟨.hbm, 227, rfl⟩
abbrev main_call0_c_37 : Ref sig .tc := ⟨.hbm, 228, rfl⟩
abbrev main_call0_v145 : Ref sig .tc := ⟨.hbm, 229, rfl⟩
abbrev main_call0_v146 : Ref sig .tc := ⟨.hbm, 230, rfl⟩
abbrev main_call0_v147 : Ref sig .tc := ⟨.hbm, 231, rfl⟩
abbrev main_call0_v148 : Ref sig .tc := ⟨.hbm, 232, rfl⟩
abbrev main_call0_v149 : Ref sig .tc := ⟨.hbm, 233, rfl⟩
abbrev main_call0_c_38 : Ref sig .tc := ⟨.hbm, 234, rfl⟩
abbrev main_call0_v150 : Ref sig .tc := ⟨.hbm, 235, rfl⟩
abbrev main_call0_v151 : Ref sig .tc := ⟨.hbm, 236, rfl⟩
abbrev main_call0_c_39 : Ref sig .tc := ⟨.hbm, 237, rfl⟩
abbrev main_call0_v152 : Ref sig .tc := ⟨.hbm, 238, rfl⟩
abbrev main_call0_v153 : Ref sig .tc := ⟨.hbm, 239, rfl⟩
abbrev main_call0_v154 : Ref sig .tc := ⟨.hbm, 240, rfl⟩
abbrev main_call0_v155 : Ref sig .tc := ⟨.hbm, 241, rfl⟩
abbrev main_call0_v156 : Ref sig .tc := ⟨.hbm, 242, rfl⟩
abbrev main_call0_c_40 : Ref sig .tc := ⟨.hbm, 243, rfl⟩
abbrev main_call0_v157 : Ref sig .tc := ⟨.hbm, 244, rfl⟩
abbrev main_call0_v158 : Ref sig .tc := ⟨.hbm, 245, rfl⟩
abbrev main_call0_c_41 : Ref sig .tc := ⟨.hbm, 246, rfl⟩
abbrev main_call0_v159 : Ref sig .tc := ⟨.hbm, 247, rfl⟩
abbrev main_call0_v160 : Ref sig .tc := ⟨.hbm, 248, rfl⟩
abbrev main_call0_v161 : Ref sig .tc := ⟨.hbm, 249, rfl⟩
abbrev main_call0_v162 : Ref sig .tc := ⟨.hbm, 250, rfl⟩
abbrev main_call0_v163 : Ref sig .tc := ⟨.hbm, 251, rfl⟩
abbrev main_call0_c_42 : Ref sig .tc := ⟨.hbm, 252, rfl⟩
abbrev main_call0_v164 : Ref sig .tc := ⟨.hbm, 253, rfl⟩
abbrev main_call0_v165 : Ref sig .tc := ⟨.hbm, 254, rfl⟩
abbrev main_call0_c_43 : Ref sig .tc := ⟨.hbm, 255, rfl⟩
abbrev main_call0_v166 : Ref sig .tc := ⟨.hbm, 256, rfl⟩
abbrev main_call0_v167 : Ref sig .tc := ⟨.hbm, 257, rfl⟩
abbrev main_call0_v168 : Ref sig .tc := ⟨.hbm, 258, rfl⟩
abbrev main_call0_v169 : Ref sig .tc := ⟨.hbm, 259, rfl⟩
abbrev main_call0_v170 : Ref sig .tc := ⟨.hbm, 260, rfl⟩
abbrev main_v34_0 : Ref sig .tc := ⟨.hbm, 261, rfl⟩
abbrev main_call0_v172 : Ref sig .tc := ⟨.hbm, 262, rfl⟩
abbrev main_call0_v173 : Ref sig .tc := ⟨.hbm, 263, rfl⟩
abbrev main_call0_c_44 : Ref sig .tc := ⟨.hbm, 264, rfl⟩
abbrev main_call0_v174 : Ref sig .tc := ⟨.hbm, 265, rfl⟩
abbrev main_v34_1 : Ref sig .tc := ⟨.hbm, 266, rfl⟩
abbrev main_v35 : Ref sig .tc := ⟨.hbm, 267, rfl⟩
abbrev main_c_7 : Ref sig .tc := ⟨.hbm, 268, rfl⟩
abbrev main_v36 : Ref sig .tc := ⟨.hbm, 269, rfl⟩
abbrev main_v37 : Ref sig .tc := ⟨.hbm, 270, rfl⟩
abbrev main_v38 : Ref sig .tc := ⟨.hbm, 271, rfl⟩
abbrev main_v39 : Ref sig .tc := ⟨.hbm, 272, rfl⟩
abbrev main_cst_8 : Ref sig .tc := ⟨.hbm, 273, rfl⟩
abbrev main_v40 : Ref sig .tc := ⟨.hbm, 274, rfl⟩
abbrev main_v41 : Ref sig .tc := ⟨.hbm, 275, rfl⟩
abbrev main_cst_9 : Ref sig .tc := ⟨.hbm, 276, rfl⟩
abbrev main_v42 : Ref sig .tc := ⟨.hbm, 277, rfl⟩
abbrev main_v43 : Ref sig .tc := ⟨.hbm, 278, rfl⟩
abbrev main_v44 : Ref sig .tc := ⟨.hbm, 279, rfl⟩
abbrev main_v45 : Ref sig .tc := ⟨.hbm, 280, rfl⟩
abbrev main_v46 : Ref sig .tc := ⟨.hbm, 281, rfl⟩
abbrev main_v47 : Ref sig .tc := ⟨.hbm, 282, rfl⟩
abbrev main_v48 : Ref sig .tc := ⟨.hbm, 283, rfl⟩
abbrev main_v49 : Ref sig .tc := ⟨.hbm, 284, rfl⟩
abbrev main_v50 : Ref sig .tc := ⟨.hbm, 285, rfl⟩
abbrev main_call1_v0 : Ref sig .tc := ⟨.hbm, 286, rfl⟩
abbrev main_call1_cst : Ref sig .tc := ⟨.hbm, 287, rfl⟩
abbrev main_call1_c : Ref sig .tc := ⟨.hbm, 288, rfl⟩
abbrev main_call1_v1_0 : Ref sig .tc := ⟨.hbm, 289, rfl⟩
abbrev main_v51 : Ref sig .tc := ⟨.hbm, 290, rfl⟩
abbrev main_v52 : Ref sig .tc := ⟨.hbm, 291, rfl⟩
abbrev main_v53 : Ref sig .tc := ⟨.hbm, 292, rfl⟩
abbrev main_call2_c : Ref sig .tc := ⟨.hbm, 293, rfl⟩
abbrev main_call2_v0 : Ref sig .tc := ⟨.hbm, 294, rfl⟩
abbrev main_call2_v1 : Ref sig .tc := ⟨.hbm, 295, rfl⟩
abbrev main_call2_c_0 : Ref sig .tc := ⟨.hbm, 296, rfl⟩
abbrev main_call2_v2 : Ref sig .tc := ⟨.hbm, 297, rfl⟩
abbrev main_call2_v3 : Ref sig .tc := ⟨.hbm, 298, rfl⟩
abbrev main_call2_v4 : Ref sig .tc := ⟨.hbm, 299, rfl⟩
abbrev main_call2_v5 : Ref sig .tc := ⟨.hbm, 300, rfl⟩
abbrev main_call2_c_1 : Ref sig .tc := ⟨.hbm, 301, rfl⟩
abbrev main_call2_c_2 : Ref sig .tc := ⟨.hbm, 302, rfl⟩
abbrev main_call2_v6 : Ref sig .tc := ⟨.hbm, 303, rfl⟩
abbrev main_call2_v7 : Ref sig .tc := ⟨.hbm, 304, rfl⟩
abbrev main_call2_v8 : Ref sig .tc := ⟨.hbm, 305, rfl⟩
abbrev main_call2_v9 : Ref sig .tc := ⟨.hbm, 306, rfl⟩
abbrev main_call2_v10 : Ref sig .tc := ⟨.hbm, 307, rfl⟩
abbrev main_call2_v11 : Ref sig .tc := ⟨.hbm, 308, rfl⟩
abbrev main_call2_c_3 : Ref sig .tc := ⟨.hbm, 309, rfl⟩
abbrev main_call2_v12 : Ref sig .tc := ⟨.hbm, 310, rfl⟩
abbrev main_call2_v13 : Ref sig .tc := ⟨.hbm, 311, rfl⟩
abbrev main_call2_v14 : Ref sig .tc := ⟨.hbm, 312, rfl⟩
abbrev main_call2_cst : Ref sig .tc := ⟨.hbm, 313, rfl⟩
abbrev main_call2_v15 : Ref sig .tc := ⟨.hbm, 314, rfl⟩
abbrev main_v54 : Ref sig .tc := ⟨.hbm, 315, rfl⟩
abbrev main_call3_c : Ref sig .tc := ⟨.hbm, 316, rfl⟩
abbrev main_call3_v0 : Ref sig .tc := ⟨.hbm, 317, rfl⟩
abbrev main_call3_v1 : Ref sig .tc := ⟨.hbm, 318, rfl⟩
abbrev main_call3_c_0 : Ref sig .tc := ⟨.hbm, 319, rfl⟩
abbrev main_call3_v2 : Ref sig .tc := ⟨.hbm, 320, rfl⟩
abbrev main_call3_v3 : Ref sig .tc := ⟨.hbm, 321, rfl⟩
abbrev main_call3_v4 : Ref sig .tc := ⟨.hbm, 322, rfl⟩
abbrev main_call3_v5 : Ref sig .tc := ⟨.hbm, 323, rfl⟩
abbrev main_call3_c_1 : Ref sig .tc := ⟨.hbm, 324, rfl⟩
abbrev main_call3_c_2 : Ref sig .tc := ⟨.hbm, 325, rfl⟩
abbrev main_call3_v6 : Ref sig .tc := ⟨.hbm, 326, rfl⟩
abbrev main_call3_v7 : Ref sig .tc := ⟨.hbm, 327, rfl⟩
abbrev main_call3_v8 : Ref sig .tc := ⟨.hbm, 328, rfl⟩
abbrev main_call3_v9 : Ref sig .tc := ⟨.hbm, 329, rfl⟩
abbrev main_call3_v10 : Ref sig .tc := ⟨.hbm, 330, rfl⟩
abbrev main_call3_v11 : Ref sig .tc := ⟨.hbm, 331, rfl⟩
abbrev main_call3_c_3 : Ref sig .tc := ⟨.hbm, 332, rfl⟩
abbrev main_call3_v12 : Ref sig .tc := ⟨.hbm, 333, rfl⟩
abbrev main_call3_v13 : Ref sig .tc := ⟨.hbm, 334, rfl⟩
abbrev main_call3_v14 : Ref sig .tc := ⟨.hbm, 335, rfl⟩
abbrev main_call3_cst : Ref sig .tc := ⟨.hbm, 336, rfl⟩
abbrev main_call3_v15 : Ref sig .tc := ⟨.hbm, 337, rfl⟩
abbrev main_v55 : Ref sig .tc := ⟨.hbm, 338, rfl⟩
abbrev main_v56 : Ref sig .tc := ⟨.hbm, 339, rfl⟩
abbrev main_cst_10 : Ref sig .tc := ⟨.hbm, 340, rfl⟩
abbrev main_v57 : Ref sig .tc := ⟨.hbm, 341, rfl⟩
abbrev main_v58 : Ref sig .tc := ⟨.hbm, 342, rfl⟩
abbrev main_cst_11 : Ref sig .tc := ⟨.hbm, 343, rfl⟩
abbrev main_v59 : Ref sig .tc := ⟨.hbm, 344, rfl⟩
abbrev main_v60 : Ref sig .tc := ⟨.hbm, 345, rfl⟩
abbrev main_v61 : Ref sig .tc := ⟨.hbm, 346, rfl⟩
abbrev main_v62 : Ref sig .tc := ⟨.hbm, 347, rfl⟩
abbrev main_v63 : Ref sig .tc := ⟨.hbm, 348, rfl⟩
abbrev main_v64 : Ref sig .tc := ⟨.hbm, 349, rfl⟩
abbrev main_cst_12 : Ref sig .tc := ⟨.hbm, 350, rfl⟩
abbrev main_v65 : Ref sig .tc := ⟨.hbm, 351, rfl⟩
abbrev main_v66 : Ref sig .tc := ⟨.hbm, 352, rfl⟩
abbrev main_v67 : Ref sig .tc := ⟨.hbm, 353, rfl⟩
abbrev main_v68 : Ref sig .tc := ⟨.hbm, 354, rfl⟩
abbrev main_v69 : Ref sig .tc := ⟨.hbm, 355, rfl⟩

abbrev nD : Nat := 1
abbrev τ : Topo := Topo.v7x

variable {F : FTy → Type} [FloatOps F]
-- ==== Proof.ClOps.lean ====
/- The clamped reference as one line of host operations, in nine stretches, and its run: every buffer ends at what the
   line leaves there. -/
module

public import proofs.«01_k».proof.Defs
public import proofs.«01_k».proof.Proof.Gen.ClampedIdeal
public import Idealize.ShloMosaic.Lib.StableHlo.Run
public import Idealize.ShloMosaic.Lib.StableHlo.RunRead
public import Idealize.ShloMosaic.Lib.StableHlo.RunHlo
public import Idealize.ShloMosaic.Lib.Pipeline.Regions

@[expose] public section

set_option maxRecDepth 16384

noncomputable section

namespace Cert.ClampedIdeal.Line

open Idealize.ShloMosaic Idealize.SL.Sem Cert.ClampedIdeal Cert.ClampedIdeal.Facts₀ Cert.ClampedIdeal.Facts

variable {F : FTy → Type} [FloatOps F] [Facts]

/-- A tensor of shape `s` and element type `e`. -/
abbrev C (F : FTy → Type) (s : Shape) (e : EltTy) : Type := (⟨s, e⟩ : BufTy).Contents (Elt F)

/-- The key, the flat counters (b·P + s)·P + p split into words, the key schedule's third word, and the log-weights. -/
noncomputable def s0 : List (HloOp τ sig (Elt F)) := [
  StableHlo.unary main_arg1 main_v0 (Host.exp : C F S262144x1 .f32 → C F S262144x1 .f32),
  StableHlo.nullary main_cst (constant S_ .f32 0x3F000000#32),
  StableHlo.unary main_cst main_v1 (broadcastInDim S262144x1 ![] bcast_S_S262144x1 : C F S_ .f32 → C F S262144x1 .f32),
  StableHlo.binary main_v1 main_v0 main_v2 (mulf : C F S262144x1 .f32 → C F S262144x1 .f32 → C F S262144x1 .f32),
  StableHlo.nullary main_cst_0 (constant S_ .f32 0x3C000000#32),
  StableHlo.unary main_cst_0 main_v3 (broadcastInDim S262144x1 ![] bcast_S_S262144x1 : C F S_ .f32 → C F S262144x1 .f32),
  StableHlo.binary main_v2 main_v3 main_v4 (addf : C F S262144x1 .f32 → C F S262144x1 .f32 → C F S262144x1 .f32),
  StableHlo.reshape main_v4 main_v5 (rfl : (.f32 : EltTy) = .f32) shapeCasts_S262144x1_S64x4096,
  StableHlo.unary main_v5 main_v6 ((transpose S4096x64 [1, 0] · transposes_S64x4096_S4096x64_1_0) : C F S64x4096 .f32 → C F S4096x64 .f32),
  StableHlo.unary main_v6 main_v7 (Host.log : C F S4096x64 .f32 → C F S4096x64 .f32),
  StableHlo.nullary main_c (constantI S_ 32 1234#32),
  StableHlo.nullary main_c_1 (constantI S_ 32 32#32),
  StableHlo.binary main_c main_c_1 main_v8 (Host.shrui : C F S_ .i32 → C F S_ .i32 → C F S_ .i32),
  StableHlo.unary main_v8 main_v9 (id : C F S_ .i32 → C F S_ .i32),
  StableHlo.unary main_v9 main_v10 (broadcastInDim S1 ![] bcast_S_S1 : C F S_ .i32 → C F S1 .i32),
  StableHlo.nullary main_c_2 (constantI S_ 32 4294967295#32),
  StableHlo.binary main_c main_c_2 main_v11 (andi : C F S_ .i32 → C F S_ .i32 → C F S_ .i32),
  StableHlo.unary main_v11 main_v12 (id : C F S_ .i32 → C F S_ .i32),
  StableHlo.unary main_v12 main_v13 (broadcastInDim S1 ![] bcast_S_S1 : C F S_ .i32 → C F S1 .i32),
  StableHlo.binary main_v10 main_v13 main_v14 ((fun a b => concatenate S2 0 [⟨S1, a⟩, ⟨S1, b⟩] concatenates_S1_S1_S2_d0) : C F S1 .i32 → C F S1 .i32 → C F S2 .i32),
  StableHlo.unary main_v14 main_v15 ((extractStridedSlice S1 ![0] · slices_S2_S1_0) : C F S2 .i32 → C F S1 .i32),
  StableHlo.reshape main_v15 main_v16 (rfl : (.i32 : EltTy) = .i32) shapeCasts_S1_S_,
  StableHlo.unary main_v14 main_v17 ((extractStridedSlice S1 ![1] · slices_S2_S1_1) : C F S2 .i32 → C F S1 .i32),
  StableHlo.reshape main_v17 main_v18 (rfl : (.i32 : EltTy) = .i32) shapeCasts_S1_S_,
  StableHlo.nullary main_v19 (iotaInDim S4096x64x64 64 0),
  StableHlo.nullary main_v20 (iotaInDim S4096x64x64 64 1),
  StableHlo.nullary main_v21 (iotaInDim S4096x64x64 64 2),
  StableHlo.nullary main_c_3 (constantI S_ 64 4096#64),
  StableHlo.unary main_c_3 main_v22 (broadcastInDim S4096x64x64 ![] bcast_S_S4096x64x64 : C F S_ .i64 → C F S4096x64x64 .i64),
  StableHlo.binary main_v22 main_v19 main_v23 (muli : C F S4096x64x64 .i64 → C F S4096x64x64 .i64 → C F S4096x64x64 .i64),
  StableHlo.nullary main_c_4 (constantI S_ 64 64#64),
  StableHlo.unary main_c_4 main_v24 (broadcastInDim S4096x64x64 ![] bcast_S_S4096x64x64 : C F S_ .i64 → C F S4096x64x64 .i64),
  StableHlo.binary main_v24 main_v20 main_v25 (muli : C F S4096x64x64 .i64 → C F S4096x64x64 .i64 → C F S4096x64x64 .i64),
  StableHlo.nullary main_c_5 (constantI S_ 64 1#64),
  StableHlo.unary main_c_5 main_v26 (broadcastInDim S4096x64x64 ![] bcast_S_S4096x64x64 : C F S_ .i64 → C F S4096x64x64 .i64),
  StableHlo.binary main_v26 main_v21 main_v27 (muli : C F S4096x64x64 .i64 → C F S4096x64x64 .i64 → C F S4096x64x64 .i64),
  StableHlo.binary main_v23 main_v25 main_v28 (addi : C F S4096x64x64 .i64 → C F S4096x64x64 .i64 → C F S4096x64x64 .i64),
  StableHlo.binary main_v28 main_v27 main_v29 (addi : C F S4096x64x64 .i64 → C F S4096x64x64 .i64 → C F S4096x64x64 .i64),
  StableHlo.nullary main_c_6 (constantI S_ 64 32#64),
  StableHlo.unary main_c_6 main_v30 (broadcastInDim S4096x64x64 ![] bcast_S_S4096x64x64 : C F S_ .i64 → C F S4096x64x64 .i64),
  StableHlo.binary main_v29 main_v30 main_v31 (Host.shrui : C F S4096x64x64 .i64 → C F S4096x64x64 .i64 → C F S4096x64x64 .i64),
  StableHlo.unary main_v29 main_v32 ((trunci 32 · natLt_32_64) : C F S4096x64x64 .i64 → C F S4096x64x64 .i32),
  StableHlo.unary main_v31 main_v33 ((trunci 32 · natLt_32_64) : C F S4096x64x64 .i64 → C F S4096x64x64 .i32),
  StableHlo.binary main_v16 main_v18 main_call0_v0 (xori : C F S_ .i32 → C F S_ .i32 → C F S_ .i32),
  StableHlo.nullary main_call0_c ((constantI S_ 32 466688986#32) : C F S_ .i32),
  StableHlo.binary main_call0_v0 main_call0_c main_call0_v1 (xori : C F S_ .i32 → C F S_ .i32 → C F S_ .i32),
  StableHlo.unary main_v16 main_call0_v2 ((broadcastInDim S4096x64x64 ![] bcast_S_S4096x64x64) : C F S_ .i32 → C F S4096x64x64 .i32),
  StableHlo.binary main_v33 main_call0_v2 main_call0_v3 (addi : C F S4096x64x64 .i32 → C F S4096x64x64 .i32 → C F S4096x64x64 .i32),
  StableHlo.unary main_v18 main_call0_v4 ((broadcastInDim S4096x64x64 ![] bcast_S_S4096x64x64) : C F S_ .i32 → C F S4096x64x64 .i32),
  StableHlo.binary main_v32 main_call0_v4 main_call0_v5 (addi : C F S4096x64x64 .i32 → C F S4096x64x64 .i32 → C F S4096x64x64 .i32)]

/-- What stretch 0 writes, in order. -/
noncomputable def w0 : List (Ref sig .tc) := [
  main_v0, main_cst, main_v1, main_v2, main_cst_0, main_v3, main_v4, main_v5, main_v6, main_v7, main_c, main_c_1,
  main_v8, main_v9, main_v10, main_c_2, main_v11, main_v12, main_v13, main_v14, main_v15, main_v16, main_v17, main_v18,
  main_v19, main_v20, main_v21, main_c_3, main_v22, main_v23, main_c_4, main_v24, main_v25, main_c_5, main_v26,
  main_v27, main_v28, main_v29, main_c_6, main_v30, main_v31, main_v32, main_v33, main_call0_v0, main_call0_c,
  main_call0_v1, main_call0_v2, main_call0_v3, main_call0_v4, main_call0_v5]
/-- Threefry rounds 1–4 and the first key injection. -/
noncomputable def s1 : List (HloOp τ sig (Elt F)) := [
  StableHlo.binary main_call0_v3 main_call0_v5 main_call0_v6 (addi : C F S4096x64x64 .i32 → C F S4096x64x64 .i32 → C F S4096x64x64 .i32),
  StableHlo.nullary main_call0_c_0 ((constantI S_ 32 13#32) : C F S_ .i32),
  StableHlo.unary main_call0_c_0 main_call0_v7 ((broadcastInDim S4096x64x64 ![] bcast_S_S4096x64x64) : C F S_ .i32 → C F S4096x64x64 .i32),
  StableHlo.binary main_call0_v5 main_call0_v7 main_call0_v8 (Host.shli : C F S4096x64x64 .i32 → C F S4096x64x64 .i32 → C F S4096x64x64 .i32),
  StableHlo.nullary main_call0_c_1 ((constantI S_ 32 19#32) : C F S_ .i32),
  StableHlo.unary main_call0_c_1 main_call0_v9 ((broadcastInDim S4096x64x64 ![] bcast_S_S4096x64x64) : C F S_ .i32 → C F S4096x64x64 .i32),
  StableHlo.binary main_call0_v5 main_call0_v9 main_call0_v10 (Host.shrui : C F S4096x64x64 .i32 → C F S4096x64x64 .i32 → C F S4096x64x64 .i32),
  StableHlo.binary main_call0_v8 main_call0_v10 main_call0_v11 (ori : C F S4096x64x64 .i32 → C F S4096x64x64 .i32 → C F S4096x64x64 .i32),
  StableHlo.binary main_call0_v6 main_call0_v11 main_call0_v12 (xori : C F S4096x64x64 .i32 → C F S4096x64x64 .i32 → C F S4096x64x64 .i32),
  StableHlo.binary main_call0_v6 main_call0_v12 main_call0_v13 (addi : C F S4096x64x64 .i32 → C F S4096x64x64 .i32 → C F S4096x64x64 .i32),
  StableHlo.nullary main_call0_c_2 ((constantI S_ 32 15#32) : C F S_ .i32),
  StableHlo.unary main_call0_c_2 main_call0_v14 ((broadcastInDim S4096x64x64 ![] bcast_S_S4096x64x64) : C F S_ .i32 → C F S4096x64x64 .i32),
  StableHlo.binary main_call0_v12 main_call0_v14 main_call0_v15 (Host.shli : C F S4096x64x64 .i32 → C F S4096x64x64 .i32 → C F S4096x64x64 .i32),
  StableHlo.nullary main_call0_c_3 ((constantI S_ 32 17#32) : C F S_ .i32),
  StableHlo.unary main_call0_c_3 main_call0_v16 ((broadcastInDim S4096x64x64 ![] bcast_S_S4096x64x64) : C F S_ .i32 → C F S4096x64x64 .i32),
  StableHlo.binary main_call0_v12 main_call0_v16 main_call0_v17 (Host.shrui : C F S4096x64x64 .i32 → C F S4096x64x64 .i32 → C F S4096x64x64 .i32),
  StableHlo.binary main_call0_v15 main_call0_v17 main_call0_v18 (ori : C F S4096x64x64 .i32 → C F S4096x64x64 .i32 → C F S4096x64x64 .i32),
  StableHlo.binary main_call0_v13 main_call0_v18 main_call0_v19 (xori : C F S4096x64x64 .i32 → C F S4096x64x64 .i32 → C F S4096x64x64 .i32),
  StableHlo.binary main_call0_v13 main_call0_v19 main_call0_v20 (addi : C F S4096x64x64 .i32 → C F S4096x64x64 .i32 → C F S4096x64x64 .i32),
  StableHlo.nullary main_call0_c_4 ((constantI S_ 32 26#32) : C F S_ .i32),
  StableHlo.unary main_call0_c_4 main_call0_v21 ((broadcastInDim S4096x64x64 ![] bcast_S_S4096x64x64) : C F S_ .i32 → C F S4096x64x64 .i32),
  StableHlo.binary main_call0_v19 main_call0_v21 main_call0_v22 (Host.shli : C F S4096x64x64 .i32 → C F S4096x64x64 .i32 → C F S4096x64x64 .i32),
  StableHlo.nullary main_call0_c_5 ((constantI S_ 32 6#32) : C F S_ .i32),
  StableHlo.unary main_call0_c_5 main_call0_v23 ((broadcastInDim S4096x64x64 ![] bcast_S_S4096x64x64) : C F S_ .i32 → C F S4096x64x64 .i32),
  StableHlo.binary main_call0_v19 main_call0_v23 main_call0_v24 (Host.shrui : C F S4096x64x64 .i32 → C F S4096x64x64 .i32 → C F S4096x64x64 .i32),
  StableHlo.binary main_call0_v22 main_call0_v24 main_call0_v25 (ori : C F S4096x64x64 .i32 → C F S4096x64x64 .i32 → C F S4096x64x64 .i32),
  StableHlo.binary main_call0_v20 main_call0_v25 main_call0_v26 (xori : C F S4096x64x64 .i32 → C F S4096x64x64 .i32 → C F S4096x64x64 .i32),
  StableHlo.binary main_call0_v20 main_call0_v26 main_call0_v27 (addi : C F S4096x64x64 .i32 → C F S4096x64x64 .i32 → C F S4096x64x64 .i32),
  StableHlo.nullary main_call0_c_6 ((constantI S_ 32 6#32) : C F S_ .i32),
  StableHlo.unary main_call0_c_6 main_call0_v28 ((broadcastInDim S4096x64x64 ![] bcast_S_S4096x64x64) : C F S_ .i32 → C F S4096x64x64 .i32),
  StableHlo.binary main_call0_v26 main_call0_v28 main_call0_v29 (Host.shli : C F S4096x64x64 .i32 → C F S4096x64x64 .i32 → C F S4096x64x64 .i32),
  StableHlo.nullary main_call0_c_7 ((constantI S_ 32 26#32) : C F S_ .i32),
  StableHlo.unary main_call0_c_7 main_call0_v30 ((broadcastInDim S4096x64x64 ![] bcast_S_S4096x64x64) : C F S_ .i32 → C F S4096x64x64 .i32),
  StableHlo.binary main_call0_v26 main_call0_v30 main_call0_v31 (Host.shrui : C F S4096x64x64 .i32 → C F S4096x64x64 .i32 → C F S4096x64x64 .i32),
  StableHlo.binary main_call0_v29 main_call0_v31 main_call0_v32 (ori : C F S4096x64x64 .i32 → C F S4096x64x64 .i32 → C F S4096x64x64 .i32),
  StableHlo.binary main_call0_v27 main_call0_v32 main_call0_v33 (xori : C F S4096x64x64 .i32 → C F S4096x64x64 .i32 → C F S4096x64x64 .i32),
  StableHlo.unary main_v18 main_call0_v34 ((broadcastInDim S4096x64x64 ![] bcast_S_S4096x64x64) : C F S_ .i32 → C F S4096x64x64 .i32),
  StableHlo.binary main_call0_v27 main_call0_v34 main_call0_v35 (addi : C F S4096x64x64 .i32 → C F S4096x64x64 .i32 → C F S4096x64x64 .i32),
  StableHlo.unary main_call0_v1 main_call0_v36 ((broadcastInDim S4096x64x64 ![] bcast_S_S4096x64x64) : C F S_ .i32 → C F S4096x64x64 .i32),
  StableHlo.binary main_call0_v33 main_call0_v36 main_call0_v37 (addi : C F S4096x64x64 .i32 → C F S4096x64x64 .i32 → C F S4096x64x64 .i32),
  StableHlo.nullary main_call0_c_8 ((constantI S_ 32 1#32) : C F S_ .i32),
  StableHlo.unary main_call0_c_8 main_call0_v38 ((broadcastInDim S4096x64x64 ![] bcast_S_S4096x64x64) : C F S_ .i32 → C F S4096x64x64 .i32),
  StableHlo.binary main_call0_v37 main_call0_v38 main_call0_v39 (addi : C F S4096x64x64 .i32 → C F S4096x64x64 .i32 → C F S4096x64x64 .i32)]

/-- What stretch 1 writes, in order. -/
noncomputable def w1 : List (Ref sig .tc) := [
  main_call0_v6, main_call0_c_0, main_call0_v7, main_call0_v8, main_call0_c_1, main_call0_v9, main_call0_v10,
  main_call0_v11, main_call0_v12, main_call0_v13, main_call0_c_2, main_call0_v14, main_call0_v15, main_call0_c_3,
  main_call0_v16, main_call0_v17, main_call0_v18, main_call0_v19, main_call0_v20, main_call0_c_4, main_call0_v21,
  main_call0_v22, main_call0_c_5, main_call0_v23, main_call0_v24, main_call0_v25, main_call0_v26, main_call0_v27,
  main_call0_c_6, main_call0_v28, main_call0_v29, main_call0_c_7, main_call0_v30, main_call0_v31, main_call0_v32,
  main_call0_v33, main_call0_v34, main_call0_v35, main_call0_v36, main_call0_v37, main_call0_c_8, main_call0_v38,
  main_call0_v39]
/-- Threefry rounds 5–8 and the second key injection. -/
noncomputable def s2 : List (HloOp τ sig (Elt F)) := [
  StableHlo.binary main_call0_v35 main_call0_v39 main_call0_v40 (addi : C F S4096x64x64 .i32 → C F S4096x64x64 .i32 → C F S4096x64x64 .i32),
  StableHlo.nullary main_call0_c_9 ((constantI S_ 32 17#32) : C F S_ .i32),
  StableHlo.unary main_call0_c_9 main_call0_v41 ((broadcastInDim S4096x64x64 ![] bcast_S_S4096x64x64) : C F S_ .i32 → C F S4096x64x64 .i32),
  StableHlo.binary main_call0_v39 main_call0_v41 main_call0_v42 (Host.shli : C F S4096x64x64 .i32 → C F S4096x64x64 .i32 → C F S4096x64x64 .i32),
  StableHlo.nullary main_call0_c_10 ((constantI S_ 32 15#32) : C F S_ .i32),
  StableHlo.unary main_call0_c_10 main_call0_v43 ((broadcastInDim S4096x64x64 ![] bcast_S_S4096x64x64) : C F S_ .i32 → C F S4096x64x64 .i32),
  StableHlo.binary main_call0_v39 main_call0_v43 main_call0_v44 (Host.shrui : C F S4096x64x64 .i32 → C F S4096x64x64 .i32 → C F S4096x64x64 .i32),
  StableHlo.binary main_call0_v42 main_call0_v44 main_call0_v45 (ori : C F S4096x64x64 .i32 → C F S4096x64x64 .i32 → C F S4096x64x64 .i32),
  StableHlo.binary main_call0_v40 main_call0_v45 main_call0_v46 (xori : C F S4096x64x64 .i32 → C F S4096x64x64 .i32 → C F S4096x64x64 .i32),
  StableHlo.binary main_call0_v40 main_call0_v46 main_call0_v47 (addi : C F S4096x64x64 .i32 → C F S4096x64x64 .i32 → C F S4096x64x64 .i32),
  StableHlo.nullary main_call0_c_11 ((constantI S_ 32 29#32) : C F S_ .i32),
  StableHlo.unary main_call0_c_11 main_call0_v48 ((broadcastInDim S4096x64x64 ![] bcast_S_S4096x64x64) : C F S_ .i32 → C F S4096x64x64 .i32),
  StableHlo.binary main_call0_v46 main_call0_v48 main_call0_v49 (Host.shli : C F S4096x64x64 .i32 → C F S4096x64x64 .i32 → C F S4096x64x64 .i32),
  StableHlo.nullary main_call0_c_12 ((constantI S_ 32 3#32) : C F S_ .i32),
  StableHlo.unary main_call0_c_12 main_call0_v50 ((broadcastInDim S4096x64x64 ![] bcast_S_S4096x64x64) : C F S_ .i32 → C F S4096x64x64 .i32),
  StableHlo.binary main_call0_v46 main_call0_v50 main_call0_v51 (Host.shrui : C F S4096x64x64 .i32 → C F S4096x64x64 .i32 → C F S4096x64x64 .i32),
  StableHlo.binary main_call0_v49 main_call0_v51 main_call0_v52 (ori : C F S4096x64x64 .i32 → C F S4096x64x64 .i32 → C F S4096x64x64 .i32),
  StableHlo.binary main_call0_v47 main_call0_v52 main_call0_v53 (xori : C F S4096x64x64 .i32 → C F S4096x64x64 .i32 → C F S4096x64x64 .i32),
  StableHlo.binary main_call0_v47 main_call0_v53 main_call0_v54 (addi : C F S4096x64x64 .i32 → C F S4096x64x64 .i32 → C F S4096x64x64 .i32),
  StableHlo.nullary main_call0_c_13 ((constantI S_ 32 16#32) : C F S_ .i32),
  StableHlo.unary main_call0_c_13 main_call0_v55 ((broadcastInDim S4096x64x64 ![] bcast_S_S4096x64x64) : C F S_ .i32 → C F S4096x64x64 .i32),
  StableHlo.binary main_call0_v53 main_call0_v55 main_call0_v56 (Host.shli : C F S4096x64x64 .i32 → C F S4096x64x64 .i32 → C F S4096x64x64 .i32),
  StableHlo.nullary main_call0_c_14 ((constantI S_ 32 16#32) : C F S_ .i32),
  StableHlo.unary main_call0_c_14 main_call0_v57 ((broadcastInDim S4096x64x64 ![] bcast_S_S4096x64x64) : C F S_ .i32 → C F S4096x64x64 .i32),
  StableHlo.binary main_call0_v53 main_call0_v57 main_call0_v58 (Host.shrui : C F S4096x64x64 .i32 → C F S4096x64x64 .i32 → C F S4096x64x64 .i32),
  StableHlo.binary main_call0_v56 main_call0_v58 main_call0_v59 (ori : C F S4096x64x64 .i32 → C F S4096x64x64 .i32 → C F S4096x64x64 .i32),
  StableHlo.binary main_call0_v54 main_call0_v59 main_call0_v60 (xori : C F S4096x64x64 .i32 → C F S4096x64x64 .i32 → C F S4096x64x64 .i32),
  StableHlo.binary main_call0_v54 main_call0_v60 main_call0_v61 (addi : C F S4096x64x64 .i32 → C F S4096x64x64 .i32 → C F S4096x64x64 .i32),
  StableHlo.nullary main_call0_c_15 ((constantI S_ 32 24#32) : C F S_ .i32),
  StableHlo.unary main_call0_c_15 main_call0_v62 ((broadcastInDim S4096x64x64 ![] bcast_S_S4096x64x64) : C F S_ .i32 → C F S4096x64x64 .i32),
  StableHlo.binary main_call0_v60 main_call0_v62 main_call0_v63 (Host.shli : C F S4096x64x64 .i32 → C F S4096x64x64 .i32 → C F S4096x64x64 .i32),
  StableHlo.nullary main_call0_c_16 ((constantI S_ 32 8#32) : C F S_ .i32),
  StableHlo.unary main_call0_c_16 main_call0_v64 ((broadcastInDim S4096x64x64 ![] bcast_S_S4096x64x64) : C F S_ .i32 → C F S4096x64x64 .i32),
  StableHlo.binary main_call0_v60 main_call0_v64 main_call0_v65 (Host.shrui : C F S4096x64x64 .i32 → C F S4096x64x64 .i32 → C F S4096x64x64 .i32),
  StableHlo.binary main_call0_v63 main_call0_v65 main_call0_v66 (ori : C F S4096x64x64 .i32 → C F S4096x64x64 .i32 → C F S4096x64x64 .i32),
  StableHlo.binary main_call0_v61 main_call0_v66 main_call0_v67 (xori : C F S4096x64x64 .i32 → C F S4096x64x64 .i32 → C F S4096x64x64 .i32),
  StableHlo.unary main_call0_v1 main_call0_v68 ((broadcastInDim S4096x64x64 ![] bcast_S_S4096x64x64) : C F S_ .i32 → C F S4096x64x64 .i32),
  StableHlo.binary main_call0_v61 main_call0_v68 main_call0_v69 (addi : C F S4096x64x64 .i32 → C F S4096x64x64 .i32 → C F S4096x64x64 .i32),
  StableHlo.unary main_v16 main_call0_v70 ((broadcastInDim S4096x64x64 ![] bcast_S_S4096x64x64) : C F S_ .i32 → C F S4096x64x64 .i32),
  StableHlo.binary main_call0_v67 main_call0_v70 main_call0_v71 (addi : C F S4096x64x64 .i32 → C F S4096x64x64 .i32 → C F S4096x64x64 .i32),
  StableHlo.nullary main_call0_c_17 ((constantI S_ 32 2#32) : C F S_ .i32),
  StableHlo.unary main_call0_c_17 main_call0_v72 ((broadcastInDim S4096x64x64 ![] bcast_S_S4096x64x64) : C F S_ .i32 → C F S4096x64x64 .i32),
  StableHlo.binary main_call0_v71 main_call0_v72 main_call0_v73 (addi : C F S4096x64x64 .i32 → C F S4096x64x64 .i32 → C F S4096x64x64 .i32)]

/-- What stretch 2 writes, in order. -/
noncomputable def w2 : List (Ref sig .tc) := [
  main_call0_v40, main_call0_c_9, main_call0_v41, main_call0_v42, main_call0_c_10, main_call0_v43, main_call0_v44,
  main_call0_v45, main_call0_v46, main_call0_v47, main_call0_c_11, main_call0_v48, main_call0_v49, main_call0_c_12,
  main_call0_v50, main_call0_v51, main_call0_v52, main_call0_v53, main_call0_v54, main_call0_c_13, main_call0_v55,
  main_call0_v56, main_call0_c_14, main_call0_v57, main_call0_v58, main_call0_v59, main_call0_v60, main_call0_v61,
  main_call0_c_15, main_call0_v62, main_call0_v63, main_call0_c_16, main_call0_v64, main_call0_v65, main_call0_v66,
  main_call0_v67, main_call0_v68, main_call0_v69, main_call0_v70, main_call0_v71, main_call0_c_17, main_call0_v72,
  main_call0_v73]
/-- Threefry rounds 9–12 and the third key injection. -/
noncomputable def s3 : List (HloOp τ sig (Elt F)) := [
  StableHlo.binary main_call0_v69 main_call0_v73 main_call0_v74 (addi : C F S4096x64x64 .i32 → C F S4096x64x64 .i32 → C F S4096x64x64 .i32),
  StableHlo.nullary main_call0_c_18 ((constantI S_ 32 13#32) : C F S_ .i32),
  StableHlo.unary main_call0_c_18 main_call0_v75 ((broadcastInDim S4096x64x64 ![] bcast_S_S4096x64x64) : C F S_ .i32 → C F S4096x64x64 .i32),
  StableHlo.binary main_call0_v73 main_call0_v75 main_call0_v76 (Host.shli : C F S4096x64x64 .i32 → C F S4096x64x64 .i32 → C F S4096x64x64 .i32),
  StableHlo.nullary main_call0_c_19 ((constantI S_ 32 19#32) : C F S_ .i32),
  StableHlo.unary main_call0_c_19 main_call0_v77 ((broadcastInDim S4096x64x64 ![] bcast_S_S4096x64x64) : C F S_ .i32 → C F S4096x64x64 .i32),
  StableHlo.binary main_call0_v73 main_call0_v77 main_call0_v78 (Host.shrui : C F S4096x64x64 .i32 → C F S4096x64x64 .i32 → C F S4096x64x64 .i32),
  StableHlo.binary main_call0_v76 main_call0_v78 main_call0_v79 (ori : C F S4096x64x64 .i32 → C F S4096x64x64 .i32 → C F S4096x64x64 .i32),
  StableHlo.binary main_call0_v74 main_call0_v79 main_call0_v80 (xori : C F S4096x64x64 .i32 → C F S4096x64x64 .i32 → C F S4096x64x64 .i32),
  StableHlo.binary main_call0_v74 main_call0_v80 main_call0_v81 (addi : C F S4096x64x64 .i32 → C F S4096x64x64 .i32 → C F S4096x64x64 .i32),
  StableHlo.nullary main_call0_c_20 ((constantI S_ 32 15#32) : C F S_ .i32),
  StableHlo.unary main_call0_c_20 main_call0_v82 ((broadcastInDim S4096x64x64 ![] bcast_S_S4096x64x64) : C F S_ .i32 → C F S4096x64x64 .i32),
  StableHlo.binary main_call0_v80 main_call0_v82 main_call0_v83 (Host.shli : C F S4096x64x64 .i32 → C F S4096x64x64 .i32 → C F S4096x64x64 .i32),
  StableHlo.nullary main_call0_c_21 ((constantI S_ 32 17#32) : C F S_ .i32),
  StableHlo.unary main_call0_c_21 main_call0_v84 ((broadcastInDim S4096x64x64 ![] bcast_S_S4096x64x64) : C F S_ .i32 → C F S4096x64x64 .i32),
  StableHlo.binary main_call0_v80 main_call0_v84 main_call0_v85 (Host.shrui : C F S4096x64x64 .i32 → C F S4096x64x64 .i32 → C F S4096x64x64 .i32),
  StableHlo.binary main_call0_v83 main_call0_v85 main_call0_v86 (ori : C F S4096x64x64 .i32 → C F S4096x64x64 .i32 → C F S4096x64x64 .i32),
  StableHlo.binary main_call0_v81 main_call0_v86 main_call0_v87 (xori : C F S4096x64x64 .i32 → C F S4096x64x64 .i32 → C F S4096x64x64 .i32),
  StableHlo.binary main_call0_v81 main_call0_v87 main_call0_v88 (addi : C F S4096x64x64 .i32 → C F S4096x64x64 .i32 → C F S4096x64x64 .i32),
  StableHlo.nullary main_call0_c_22 ((constantI S_ 32 26#32) : C F S_ .i32),
  StableHlo.unary main_call0_c_22 main_call0_v89 ((broadcastInDim S4096x64x64 ![] bcast_S_S4096x64x64) : C F S_ .i32 → C F S4096x64x64 .i32),
  StableHlo.binary main_call0_v87 main_call0_v89 main_call0_v90 (Host.shli : C F S4096x64x64 .i32 → C F S4096x64x64 .i32 → C F S4096x64x64 .i32),
  StableHlo.nullary main_call0_c_23 ((constantI S_ 32 6#32) : C F S_ .i32),
  StableHlo.unary main_call0_c_23 main_call0_v91 ((broadcastInDim S4096x64x64 ![] bcast_S_S4096x64x64) : C F S_ .i32 → C F S4096x64x64 .i32),
  StableHlo.binary main_call0_v87 main_call0_v91 main_call0_v92 (Host.shrui : C F S4096x64x64 .i32 → C F S4096x64x64 .i32 → C F S4096x64x64 .i32),
  StableHlo.binary main_call0_v90 main_call0_v92 main_call0_v93 (ori : C F S4096x64x64 .i32 → C F S4096x64x64 .i32 → C F S4096x64x64 .i32),
  StableHlo.binary main_call0_v88 main_call0_v93 main_call0_v94 (xori : C F S4096x64x64 .i32 → C F S4096x64x64 .i32 → C F S4096x64x64 .i32),
  StableHlo.binary main_call0_v88 main_call0_v94 main_call0_v95 (addi : C F S4096x64x64 .i32 → C F S4096x64x64 .i32 → C F S4096x64x64 .i32),
  StableHlo.nullary main_call0_c_24 ((constantI S_ 32 6#32) : C F S_ .i32),
  StableHlo.unary main_call0_c_24 main_call0_v96 ((broadcastInDim S4096x64x64 ![] bcast_S_S4096x64x64) : C F S_ .i32 → C F S4096x64x64 .i32),
  StableHlo.binary main_call0_v94 main_call0_v96 main_call0_v97 (Host.shli : C F S4096x64x64 .i32 → C F S4096x64x64 .i32 → C F S4096x64x64 .i32),
  StableHlo.nullary main_call0_c_25 ((constantI S_ 32 26#32) : C F S_ .i32),
  StableHlo.unary main_call0_c_25 main_call0_v98 ((broadcastInDim S4096x64x64 ![] bcast_S_S4096x64x64) : C F S_ .i32 → C F S4096x64x64 .i32),
  StableHlo.binary main_call0_v94 main_call0_v98 main_call0_v99 (Host.shrui : C F S4096x64x64 .i32 → C F S4096x64x64 .i32 → C F S4096x64x64 .i32),
  StableHlo.binary main_call0_v97 main_call0_v99 main_call0_v100 (ori : C F S4096x64x64 .i32 → C F S4096x64x64 .i32 → C F S4096x64x64 .i32),
  StableHlo.binary main_call0_v95 main_call0_v100 main_call0_v101 (xori : C F S4096x64x64 .i32 → C F S4096x64x64 .i32 → C F S4096x64x64 .i32),
  StableHlo.unary main_v16 main_call0_v102 ((broadcastInDim S4096x64x64 ![] bcast_S_S4096x64x64) : C F S_ .i32 → C F S4096x64x64 .i32),
  StableHlo.binary main_call0_v95 main_call0_v102 main_call0_v103 (addi : C F S4096x64x64 .i32 → C F S4096x64x64 .i32 → C F S4096x64x64 .i32),
  StableHlo.unary main_v18 main_call0_v104 ((broadcastInDim S4096x64x64 ![] bcast_S_S4096x64x64) : C F S_ .i32 → C F S4096x64x64 .i32),
  StableHlo.binary main_call0_v101 main_call0_v104 main_call0_v105 (addi : C F S4096x64x64 .i32 → C F S4096x64x64 .i32 → C F S4096x64x64 .i32),
  StableHlo.nullary main_call0_c_26 ((constantI S_ 32 3#32) : C F S_ .i32),
  StableHlo.unary main_call0_c_26 main_call0_v106 ((broadcastInDim S4096x64x64 ![] bcast_S_S4096x64x64) : C F S_ .i32 → C F S4096x64x64 .i32),
  StableHlo.binary main_call0_v105 main_call0_v106 main_call0_v107 (addi : C F S4096x64x64 .i32 → C F S4096x64x64 .i32 → C F S4096x64x64 .i32)]

/-- What stretch 3 writes, in order. -/
noncomputable def w3 : List (Ref sig .tc) := [
  main_call0_v74, main_call0_c_18, main_call0_v75, main_call0_v76, main_call0_c_19, main_call0_v77, main_call0_v78,
  main_call0_v79, main_call0_v80, main_call0_v81, main_call0_c_20, main_call0_v82, main_call0_v83, main_call0_c_21,
  main_call0_v84, main_call0_v85, main_call0_v86, main_call0_v87, main_call0_v88, main_call0_c_22, main_call0_v89,
  main_call0_v90, main_call0_c_23, main_call0_v91, main_call0_v92, main_call0_v93, main_call0_v94, main_call0_v95,
  main_call0_c_24, main_call0_v96, main_call0_v97, main_call0_c_25, main_call0_v98, main_call0_v99, main_call0_v100,
  main_call0_v101, main_call0_v102, main_call0_v103, main_call0_v104, main_call0_v105, main_call0_c_26,
  main_call0_v106, main_call0_v107]
/-- Threefry rounds 13–16 and the fourth key injection. -/
noncomputable def s4 : List (HloOp τ sig (Elt F)) := [
  StableHlo.binary main_call0_v103 main_call0_v107 main_call0_v108 (addi : C F S4096x64x64 .i32 → C F S4096x64x64 .i32 → C F S4096x64x64 .i32),
  StableHlo.nullary main_call0_c_27 ((constantI S_ 32 17#32) : C F S_ .i32),
  StableHlo.unary main_call0_c_27 main_call0_v109 ((broadcastInDim S4096x64x64 ![] bcast_S_S4096x64x64) : C F S_ .i32 → C F S4096x64x64 .i32),
  StableHlo.binary main_call0_v107 main_call0_v109 main_call0_v110 (Host.shli : C F S4096x64x64 .i32 → C F S4096x64x64 .i32 → C F S4096x64x64 .i32),
  StableHlo.nullary main_call0_c_28 ((constantI S_ 32 15#32) : C F S_ .i32),
  StableHlo.unary main_call0_c_28 main_call0_v111 ((broadcastInDim S4096x64x64 ![] bcast_S_S4096x64x64) : C F S_ .i32 → C F S4096x64x64 .i32),
  StableHlo.binary main_call0_v107 main_call0_v111 main_call0_v112 (Host.shrui : C F S4096x64x64 .i32 → C F S4096x64x64 .i32 → C F S4096x64x64 .i32),
  StableHlo.binary main_call0_v110 main_call0_v112 main_call0_v113 (ori : C F S4096x64x64 .i32 → C F S4096x64x64 .i32 → C F S4096x64x64 .i32),
  StableHlo.binary main_call0_v108 main_call0_v113 main_call0_v114 (xori : C F S4096x64x64 .i32 → C F S4096x64x64 .i32 → C F S4096x64x64 .i32),
  StableHlo.binary main_call0_v108 main_call0_v114 main_call0_v115 (addi : C F S4096x64x64 .i32 → C F S4096x64x64 .i32 → C F S4096x64x64 .i32),
  StableHlo.nullary main_call0_c_29 ((constantI S_ 32 29#32) : C F S_ .i32),
  StableHlo.unary main_call0_c_29 main_call0_v116 ((broadcastInDim S4096x64x64 ![] bcast_S_S4096x64x64) : C F S_ .i32 → C F S4096x64x64 .i32),
  StableHlo.binary main_call0_v114 main_call0_v116 main_call0_v117 (Host.shli : C F S4096x64x64 .i32 → C F S4096x64x64 .i32 → C F S4096x64x64 .i32),
  StableHlo.nullary main_call0_c_30 ((constantI S_ 32 3#32) : C F S_ .i32),
  StableHlo.unary main_call0_c_30 main_call0_v118 ((broadcastInDim S4096x64x64 ![] bcast_S_S4096x64x64) : C F S_ .i32 → C F S4096x64x64 .i32),
  StableHlo.binary main_call0_v114 main_call0_v118 main_call0_v119 (Host.shrui : C F S4096x64x64 .i32 → C F S4096x64x64 .i32 → C F S4096x64x64 .i32),
  StableHlo.binary main_call0_v117 main_call0_v119 main_call0_v120 (ori : C F S4096x64x64 .i32 → C F S4096x64x64 .i32 → C F S4096x64x64 .i32),
  StableHlo.binary main_call0_v115 main_call0_v120 main_call0_v121 (xori : C F S4096x64x64 .i32 → C F S4096x64x64 .i32 → C F S4096x64x64 .i32),
  StableHlo.binary main_call0_v115 main_call0_v121 main_call0_v122 (addi : C F S4096x64x64 .i32 → C F S4096x64x64 .i32 → C F S4096x64x64 .i32),
  StableHlo.nullary main_call0_c_31 ((constantI S_ 32 16#32) : C F S_ .i32),
  StableHlo.unary main_call0_c_31 main_call0_v123 ((broadcastInDim S4096x64x64 ![] bcast_S_S4096x64x64) : C F S_ .i32 → C F S4096x64x64 .i32),
  StableHlo.binary main_call0_v121 main_call0_v123 main_call0_v124 (Host.shli : C F S4096x64x64 .i32 → C F S4096x64x64 .i32 → C F S4096x64x64 .i32),
  StableHlo.nullary main_call0_c_32 ((constantI S_ 32 16#32) : C F S_ .i32),
  StableHlo.unary main_call0_c_32 main_call0_v125 ((broadcastInDim S4096x64x64 ![] bcast_S_S4096x64x64) : C F S_ .i32 → C F S4096x64x64 .i32),
  StableHlo.binary main_call0_v121 main_call0_v125 main_call0_v126 (Host.shrui : C F S4096x64x64 .i32 → C F S4096x64x64 .i32 → C F S4096x64x64 .i32),
  StableHlo.binary main_call0_v124 main_call0_v126 main_call0_v127 (ori : C F S4096x64x64 .i32 → C F S4096x64x64 .i32 → C F S4096x64x64 .i32),
  StableHlo.binary main_call0_v122 main_call0_v127 main_call0_v128 (xori : C F S4096x64x64 .i32 → C F S4096x64x64 .i32 → C F S4096x64x64 .i32),
  StableHlo.binary main_call0_v122 main_call0_v128 main_call0_v129 (addi : C F S4096x64x64 .i32 → C F S4096x64x64 .i32 → C F S4096x64x64 .i32),
  StableHlo.nullary main_call0_c_33 ((constantI S_ 32 24#32) : C F S_ .i32),
  StableHlo.unary main_call0_c_33 main_call0_v130 ((broadcastInDim S4096x64x64 ![] bcast_S_S4096x64x64) : C F S_ .i32 → C F S4096x64x64 .i32),
  StableHlo.binary main_call0_v128 main_call0_v130 main_call0_v131 (Host.shli : C F S4096x64x64 .i32 → C F S4096x64x64 .i32 → C F S4096x64x64 .i32),
  StableHlo.nullary main_call0_c_34 ((constantI S_ 32 8#32) : C F S_ .i32),
  StableHlo.unary main_call0_c_34 main_call0_v132 ((broadcastInDim S4096x64x64 ![] bcast_S_S4096x64x64) : C F S_ .i32 → C F S4096x64x64 .i32),
  StableHlo.binary main_call0_v128 main_call0_v132 main_call0_v133 (Host.shrui : C F S4096x64x64 .i32 → C F S4096x64x64 .i32 → C F S4096x64x64 .i32),
  StableHlo.binary main_call0_v131 main_call0_v133 main_call0_v134 (ori : C F S4096x64x64 .i32 → C F S4096x64x64 .i32 → C F S4096x64x64 .i32),
  StableHlo.binary main_call0_v129 main_call0_v134 main_call0_v135 (xori : C F S4096x64x64 .i32 → C F S4096x64x64 .i32 → C F S4096x64x64 .i32),
  StableHlo.unary main_v18 main_call0_v136 ((broadcastInDim S4096x64x64 ![] bcast_S_S4096x64x64) : C F S_ .i32 → C F S4096x64x64 .i32),
  StableHlo.binary main_call0_v129 main_call0_v136 main_call0_v137 (addi : C F S4096x64x64 .i32 → C F S4096x64x64 .i32 → C F S4096x64x64 .i32),
  StableHlo.unary main_call0_v1 main_call0_v138 ((broadcastInDim S4096x64x64 ![] bcast_S_S4096x64x64) : C F S_ .i32 → C F S4096x64x64 .i32),
  StableHlo.binary main_call0_v135 main_call0_v138 main_call0_v139 (addi : C F S4096x64x64 .i32 → C F S4096x64x64 .i32 → C F S4096x64x64 .i32),
  StableHlo.nullary main_call0_c_35 ((constantI S_ 32 4#32) : C F S_ .i32),
  StableHlo.unary main_call0_c_35 main_call0_v140 ((broadcastInDim S4096x64x64 ![] bcast_S_S4096x64x64) : C F S_ .i32 → C F S4096x64x64 .i32),
  StableHlo.binary main_call0_v139 main_call0_v140 main_call0_v141 (addi : C F S4096x64x64 .i32 → C F S4096x64x64 .i32 → C F S4096x64x64 .i32)]

/-- What stretch 4 writes, in order. -/
noncomputable def w4 : List (Ref sig .tc) := [
  main_call0_v108, main_call0_c_27, main_call0_v109, main_call0_v110, main_call0_c_28, main_call0_v111,
  main_call0_v112, main_call0_v113, main_call0_v114, main_call0_v115, main_call0_c_29, main_call0_v116,
  main_call0_v117, main_call0_c_30, main_call0_v118, main_call0_v119, main_call0_v120, main_call0_v121,
  main_call0_v122, main_call0_c_31, main_call0_v123, main_call0_v124, main_call0_c_32, main_call0_v125,
  main_call0_v126, main_call0_v127, main_call0_v128, main_call0_v129, main_call0_c_33, main_call0_v130,
  main_call0_v131, main_call0_c_34, main_call0_v132, main_call0_v133, main_call0_v134, main_call0_v135,
  main_call0_v136, main_call0_v137, main_call0_v138, main_call0_v139, main_call0_c_35, main_call0_v140,
  main_call0_v141]
/-- Threefry rounds 17–20 and the last key injection. -/
noncomputable def s5 : List (HloOp τ sig (Elt F)) := [
  StableHlo.binary main_call0_v137 main_call0_v141 main_call0_v142 (addi : C F S4096x64x64 .i32 → C F S4096x64x64 .i32 → C F S4096x64x64 .i32),
  StableHlo.nullary main_call0_c_36 ((constantI S_ 32 13#32) : C F S_ .i32),
  StableHlo.unary main_call0_c_36 main_call0_v143 ((broadcastInDim S4096x64x64 ![] bcast_S_S4096x64x64) : C F S_ .i32 → C F S4096x64x64 .i32),
  StableHlo.binary main_call0_v141 main_call0_v143 main_call0_v144 (Host.shli : C F S4096x64x64 .i32 → C F S4096x64x64 .i32 → C F S4096x64x64 .i32),
  StableHlo.nullary main_call0_c_37 ((constantI S_ 32 19#32) : C F S_ .i32),
  StableHlo.unary main_call0_c_37 main_call0_v145 ((broadcastInDim S4096x64x64 ![] bcast_S_S4096x64x64) : C F S_ .i32 → C F S4096x64x64 .i32),
  StableHlo.binary main_call0_v141 main_call0_v145 main_call0_v146 (Host.shrui : C F S4096x64x64 .i32 → C F S4096x64x64 .i32 → C F S4096x64x64 .i32),
  StableHlo.binary main_call0_v144 main_call0_v146 main_call0_v147 (ori : C F S4096x64x64 .i32 → C F S4096x64x64 .i32 → C F S4096x64x64 .i32),
  StableHlo.binary main_call0_v142 main_call0_v147 main_call0_v148 (xori : C F S4096x64x64 .i32 → C F S4096x64x64 .i32 → C F S4096x64x64 .i32),
  StableHlo.binary main_call0_v142 main_call0_v148 main_call0_v149 (addi : C F S4096x64x64 .i32 → C F S4096x64x64 .i32 → C F S4096x64x64 .i32),
  StableHlo.nullary main_call0_c_38 ((constantI S_ 32 15#32) : C F S_ .i32),
  StableHlo.unary main_call0_c_38 main_call0_v150 ((broadcastInDim S4096x64x64 ![] bcast_S_S4096x64x64) : C F S_ .i32 → C F S4096x64x64 .i32),
  StableHlo.binary main_call0_v148 main_call0_v150 main_call0_v151 (Host.shli : C F S4096x64x64 .i32 → C F S4096x64x64 .i32 → C F S4096x64x64 .i32),
  StableHlo.nullary main_call0_c_39 ((constantI S_ 32 17#32) : C F S_ .i32),
  StableHlo.unary main_call0_c_39 main_call0_v152 ((broadcastInDim S4096x64x64 ![] bcast_S_S4096x64x64) : C F S_ .i32 → C F S4096x64x64 .i32),
  StableHlo.binary main_call0_v148 main_call0_v152 main_call0_v153 (Host.shrui : C F S4096x64x64 .i32 → C F S4096x64x64 .i32 → C F S4096x64x64 .i32),
  StableHlo.binary main_call0_v151 main_call0_v153 main_call0_v154 (ori : C F S4096x64x64 .i32 → C F S4096x64x64 .i32 → C F S4096x64x64 .i32),
  StableHlo.binary main_call0_v149 main_call0_v154 main_call0_v155 (xori : C F S4096x64x64 .i32 → C F S4096x64x64 .i32 → C F S4096x64x64 .i32),
  StableHlo.binary main_call0_v149 main_call0_v155 main_call0_v156 (addi : C F S4096x64x64 .i32 → C F S4096x64x64 .i32 → C F S4096x64x64 .i32),
  StableHlo.nullary main_call0_c_40 ((constantI S_ 32 26#32) : C F S_ .i32),
  StableHlo.unary main_call0_c_40 main_call0_v157 ((broadcastInDim S4096x64x64 ![] bcast_S_S4096x64x64) : C F S_ .i32 → C F S4096x64x64 .i32),
  StableHlo.binary main_call0_v155 main_call0_v157 main_call0_v158 (Host.shli : C F S4096x64x64 .i32 → C F S4096x64x64 .i32 → C F S4096x64x64 .i32),
  StableHlo.nullary main_call0_c_41 ((constantI S_ 32 6#32) : C F S_ .i32),
  StableHlo.unary main_call0_c_41 main_call0_v159 ((broadcastInDim S4096x64x64 ![] bcast_S_S4096x64x64) : C F S_ .i32 → C F S4096x64x64 .i32),
  StableHlo.binary main_call0_v155 main_call0_v159 main_call0_v160 (Host.shrui : C F S4096x64x64 .i32 → C F S4096x64x64 .i32 → C F S4096x64x64 .i32),
  StableHlo.binary main_call0_v158 main_call0_v160 main_call0_v161 (ori : C F S4096x64x64 .i32 → C F S4096x64x64 .i32 → C F S4096x64x64 .i32),
  StableHlo.binary main_call0_v156 main_call0_v161 main_call0_v162 (xori : C F S4096x64x64 .i32 → C F S4096x64x64 .i32 → C F S4096x64x64 .i32),
  StableHlo.binary main_call0_v156 main_call0_v162 main_call0_v163 (addi : C F S4096x64x64 .i32 → C F S4096x64x64 .i32 → C F S4096x64x64 .i32),
  StableHlo.nullary main_call0_c_42 ((constantI S_ 32 6#32) : C F S_ .i32),
  StableHlo.unary main_call0_c_42 main_call0_v164 ((broadcastInDim S4096x64x64 ![] bcast_S_S4096x64x64) : C F S_ .i32 → C F S4096x64x64 .i32),
  StableHlo.binary main_call0_v162 main_call0_v164 main_call0_v165 (Host.shli : C F S4096x64x64 .i32 → C F S4096x64x64 .i32 → C F S4096x64x64 .i32),
  StableHlo.nullary main_call0_c_43 ((constantI S_ 32 26#32) : C F S_ .i32),
  StableHlo.unary main_call0_c_43 main_call0_v166 ((broadcastInDim S4096x64x64 ![] bcast_S_S4096x64x64) : C F S_ .i32 → C F S4096x64x64 .i32),
  StableHlo.binary main_call0_v162 main_call0_v166 main_call0_v167 (Host.shrui : C F S4096x64x64 .i32 → C F S4096x64x64 .i32 → C F S4096x64x64 .i32),
  StableHlo.binary main_call0_v165 main_call0_v167 main_call0_v168 (ori : C F S4096x64x64 .i32 → C F S4096x64x64 .i32 → C F S4096x64x64 .i32),
  StableHlo.binary main_call0_v163 main_call0_v168 main_call0_v169 (xori : C F S4096x64x64 .i32 → C F S4096x64x64 .i32 → C F S4096x64x64 .i32),
  StableHlo.unary main_call0_v1 main_call0_v170 ((broadcastInDim S4096x64x64 ![] bcast_S_S4096x64x64) : C F S_ .i32 → C F S4096x64x64 .i32),
  StableHlo.binary main_call0_v163 main_call0_v170 main_v34_0 (addi : C F S4096x64x64 .i32 → C F S4096x64x64 .i32 → C F S4096x64x64 .i32),
  StableHlo.unary main_v16 main_call0_v172 ((broadcastInDim S4096x64x64 ![] bcast_S_S4096x64x64) : C F S_ .i32 → C F S4096x64x64 .i32),
  StableHlo.binary main_call0_v169 main_call0_v172 main_call0_v173 (addi : C F S4096x64x64 .i32 → C F S4096x64x64 .i32 → C F S4096x64x64 .i32),
  StableHlo.nullary main_call0_c_44 ((constantI S_ 32 5#32) : C F S_ .i32),
  StableHlo.unary main_call0_c_44 main_call0_v174 ((broadcastInDim S4096x64x64 ![] bcast_S_S4096x64x64) : C F S_ .i32 → C F S4096x64x64 .i32),
  StableHlo.binary main_call0_v173 main_call0_v174 main_v34_1 (addi : C F S4096x64x64 .i32 → C F S4096x64x64 .i32 → C F S4096x64x64 .i32)]

/-- What stretch 5 writes, in order. -/
noncomputable def w5 : List (Ref sig .tc) := [
  main_call0_v142, main_call0_c_36, main_call0_v143, main_call0_v144, main_call0_c_37, main_call0_v145,
  main_call0_v146, main_call0_v147, main_call0_v148, main_call0_v149, main_call0_c_38, main_call0_v150,
  main_call0_v151, main_call0_c_39, main_call0_v152, main_call0_v153, main_call0_v154, main_call0_v155,
  main_call0_v156, main_call0_c_40, main_call0_v157, main_call0_v158, main_call0_c_41, main_call0_v159,
  main_call0_v160, main_call0_v161, main_call0_v162, main_call0_v163, main_call0_c_42, main_call0_v164,
  main_call0_v165, main_call0_c_43, main_call0_v166, main_call0_v167, main_call0_v168, main_call0_v169,
  main_call0_v170, main_v34_0, main_call0_v172, main_call0_v173, main_call0_c_44, main_call0_v174, main_v34_1]
/-- The uniform draws, the Gumbel scores and their first maximal position. -/
noncomputable def s6 : List (HloOp τ sig (Elt F)) := [
  StableHlo.binary main_v34_0 main_v34_1 main_v35 (xori : C F S4096x64x64 .i32 → C F S4096x64x64 .i32 → C F S4096x64x64 .i32),
  StableHlo.nullary main_c_7 (constantI S_ 32 9#32),
  StableHlo.unary main_c_7 main_v36 (broadcastInDim S4096x64x64 ![] bcast_S_S4096x64x64 : C F S_ .i32 → C F S4096x64x64 .i32),
  StableHlo.binary main_v35 main_v36 main_v37 (Host.shrui : C F S4096x64x64 .i32 → C F S4096x64x64 .i32 → C F S4096x64x64 .i32),
  StableHlo.unary main_v37 main_v38 (id : C F S4096x64x64 .i32 → C F S4096x64x64 .i32),
  StableHlo.unary main_v38 main_v39 (sitofp .f32 : C F S4096x64x64 .i32 → C F S4096x64x64 .f32),
  StableHlo.nullary main_cst_8 (constant S_ .f32 0x34000000#32),
  StableHlo.unary main_cst_8 main_v40 (broadcastInDim S4096x64x64 ![] bcast_S_S4096x64x64 : C F S_ .f32 → C F S4096x64x64 .f32),
  StableHlo.binary main_v39 main_v40 main_v41 (mulf : C F S4096x64x64 .f32 → C F S4096x64x64 .f32 → C F S4096x64x64 .f32),
  StableHlo.nullary main_cst_9 (constant S_ .f32 0x00800000#32),
  StableHlo.unary main_cst_9 main_v42 (broadcastInDim S4096x64x64 ![] bcast_S_S4096x64x64 : C F S_ .f32 → C F S4096x64x64 .f32),
  StableHlo.binary main_v41 main_v42 main_v43 (maximumf : C F S4096x64x64 .f32 → C F S4096x64x64 .f32 → C F S4096x64x64 .f32),
  StableHlo.unary main_v43 main_v44 (Host.log : C F S4096x64x64 .f32 → C F S4096x64x64 .f32),
  StableHlo.unary main_v44 main_v45 (Host.negf : C F S4096x64x64 .f32 → C F S4096x64x64 .f32),
  StableHlo.unary main_v45 main_v46 (Host.log : C F S4096x64x64 .f32 → C F S4096x64x64 .f32),
  StableHlo.unary main_v46 main_v47 (Host.negf : C F S4096x64x64 .f32 → C F S4096x64x64 .f32),
  StableHlo.unary main_v7 main_v48 (broadcastInDim S4096x1x64 ![0, 2] bcast_S4096x64_S4096x1x64_0_2 : C F S4096x64 .f32 → C F S4096x1x64 .f32),
  StableHlo.unary main_v48 main_v49 (broadcastInDim S4096x64x64 ![0, 1, 2] bcast_S4096x1x64_S4096x64x64_0_1_2 : C F S4096x1x64 .f32 → C F S4096x64x64 .f32),
  StableHlo.binary main_v47 main_v49 main_v50 (addf : C F S4096x64x64 .f32 → C F S4096x64x64 .f32 → C F S4096x64x64 .f32),
  StableHlo.nullary main_call1_v0 ((iotaInDim S4096x64x64 32 2) : C F S4096x64x64 .i32),
  StableHlo.nullary main_call1_cst ((constant S_ .f32 0xFF800000#32) : C F S_ .f32),
  StableHlo.nullary main_call1_c ((constantI S_ 32 0#32) : C F S_ .i32),
  StableHlo.quaternary main_v50 main_call1_v0 main_call1_cst main_call1_c main_call1_v1_0 ((fun x y u v j => (Host.argReduce reducer_argmax_f32_i32 x y u v reducesTo_S4096x64x64_S4096x64_d2 h_S_ j).1) : C F S4096x64x64 .f32 → C F S4096x64x64 .i32 → C F S_ .f32 → C F S_ .i32 → C F S4096x64 .f32),
  StableHlo.quaternary main_v50 main_call1_v0 main_call1_cst main_call1_c main_v51 ((fun x y u v j => (Host.argReduce reducer_argmax_f32_i32 x y u v reducesTo_S4096x64x64_S4096x64_d2 h_S_ j).2) : C F S4096x64x64 .f32 → C F S4096x64x64 .i32 → C F S_ .f32 → C F S_ .i32 → C F S4096x64 .i32)]

/-- What stretch 6 writes, in order. -/
noncomputable def w6 : List (Ref sig .tc) := [
  main_v35, main_c_7, main_v36, main_v37, main_v38, main_v39, main_cst_8, main_v40, main_v41, main_cst_9, main_v42, main_v43, main_v44, main_v45,
  main_v46, main_v47, main_v48, main_v49, main_v50, main_call1_v0, main_call1_cst, main_call1_c, main_call1_v1_0,
  main_v51]
/-- The drawn positions flattened, and the two takes. -/
noncomputable def s7 : List (HloOp τ sig (Elt F)) := [
  StableHlo.unary main_v51 main_v52 ((transpose S64x4096 [1, 0] · transposes_S4096x64_S64x4096_1_0) : C F S4096x64 .i32 → C F S64x4096 .i32),
  StableHlo.reshape main_v52 main_v53 (rfl : (.i32 : EltTy) = .i32) shapeCasts_S64x4096_S262144,
  StableHlo.nullary main_call2_c ((constantI S_ 32 0#32) : C F S_ .i32),
  StableHlo.unary main_call2_c main_call2_v0 ((broadcastInDim S262144 ![] bcast_S_S262144) : C F S_ .i32 → C F S262144 .i32),
  StableHlo.binary main_v53 main_call2_v0 main_call2_v1 ((cmpi .slt) : C F S262144 .i32 → C F S262144 .i32 → C F S262144 .i1),
  StableHlo.nullary main_call2_c_0 ((constantI S_ 32 262144#32) : C F S_ .i32),
  StableHlo.unary main_call2_c_0 main_call2_v2 ((broadcastInDim S262144 ![] bcast_S_S262144) : C F S_ .i32 → C F S262144 .i32),
  StableHlo.binary main_v53 main_call2_v2 main_call2_v3 (addi : C F S262144 .i32 → C F S262144 .i32 → C F S262144 .i32),
  StableHlo.ternary main_call2_v1 main_call2_v3 main_v53 main_call2_v4 (select : C F S262144 .i1 → C F S262144 .i32 → C F S262144 .i32 → C F S262144 .i32),
  StableHlo.unary main_call2_v4 main_call2_v5 ((broadcastInDim S262144x1 ![0] bcast_S262144_S262144x1_0) : C F S262144 .i32 → C F S262144x1 .i32),
  StableHlo.nullary main_call2_c_1 ((constantI S1 32 262143#32) : C F S1 .i32),
  StableHlo.nullary main_call2_c_2 ((constantI S_ 32 0#32) : C F S_ .i32),
  StableHlo.unary main_call2_c_2 main_call2_v6 ((broadcastInDim S262144x1 ![] bcast_S_S262144x1) : C F S_ .i32 → C F S262144x1 .i32),
  StableHlo.binary main_call2_v5 main_call2_v6 main_call2_v7 ((cmpi .sge) : C F S262144x1 .i32 → C F S262144x1 .i32 → C F S262144x1 .i1),
  StableHlo.unary main_call2_c_1 main_call2_v8 ((broadcastInDim S1x1 ![1] bcast_S1_S1x1_1) : C F S1 .i32 → C F S1x1 .i32),
  StableHlo.unary main_call2_v8 main_call2_v9 ((broadcastInDim S262144x1 ![0, 1] bcast_S1x1_S262144x1_0_1) : C F S1x1 .i32 → C F S262144x1 .i32),
  StableHlo.binary main_call2_v5 main_call2_v9 main_call2_v10 ((cmpi .sle) : C F S262144x1 .i32 → C F S262144x1 .i32 → C F S262144x1 .i1),
  StableHlo.binary main_call2_v7 main_call2_v10 main_call2_v11 (andi : C F S262144x1 .i1 → C F S262144x1 .i1 → C F S262144x1 .i1),
  StableHlo.nullary main_call2_c_3 ((constantI S_ 1 1#1) : C F S_ .i1),
  StableHlo.binary main_call2_v11 main_call2_c_3 main_call2_v12 ((fun x v => Host.reduce IntOp.andi x v reducesTo_S262144x1_S262144_d1 h_S_) : C F S262144x1 .i1 → C F S_ .i1 → C F S262144 .i1),
  StableHlo.binary main_arg0 main_call2_v5 main_call2_v13 ((fun x i => Host.gather gather_S262144x128_S262144x1_S262144x128_1_0_n_n_0_1_1128 x i) : C F S262144x128 .f32 → C F S262144x1 .i32 → C F S262144x128 .f32),
  StableHlo.unary main_call2_v12 main_call2_v14 ((broadcastInDim S262144x128 ![0] bcast_S262144_S262144x128_0) : C F S262144 .i1 → C F S262144x128 .i1),
  StableHlo.nullary main_call2_cst ((constant S_ .f32 0x7FC00000#32) : C F S_ .f32),
  StableHlo.unary main_call2_cst main_call2_v15 ((broadcastInDim S262144x128 ![] bcast_S_S262144x128) : C F S_ .f32 → C F S262144x128 .f32),
  StableHlo.ternary main_call2_v14 main_call2_v13 main_call2_v15 main_v54 (select : C F S262144x128 .i1 → C F S262144x128 .f32 → C F S262144x128 .f32 → C F S262144x128 .f32),
  StableHlo.nullary main_call3_c ((constantI S_ 32 0#32) : C F S_ .i32),
  StableHlo.unary main_call3_c main_call3_v0 ((broadcastInDim S262144 ![] bcast_S_S262144) : C F S_ .i32 → C F S262144 .i32),
  StableHlo.binary main_v53 main_call3_v0 main_call3_v1 ((cmpi .slt) : C F S262144 .i32 → C F S262144 .i32 → C F S262144 .i1),
  StableHlo.nullary main_call3_c_0 ((constantI S_ 32 262144#32) : C F S_ .i32),
  StableHlo.unary main_call3_c_0 main_call3_v2 ((broadcastInDim S262144 ![] bcast_S_S262144) : C F S_ .i32 → C F S262144 .i32),
  StableHlo.binary main_v53 main_call3_v2 main_call3_v3 (addi : C F S262144 .i32 → C F S262144 .i32 → C F S262144 .i32),
  StableHlo.ternary main_call3_v1 main_call3_v3 main_v53 main_call3_v4 (select : C F S262144 .i1 → C F S262144 .i32 → C F S262144 .i32 → C F S262144 .i32),
  StableHlo.unary main_call3_v4 main_call3_v5 ((broadcastInDim S262144x1 ![0] bcast_S262144_S262144x1_0) : C F S262144 .i32 → C F S262144x1 .i32),
  StableHlo.nullary main_call3_c_1 ((constantI S1 32 262143#32) : C F S1 .i32),
  StableHlo.nullary main_call3_c_2 ((constantI S_ 32 0#32) : C F S_ .i32),
  StableHlo.unary main_call3_c_2 main_call3_v6 ((broadcastInDim S262144x1 ![] bcast_S_S262144x1) : C F S_ .i32 → C F S262144x1 .i32),
  StableHlo.binary main_call3_v5 main_call3_v6 main_call3_v7 ((cmpi .sge) : C F S262144x1 .i32 → C F S262144x1 .i32 → C F S262144x1 .i1),
  StableHlo.unary main_call3_c_1 main_call3_v8 ((broadcastInDim S1x1 ![1] bcast_S1_S1x1_1) : C F S1 .i32 → C F S1x1 .i32),
  StableHlo.unary main_call3_v8 main_call3_v9 ((broadcastInDim S262144x1 ![0, 1] bcast_S1x1_S262144x1_0_1) : C F S1x1 .i32 → C F S262144x1 .i32),
  StableHlo.binary main_call3_v5 main_call3_v9 main_call3_v10 ((cmpi .sle) : C F S262144x1 .i32 → C F S262144x1 .i32 → C F S262144x1 .i1),
  StableHlo.binary main_call3_v7 main_call3_v10 main_call3_v11 (andi : C F S262144x1 .i1 → C F S262144x1 .i1 → C F S262144x1 .i1),
  StableHlo.nullary main_call3_c_3 ((constantI S_ 1 1#1) : C F S_ .i1),
  StableHlo.binary main_call3_v11 main_call3_c_3 main_call3_v12 ((fun x v => Host.reduce IntOp.andi x v reducesTo_S262144x1_S262144_d1 h_S_) : C F S262144x1 .i1 → C F S_ .i1 → C F S262144 .i1),
  StableHlo.binary main_arg1 main_call3_v5 main_call3_v13 ((fun x i => Host.gather gather_S262144x1_S262144x1_S262144x1_1_0_n_n_0_1_11 x i) : C F S262144x1 .f32 → C F S262144x1 .i32 → C F S262144x1 .f32),
  StableHlo.unary main_call3_v12 main_call3_v14 ((broadcastInDim S262144x1 ![0] bcast_S262144_S262144x1_0) : C F S262144 .i1 → C F S262144x1 .i1),
  StableHlo.nullary main_call3_cst ((constant S_ .f32 0x7FC00000#32) : C F S_ .f32),
  StableHlo.unary main_call3_cst main_call3_v15 ((broadcastInDim S262144x1 ![] bcast_S_S262144x1) : C F S_ .f32 → C F S262144x1 .f32),
  StableHlo.ternary main_call3_v14 main_call3_v13 main_call3_v15 main_v55 (select : C F S262144x1 .i1 → C F S262144x1 .f32 → C F S262144x1 .f32 → C F S262144x1 .f32)]

/-- What stretch 7 writes, in order. -/
noncomputable def w7 : List (Ref sig .tc) := [
  main_v52, main_v53, main_call2_c, main_call2_v0, main_call2_v1, main_call2_c_0, main_call2_v2, main_call2_v3,
  main_call2_v4, main_call2_v5, main_call2_c_1, main_call2_c_2, main_call2_v6, main_call2_v7, main_call2_v8,
  main_call2_v9, main_call2_v10, main_call2_v11, main_call2_c_3, main_call2_v12, main_call2_v13, main_call2_v14,
  main_call2_cst, main_call2_v15, main_v54, main_call3_c, main_call3_v0, main_call3_v1, main_call3_c_0, main_call3_v2,
  main_call3_v3, main_call3_v4, main_call3_v5, main_call3_c_1, main_call3_c_2, main_call3_v6, main_call3_v7,
  main_call3_v8, main_call3_v9, main_call3_v10, main_call3_v11, main_call3_c_3, main_call3_v12, main_call3_v13,
  main_call3_v14, main_call3_cst, main_call3_v15, main_v55]
/-- The new log-weights and their normalisation over the draws. -/
noncomputable def s8 : List (HloOp τ sig (Elt F)) := [
  StableHlo.unary main_v55 main_v56 (Host.exp : C F S262144x1 .f32 → C F S262144x1 .f32),
  StableHlo.nullary main_cst_10 (constant S_ .f32 0x3F000000#32),
  StableHlo.unary main_cst_10 main_v57 (broadcastInDim S262144x1 ![] bcast_S_S262144x1 : C F S_ .f32 → C F S262144x1 .f32),
  StableHlo.binary main_v57 main_v56 main_v58 (mulf : C F S262144x1 .f32 → C F S262144x1 .f32 → C F S262144x1 .f32),
  StableHlo.nullary main_cst_11 (constant S_ .f32 0x3C000000#32),
  StableHlo.unary main_cst_11 main_v59 (broadcastInDim S262144x1 ![] bcast_S_S262144x1 : C F S_ .f32 → C F S262144x1 .f32),
  StableHlo.binary main_v58 main_v59 main_v60 (addf : C F S262144x1 .f32 → C F S262144x1 .f32 → C F S262144x1 .f32),
  StableHlo.binary main_v56 main_v60 main_v61 (Host.divf : C F S262144x1 .f32 → C F S262144x1 .f32 → C F S262144x1 .f32),
  StableHlo.unary main_v61 main_v62 (Host.log : C F S262144x1 .f32 → C F S262144x1 .f32),
  StableHlo.reshape main_v62 main_v63 (rfl : (.f32 : EltTy) = .f32) shapeCasts_S262144x1_S64x4096,
  StableHlo.unary main_v63 main_v64 (Host.exp : C F S64x4096 .f32 → C F S64x4096 .f32),
  StableHlo.nullary main_cst_12 (constant S_ .f32 0x00000000#32),
  StableHlo.binary main_v64 main_cst_12 main_v65 ((fun x v => Host.reduceAdd x v reducesTo_S64x4096_S4096_d0 h_S_) : C F S64x4096 .f32 → C F S_ .f32 → C F S4096 .f32),
  StableHlo.unary main_v65 main_v66 (broadcastInDim S1x4096 ![1] bcast_S4096_S1x4096_1 : C F S4096 .f32 → C F S1x4096 .f32),
  StableHlo.unary main_v66 main_v67 (Host.log : C F S1x4096 .f32 → C F S1x4096 .f32),
  StableHlo.unary main_v67 main_v68 (broadcastInDim S64x4096 ![0, 1] bcast_S1x4096_S64x4096_0_1 : C F S1x4096 .f32 → C F S64x4096 .f32),
  StableHlo.binary main_v63 main_v68 main_v69 (subf : C F S64x4096 .f32 → C F S64x4096 .f32 → C F S64x4096 .f32)]

/-- What stretch 8 writes, in order. -/
noncomputable def w8 : List (Ref sig .tc) := [
  main_v56, main_cst_10, main_v57, main_v58, main_cst_11, main_v59, main_v60, main_v61, main_v62, main_v63, main_v64,
  main_cst_12, main_v65, main_v66, main_v67, main_v68, main_v69]
/-- The buffers stretch 0 writes, one per operation. -/
theorem writes0 : (s0 (F := F)).map HloOp.writes = w0.map fun r => {Proc.devRef (τ := τ) .tc r} := rfl
/-- No operation of stretch 0 makes a new buffer. -/
theorem fresh0 : (s0 (F := F)).map HloOp.fresh = (s0 (F := F)).map fun _ => (∅ : Finset (DevRef τ sig)) := rfl

/-- The buffers stretch 1 writes, one per operation. -/
theorem writes1 : (s1 (F := F)).map HloOp.writes = w1.map fun r => {Proc.devRef (τ := τ) .tc r} := rfl
/-- No operation of stretch 1 makes a new buffer. -/
theorem fresh1 : (s1 (F := F)).map HloOp.fresh = (s1 (F := F)).map fun _ => (∅ : Finset (DevRef τ sig)) := rfl

/-- The buffers stretch 2 writes, one per operation. -/
theorem writes2 : (s2 (F := F)).map HloOp.writes = w2.map fun r => {Proc.devRef (τ := τ) .tc r} := rfl
/-- No operation of stretch 2 makes a new buffer. -/
theorem fresh2 : (s2 (F := F)).map HloOp.fresh = (s2 (F := F)).map fun _ => (∅ : Finset (DevRef τ sig)) := rfl

/-- The buffers stretch 3 writes, one per operation. -/
theorem writes3 : (s3 (F := F)).map HloOp.writes = w3.map fun r => {Proc.devRef (τ := τ) .tc r} := rfl
/-- No operation of stretch 3 makes a new buffer. -/
theorem fresh3 : (s3 (F := F)).map HloOp.fresh = (s3 (F := F)).map fun _ => (∅ : Finset (DevRef τ sig)) := rfl

/-- The buffers stretch 4 writes, one per operation. -/
theorem writes4 : (s4 (F := F)).map HloOp.writes = w4.map fun r => {Proc.devRef (τ := τ) .tc r} := rfl
/-- No operation of stretch 4 makes a new buffer. -/
theorem fresh4 : (s4 (F := F)).map HloOp.fresh = (s4 (F := F)).map fun _ => (∅ : Finset (DevRef τ sig)) := rfl

/-- The buffers stretch 5 writes, one per operation. -/
theorem writes5 : (s5 (F := F)).map HloOp.writes = w5.map fun r => {Proc.devRef (τ := τ) .tc r} := rfl
/-- No operation of stretch 5 makes a new buffer. -/
theorem fresh5 : (s5 (F := F)).map HloOp.fresh = (s5 (F := F)).map fun _ => (∅ : Finset (DevRef τ sig)) := rfl

/-- The buffers stretch 6 writes, one per operation. -/
theorem writes6 : (s6 (F := F)).map HloOp.writes = w6.map fun r => {Proc.devRef (τ := τ) .tc r} := rfl
/-- No operation of stretch 6 makes a new buffer. -/
theorem fresh6 : (s6 (F := F)).map HloOp.fresh = (s6 (F := F)).map fun _ => (∅ : Finset (DevRef τ sig)) := rfl

/-- The buffers stretch 7 writes, one per operation. -/
theorem writes7 : (s7 (F := F)).map HloOp.writes = w7.map fun r => {Proc.devRef (τ := τ) .tc r} := rfl
/-- No operation of stretch 7 makes a new buffer. -/
theorem fresh7 : (s7 (F := F)).map HloOp.fresh = (s7 (F := F)).map fun _ => (∅ : Finset (DevRef τ sig)) := rfl

/-- The buffers stretch 8 writes, one per operation. -/
theorem writes8 : (s8 (F := F)).map HloOp.writes = w8.map fun r => {Proc.devRef (τ := τ) .tc r} := rfl
/-- No operation of stretch 8 makes a new buffer. -/
theorem fresh8 : (s8 (F := F)).map HloOp.fresh = (s8 (F := F)).map fun _ => (∅ : Finset (DevRef τ sig)) := rfl

/-- The whole line. -/
noncomputable def ops : List (HloOp τ sig (Elt F)) := s0 ++ s1 ++ s2 ++ s3 ++ s4 ++ s5 ++ s6 ++ s7 ++ s8

end Cert.ClampedIdeal.Line

end
-- ==== Proof.ClRun.lean ====
/- The clamped reference is its line of host operations, and its run: every buffer ends at what the line leaves there. -/
module

public import proofs.«01_k».proof.Proof.ClOps

@[expose] public section

set_option maxRecDepth 16384

noncomputable section

namespace Cert.ClampedIdeal.Line

open Idealize.ShloMosaic Idealize.SL.Sem Cert.ClampedIdeal Cert.ClampedIdeal.Facts₀ Cert.ClampedIdeal.Facts

variable {F : FTy → Type} [FloatOps F] [Facts]

/-- The clamped reference is its line. -/
theorem main_eq (d : Dev nD) : main (F := F) d = StableHlo.seq ops := by chain_rfl

/-- What the whole line writes, in order. -/
noncomputable def w : List (Ref sig .tc) := w0 ++ w1 ++ w2 ++ w3 ++ w4 ++ w5 ++ w6 ++ w7 ++ w8

/-- The buffers the line writes, one per operation. -/
theorem writes : (ops (F := F)).map HloOp.writes = w.map fun r => {Proc.devRef (τ := τ) .tc r} := by
  simp only [ops, w, List.map_append, writes0, writes1, writes2, writes3, writes4, writes5, writes6, writes7, writes8]

/-- No operation of the line makes a new buffer. -/
theorem fresh : (ops (F := F)).map HloOp.fresh = (ops (F := F)).map fun _ => (∅ : Finset (DevRef τ sig)) := by
  simp only [ops, List.map_append, fresh0, fresh1, fresh2, fresh3, fresh4, fresh5, fresh6, fresh7, fresh8]

/-- Every operation touches TensorCore buffers only. -/
theorem touches : (ops (F := F)).Forall fun op => op.bufs ⊆ StableHlo.tcRefs τ sig := by
  simp only [ops, s0, s1, s2, s3, s4, s5, s6, s7, s8, List.cons_append, List.nil_append, List.append_assoc, List.Forall,
    StableHlo.nullary_bufs_sub, StableHlo.unary_bufs_sub, StableHlo.binary_bufs_sub, StableHlo.ternary_bufs_sub,
    StableHlo.quaternary_bufs_sub, StableHlo.reshape_bufs_sub, and_self]

/-- From any memory with zero counters the clamped reference ends, its buffers at what the line leaves. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = StableHlo.after ops (StableHlo.launchContents m d) (Proc.devRef .tc b) :=
  StableHlo.run_hlo defs main main_eq (by decide) (by decide) touches
    (List.forall_iff_forall_mem.mp (StableHlo.forall_fresh_of_map fresh)) m ρ

/-- The line leaves the arguments. -/
theorem after_args (V : Valuation τ sig (Elt F)) :
    StableHlo.after ops V (Proc.devRef .tc main_arg0) = V (Proc.devRef .tc main_arg0)
      ∧ StableHlo.after ops V (Proc.devRef .tc main_arg1) = V (Proc.devRef .tc main_arg1) :=
  ⟨StableHlo.after_unwritten w writes (by decide +kernel) V, StableHlo.after_unwritten w writes (by decide +kernel) V⟩

end Cert.ClampedIdeal.Line

end
-- ==== Proof.Cipher.lean ====
module

public import Idealize.ShloMosaic.Lib.Pointwise

/-
  The random words of the resampling step.

  Both programs draw word `n` of the stream from the block cipher Threefry-2x32 (twenty rounds) under the
  key `(0, 1234)`, at the block `(0, n)`, and join its two output words by exclusive or. This file writes
  that cipher down once, on 32-bit words, cut at the five key injections.
-/

@[expose] public section

set_option maxRecDepth 16384

noncomputable section

namespace Cert.Resample

open Idealize.ShloMosaic

/-- A 32-bit word. -/
abbrev Word := BitVec 32

/-- The rotation to the left by `r`, the complementary amount `q = 32 - r` given beside it. -/
def rotl (r q x : Word) : Word := (x <<< r) ||| (x >>> q)

/-- One round on the pair of words: the first takes the sum, the second is rotated and takes the exclusive or. -/
def rnd (r q : Word) (s : Word × Word) : Word × Word := (s.1 + s.2, (s.1 + s.2) ^^^ rotl r q s.2)

/-- A key injection: one key word into each word. -/
def inj (k l : Word) (s : Word × Word) : Word × Word := (s.1 + k, s.2 + l)

/-- A key injection whose first key word is zero. -/
def inj2 (l : Word) (s : Word × Word) : Word × Word := (s.1, s.2 + l)

/-- Four rounds at the first set of rotation amounts. -/
def quadA (s : Word × Word) : Word × Word :=
  rnd 6#32 26#32 (rnd 26#32 6#32 (rnd 15#32 17#32 (rnd 13#32 19#32 s)))

/-- Four rounds at the second set of rotation amounts. -/
def quadB (s : Word × Word) : Word × Word :=
  rnd 24#32 8#32 (rnd 16#32 16#32 (rnd 29#32 3#32 (rnd 17#32 15#32 s)))

/-- The cipher's pair of words after the first key injection, from the pair it starts at. -/
def stage1 (s : Word × Word) : Word × Word := inj 1234#32 466689801#32 (quadA s)
/-- After the second key injection. -/
def stage2 (s : Word × Word) : Word × Word := inj 466689800#32 2#32 (quadB s)
/-- After the third. -/
def stage3 (s : Word × Word) : Word × Word := inj2 1237#32 (quadA s)
/-- After the fourth. -/
def stage4 (s : Word × Word) : Word × Word := inj 1234#32 466689804#32 (quadB s)
/-- After the fifth. -/
def stage5 (s : Word × Word) : Word × Word := inj 466689800#32 5#32 (quadA s)

/-- The whole cipher from the pair it starts at (the block plus the key). -/
def cipher (s : Word × Word) : Word × Word := stage5 (stage4 (stage3 (stage2 (stage1 s))))

/-- Word `n` of the stream. -/
def bits (n : Word) : Word := (cipher (0#32, n + 1234#32)).1 ^^^ (cipher (0#32, n + 1234#32)).2

/-- A left shift by an amount below the width is the plain shift, on every unit. -/
theorem shli_word (u : ArithUnit) (x r : Word) (h : r.toNat < 32) : IntOp.shli u x r = x <<< r := if_pos h

/-- A right shift by an amount below the width is the plain shift, on every unit. -/
theorem shrui_word (u : ArithUnit) (x r : Word) (h : r.toNat < 32) : IntOp.shrui u x r = x >>> r := if_pos h

/-- The exclusive or of the two words the cipher ends at, from its starting pair. -/
def mixOf (s : Word × Word) : Word := (cipher s).1 ^^^ (cipher s).2

/-- The first round from a first word of zero. -/
theorem rnd_zero (r q x : Word) : rnd r q (0#32, x) = (x, x ^^^ rotl r q x) := by simp [rnd]

/-- The first stage from a first word of zero. -/
theorem stage1_zero (x : Word) : stage1 (0#32, x) = inj 1234#32 466689801#32
    (rnd 6#32 26#32 (rnd 26#32 6#32 (rnd 15#32 17#32 (x, x ^^^ rotl 13#32 19#32 x)))) := by
  rw [stage1, quadA, rnd_zero]

end Cert.Resample

end
-- ==== Proof.Pick.lean ====
module

public import proofs.«01_k».proof.Proof.Cipher
public import Idealize.ShloMosaic.Lib.Pointwise

/-
  The pick: the first place where a score is the greatest, and the score's two forms.
-/

@[expose] public section

set_option maxRecDepth 16384

noncomputable section

namespace Cert.Resample

open Idealize.ShloMosaic

/-- `p` is the first place at which `f` is greatest. -/
def IsFirst (f : Fin 64 → EReal) (p : Fin 64) : Prop := (∀ q, f q ≤ f p) ∧ ∀ q, f q = f p → p ≤ q

/-- There is such a place. -/
theorem exists_first (f : Fin 64 → EReal) : ∃ p, IsFirst f p := by
  obtain ⟨m, hm⟩ := Finite.exists_max f
  have hne : (Finset.univ.filter fun p => f p = f m).Nonempty := ⟨m, by simp⟩
  refine ⟨(Finset.univ.filter fun p => f p = f m).min' hne, ?_, ?_⟩
  · intro q
    have h := Finset.min'_mem _ hne
    rw [(Finset.mem_filter.1 h).2]; exact hm q
  · intro q hq
    have h := Finset.min'_mem _ hne
    exact Finset.min'_le _ _ (by simp [hq, (Finset.mem_filter.1 h).2])

/-- The first place at which `f` is greatest. -/
def pick (f : Fin 64 → EReal) : Fin 64 := Classical.choose (exists_first f)

/-- What the pick is. -/
theorem pick_spec (f : Fin 64 → EReal) : IsFirst f (pick f) := Classical.choose_spec (exists_first f)

/-- Only the pick is such a place. -/
theorem pick_unique {f : Fin 64 → EReal} {p : Fin 64} (h : IsFirst f p) : p = pick f := by
  have k := pick_spec f
  have e : f p = f (pick f) := le_antisymm (k.1 p) (h.1 _)
  exact le_antisymm (h.2 _ e.symm) (k.2 _ e)

/-- Two scores in the same order have the same pick. -/
theorem pick_congr {f g : Fin 64 → EReal} (h : ∀ p q, f p ≤ f q ↔ g p ≤ g q) : pick f = pick g := by
  refine pick_unique ⟨fun q => (h q _).1 ((pick_spec f).1 q), fun q hq => (pick_spec f).2 q ?_⟩
  exact le_antisymm ((h _ _).2 hq.le) ((h _ _).2 hq.ge)

/-- The fold of the maximum from below everything is the score at the pick. -/
theorem fold_max_eq (f : Fin 64 → EReal) : Finset.univ.fold max ⊥ f = f (pick f) := by
  refine le_antisymm ?_ ?_
  · exact Finset.fold_max_le _ |>.2 ⟨bot_le, fun q _ => (pick_spec f).1 q⟩
  · exact Finset.le_fold_max _ |>.2 (Or.inr ⟨pick f, Finset.mem_univ _, le_rfl⟩)

/-- A fold of the signed minimum ends at its starting word or at one of the words, and below all of them. -/
theorem fold_min_spec (g : Fin 64 → Word) (i : Word) (S : Finset (Fin 64)) :
    (S.fold IntOp.minsi i g = i ∨ ∃ p ∈ S, S.fold IntOp.minsi i g = g p)
      ∧ (S.fold IntOp.minsi i g).toInt ≤ i.toInt ∧ ∀ p ∈ S, (S.fold IntOp.minsi i g).toInt ≤ (g p).toInt := by
  induction S using Finset.induction_on with
  | empty => simp
  | insert a S ha ih =>
    rw [Finset.fold_insert ha]
    generalize S.fold IntOp.minsi i g = r at ih
    obtain ⟨h1, h2, h3⟩ := ih
    unfold IntOp.minsi
    by_cases hlt : (g a).slt r
    · rw [if_pos hlt]
      rw [BitVec.slt_iff_toInt_lt] at hlt
      refine ⟨Or.inr ⟨a, Finset.mem_insert_self _ _, rfl⟩, by omega, fun p hp => ?_⟩
      rcases Finset.mem_insert.1 hp with rfl | hp
      · exact le_rfl
      · have := h3 p hp; omega
    · rw [if_neg hlt]
      rw [BitVec.slt_iff_toInt_lt] at hlt
      refine ⟨?_, h2, fun p hp => ?_⟩
      · rcases h1 with h | ⟨p, hp, h⟩
        · exact Or.inl h
        · exact Or.inr ⟨p, Finset.mem_insert_of_mem hp, h⟩
      · rcases Finset.mem_insert.1 hp with rfl | hp
        · omega
        · exact h3 p hp

/-- A small number as a word reads back as itself. -/
theorem toInt_small {n : Nat} (h : n ≤ 64) : (BitVec.ofNat 32 n).toInt = n := by
  rw [BitVec.toInt_eq_toNat_of_lt] <;> simp [BitVec.toNat_ofNat] <;> omega

/-- The least number of a place where the score is greatest is the pick's. -/
theorem fold_min_eq (f : Fin 64 → EReal) (c : Fin 64 → Prop) [DecidablePred c] (hc : ∀ p, c p ↔ f p = f (pick f)) :
    Finset.univ.fold IntOp.minsi (2147483647#32) (fun p : Fin 64 => if c p then BitVec.ofNat 32 p.val else 64#32)
      = BitVec.ofNat 32 (pick f).val := by
  have h := fold_min_spec (fun p : Fin 64 => if c p then BitVec.ofNat 32 p.val else 64#32) (2147483647#32) Finset.univ
  generalize Finset.univ.fold IntOp.minsi (2147483647#32)
    (fun p : Fin 64 => if c p then BitVec.ofNat 32 p.val else 64#32) = r at h
  obtain ⟨h1, -, h3⟩ := h
  have hp := h3 (pick f) (Finset.mem_univ _)
  have hpl := (pick f).isLt
  simp only [if_pos ((hc _).2 rfl)] at hp
  rw [toInt_small (by omega)] at hp
  rcases h1 with rfl | ⟨q, -, rfl⟩
  · simp at hp; omega
  · have hq := q.isLt
    by_cases hcq : c q
    · rw [if_pos hcq] at hp ⊢
      rw [toInt_small (by omega)] at hp
      have hle : pick f ≤ q := (pick_spec f).2 q ((hc q).1 hcq)
      have : q = pick f := le_antisymm (by rw [Fin.le_def]; omega) hle
      rw [this]
    · rw [if_neg hcq] at hp
      rw [show (64#32 : Word).toInt = 64 from rfl] at hp
      omega

/-! ## The arg-max fold -/

/-- A pair of a score and its number that is no worse than another: a greater score, or the same one at a number
    no greater. -/
def Beats (a b : EReal × Word) : Prop := b.1 < a.1 ∨ b.1 = a.1 ∧ a.2.toInt ≤ b.2.toInt

/-- A pair beats itself. -/
theorem Beats.refl (a : EReal × Word) : Beats a a := Or.inr ⟨rfl, le_rfl⟩

/-- Beating is transitive. -/
theorem Beats.trans {a b c : EReal × Word} (h : Beats a b) (k : Beats b c) : Beats a c := by
  rcases h with h | ⟨h, h'⟩ <;> rcases k with k | ⟨k, k'⟩
  · exact Or.inl (k.trans h)
  · exact Or.inl (k ▸ h)
  · exact Or.inl (h ▸ k)
  · exact Or.inr ⟨k.trans h, h'.trans k'⟩

/-- A fold by a step that returns the better of its two pairs ends at the start or at a pair of the list, and at one
    no worse than each. -/
theorem foldl_beats (f : EReal × Word → EReal × Word → EReal × Word)
    (hf : ∀ a b, (f a b = a ∨ f a b = b) ∧ Beats (f a b) a ∧ Beats (f a b) b) (L : List (EReal × Word)) :
    ∀ i, (L.foldl f i = i ∨ L.foldl f i ∈ L) ∧ Beats (L.foldl f i) i ∧ ∀ e ∈ L, Beats (L.foldl f i) e := by
  induction L with
  | nil => intro i; exact ⟨Or.inl rfl, Beats.refl _, by simp⟩
  | cons a L ih =>
    intro i
    obtain ⟨h1, h2, h3⟩ := ih (f i a)
    obtain ⟨k1, k2, k3⟩ := hf i a
    refine ⟨?_, h2.trans k2, ?_⟩
    · rcases h1 with h | h
      · rcases k1 with k | k
        · exact Or.inl (h.trans k)
        · right; rw [List.foldl_cons, h, k]; exact List.mem_cons_self
      · exact Or.inr (List.mem_cons_of_mem _ h)
    · intro e he
      rcases List.mem_cons.1 he with rfl | he
      · exact h2.trans k3
      · exact h3 e he

/-- A pair no worse than every place's (score, number) pair, and one of them or the pair below them all, has the
    pick's number. -/
theorem beats_pick (f : Fin 64 → EReal) (r : EReal × Word)
    (h1 : r = (⊥, 0#32) ∨ ∃ p, r = (f p, BitVec.ofNat 32 (p : Fin 64).val))
    (h2 : ∀ p, Beats r (f p, BitVec.ofNat 32 (p : Fin 64).val)) : r.2 = BitVec.ofNat 32 (pick f).val := by
  rcases h1 with rfl | ⟨p, rfl⟩
  · have hb : ∀ p, f p = ⊥ := fun p => by
      rcases h2 p with h | ⟨h, -⟩
      · exact absurd h not_lt_bot
      · exact h
    rw [← pick_unique (p := 0) ⟨fun q => by rw [hb q, hb 0], fun q _ => Fin.zero_le q⟩]
    rfl
  · have : IsFirst f p := by
      refine ⟨fun q => ?_, fun q hq => ?_⟩
      · rcases h2 q with h | ⟨h, -⟩
        · exact h.le
        · exact h.le
      · rcases h2 q with h | ⟨-, h⟩
        · exact absurd h (by rw [hq]; exact lt_irrefl _)
        · have hp := p.isLt; have hq := q.isLt
          rw [toInt_small (by omega), toInt_small (by omega)] at h
          rw [Fin.le_def]; omega
    rw [← pick_unique this]

end Cert.Resample
end
-- ==== Proof.Score.lean ====
module

public import proofs.«01_k».proof.Proof.Pick

/-
  The score of a particle, in the kernel's form and in the reference's.
-/

@[expose] public section

set_option maxRecDepth 16384

noncomputable section

namespace Cert.Resample

open Idealize.ShloMosaic

/-- The uniform number in `[0, 1)` a word stands for: its upper 23 bits over `2^23`. -/
def uni (w : Word) : ℝ := (w >>> 9#32).toNat * (2 : ℝ) ^ (-23 : ℤ)

/-- The upper 23 bits are below `2^23`. -/
theorem upper_lt (w : Word) : (w >>> 9#32).toNat < 2 ^ 23 := by
  have h : w.toNat < 2 ^ 32 := w.isLt
  simp [Nat.shiftRight_eq_div_pow]
  omega

/-- A uniform is not negative. -/
theorem uni_nonneg (w : Word) : 0 ≤ uni w := by unfold uni; positivity

/-- A uniform is below one. -/
theorem uni_lt_one (w : Word) : uni w < 1 := by
  have h : ((w >>> 9#32).toNat : ℝ) < 2 ^ 23 := by exact_mod_cast upper_lt w
  unfold uni
  rw [zpow_neg, ← div_eq_mul_inv, div_lt_one (by positivity)]
  exact_mod_cast h

/-- The pattern with the word's upper bits for its fraction and the exponent of one, less one. -/
theorem pattern_uni (w : Word) :
    Ideal.ofBits .f32 ((w >>> 9#32) ||| 1065353216#32) - 1 = ((uni w : ℝ) : EReal) := by
  have hlt := upper_lt w
  unfold uni
  generalize w >>> 9#32 = x at hlt
  have h1 : (x ||| 1065353216#32).extractLsb' 31 1 = 0#1 := by
    have hx : x < 8388608#32 := by rw [BitVec.lt_def]; exact hlt
    apply BitVec.eq_of_getLsbD_eq
    intro i hi
    have : i = 0 := by omega
    subst this
    have : x.getLsbD 31 = false := Nat.testBit_lt_two_pow (by omega)
    simp only [BitVec.getLsbD_extractLsb', BitVec.getLsbD_or, this]
    rfl
  have h2 : (x ||| 1065353216#32).extractLsb' 23 8 = 127#8 := by
    apply BitVec.eq_of_getLsbD_eq
    intro i hi
    have hx : x.getLsbD (23 + i) = false :=
      Nat.testBit_lt_two_pow (lt_of_lt_of_le hlt (Nat.pow_le_pow_right (by norm_num) (by omega)))
    simp only [BitVec.getLsbD_extractLsb', BitVec.getLsbD_or, hx, Bool.false_or, hi, decide_true, Bool.true_and]
    have : ∀ i : Fin 8, BitVec.getLsbD 1065353216#32 (23 + i.val) = BitVec.getLsbD 127#8 i.val := by decide
    exact this ⟨i, hi⟩
  have h3 : ((x ||| 1065353216#32).extractLsb' 0 23).toNat = x.toNat := by
    have : (x ||| 1065353216#32).extractLsb' 0 23 = x.setWidth 23 := by
      apply BitVec.eq_of_getLsbD_eq
      intro i hi
      have : ∀ i : Fin 23, BitVec.getLsbD 1065353216#32 i.val = false := by decide
      have h := this ⟨i, hi⟩
      simp only at h
      simp [BitVec.getLsbD_extractLsb', BitVec.getLsbD_or, hi, h]
    rw [this, BitVec.toNat_setWidth, Nat.mod_eq_of_lt hlt]
  have hw : Ideal.ofBits .f32 (x ||| 1065353216#32)
      = (((1 : ℝ) * (2 ^ 23 + x.toNat : Nat) * (2 : ℝ) ^ (-23 : ℤ) : ℝ) : EReal) := by
    unfold Ideal.ofBits Ideal.ieee
    simp only [h1, h2, h3]
    norm_num
  rw [hw, ← EReal.coe_one, ← EReal.coe_sub]
  congr 1
  push_cast
  rw [zpow_neg]
  norm_num
  ring

/-- The resampling weight at a logarithm of a weight. -/
def weight (x : EReal) : EReal := Ideal.ofBits .f32 0x3F000000#32 * Ideal.exp x + Ideal.ofBits .f32 0x3C000000#32

/-- The pattern of one half. -/
theorem half_bits : Ideal.ofBits .f32 0x3F000000#32 = ((1 / 2 : ℝ) : EReal) := by
  simp [Ideal.ofBits, Ideal.ieee]; norm_num [zpow_neg, ← EReal.coe_mul]
/-- The pattern of one over 128. -/
theorem floor_bits : Ideal.ofBits .f32 0x3C000000#32 = ((1 / 128 : ℝ) : EReal) := by
  simp [Ideal.ofBits, Ideal.ieee]; norm_num [zpow_neg, ← EReal.coe_mul]

/-- The weight is a positive real at every logarithm below `+∞`. -/
theorem weight_real {x : EReal} (hx : x < ⊤) : ∃ r : ℝ, 0 < r ∧ weight x = (r : EReal) := by
  unfold weight
  rw [half_bits, floor_bits]
  induction x with
  | bot => exact ⟨1 / 128, by norm_num, by simp⟩
  | coe x =>
    refine ⟨1 / 2 * Real.exp x + 1 / 128, by positivity, ?_⟩
    rw [Ideal.exp_coe]; push_cast; rfl
  | top => exact absurd hx (lt_irrefl _)

/-- The kernel's score: the logarithm of the uniform number over the weight. -/
def scoreK (w : Word) (x : EReal) : EReal := Ideal.log (uni w : ℝ) * Ideal.div 1 (weight x)

/-- The reference's score: the Gumbel number plus the weight's logarithm. -/
def scoreR (w : Word) (x : EReal) : EReal := -Ideal.log (-Ideal.log (uni w : ℝ)) + Ideal.log (weight x)

/-- The logarithm of a positive real is the real one. -/
theorem log_pos {r : ℝ} (h : 0 < r) : Ideal.log (r : EReal) = (Real.log r : ℝ) := if_neg (not_le.2 h)
/-- The logarithm of a real that is not positive is `-∞`. -/
theorem log_nonpos {r : ℝ} (h : r ≤ 0) : Ideal.log (r : EReal) = ⊥ := if_pos h

/-- The logarithm keeps the order of what lies above zero. -/
theorem log_le_log {a b : EReal} (ha : 0 < a) (hb : 0 < b) : Ideal.log a ≤ Ideal.log b ↔ a ≤ b := by
  induction a with
  | bot => simp at ha
  | top =>
    induction b with
    | bot => simp at hb
    | top => simp
    | coe b =>
      have hb' : 0 < b := by exact_mod_cast hb
      rw [log_pos hb', Ideal.log_top]; simp
  | coe a =>
    have ha' : 0 < a := by exact_mod_cast ha
    induction b with
    | bot => simp at hb
    | top => rw [Ideal.log_top]; simp
    | coe b =>
      have hb' : 0 < b := by exact_mod_cast hb
      rw [log_pos ha', log_pos hb', EReal.coe_le_coe_iff, EReal.coe_le_coe_iff]
      exact Real.log_le_log_iff ha' hb'

/-- The kernel's score is below zero. -/
theorem scoreK_neg (w : Word) {x : EReal} (hx : x < ⊤) : scoreK w x < 0 := by
  obtain ⟨r, hr, hw⟩ := weight_real hx
  unfold scoreK
  rw [hw, Ideal.div_coe hr.ne', one_mul]
  have h0 := uni_nonneg w
  have h1 := uni_lt_one w
  have hr' : (0 : ℝ) < 1 / r := by positivity
  by_cases hu : uni w ≤ 0
  · rw [log_nonpos hu, EReal.bot_mul_coe_of_pos hr']; exact EReal.bot_lt_zero
  · rw [log_pos (not_le.1 hu), ← EReal.coe_mul]
    have : Real.log (uni w) < 0 := Real.log_neg (not_le.1 hu) h1
    exact_mod_cast mul_neg_of_neg_of_pos this hr'

/-- The reference's score is the kernel's through the increasing map `t ↦ -log (-t)`. -/
theorem scoreR_eq (w : Word) {x : EReal} (hx : x < ⊤) : scoreR w x = -Ideal.log (-scoreK w x) := by
  obtain ⟨r, hr, hw⟩ := weight_real hx
  unfold scoreR scoreK
  rw [hw, Ideal.div_coe hr.ne', one_mul]
  have h0 := uni_nonneg w
  have h1 := uni_lt_one w
  have hr' : (0 : ℝ) < 1 / r := by positivity
  by_cases hu : uni w ≤ 0
  · rw [show Ideal.log (uni w : ℝ) = ⊥ from if_pos hu, EReal.bot_mul_coe_of_pos hr', EReal.neg_bot, Ideal.log_top,
      EReal.neg_top]
    rw [show Ideal.log (r : EReal) = (Real.log r : ℝ) from if_neg (not_le.2 hr), EReal.bot_add]
  · have hl : Real.log (uni w) < 0 := Real.log_neg (not_le.1 hu) h1
    have hl' : 0 < -Real.log (uni w) := by linarith
    rw [show Ideal.log (uni w : ℝ) = (Real.log (uni w) : ℝ) from if_neg hu, ← EReal.coe_mul, ← EReal.coe_neg,
      ← EReal.coe_neg]
    have hm : 0 < -(Real.log (uni w) * (1 / r)) := by
      rw [← neg_mul]; positivity
    rw [show Ideal.log ((-Real.log (uni w) : ℝ) : EReal) = (Real.log (-Real.log (uni w)) : ℝ) from if_neg (not_le.2 hl'),
      show Ideal.log (r : EReal) = (Real.log r : ℝ) from if_neg (not_le.2 hr),
      show Ideal.log ((-(Real.log (uni w) * (1 / r)) : ℝ) : EReal) = (Real.log (-(Real.log (uni w) * (1 / r))) : ℝ)
        from if_neg (not_le.2 hm), ← EReal.coe_neg, ← EReal.coe_neg, ← EReal.coe_add]
    congr 1
    rw [← neg_mul, Real.log_mul hl'.ne' hr'.ne', one_div, Real.log_inv]
    ring

/-- The two scores have the same pick, when no logarithm of a weight is `+∞`. -/
theorem pick_scores (w : Fin 64 → Word) (x : Fin 64 → EReal) (hx : ∀ p, x p < ⊤) :
    pick (fun p => scoreR (w p) (x p)) = pick (fun p => scoreK (w p) (x p)) := by
  refine pick_congr fun p q => ?_
  rw [scoreR_eq _ (hx p), scoreR_eq _ (hx q), EReal.neg_le_neg_iff, log_le_log, EReal.neg_le_neg_iff]
  · rw [EReal.lt_neg_comm, neg_zero]; exact scoreK_neg _ (hx q)
  · rw [EReal.lt_neg_comm, neg_zero]; exact scoreK_neg _ (hx p)

end Cert.Resample
end
-- ==== Proof.Words.lean ====
module

public import proofs.«01_k».proof.Proof.Score
public import proofs.«01_k».proof.Proof.Cipher
public import Idealize.ShloMosaic.Lib.Pointwise

/-
  Facts of words that both references read: the draws' counters, the uniform's unit, the indices' wrap and range.
-/

@[expose] public section

set_option maxRecDepth 16384

noncomputable section

namespace Cert.Resample

open Idealize.ShloMosaic

/-- A draw's place in row-major order, as the counter computes it. -/
theorem counter (b s p : ℕ) : IntOp.addi (IntOp.addi (IntOp.muli 4096#64 (BitVec.ofNat 64 b))
    (IntOp.muli 64#64 (BitVec.ofNat 64 s))) (IntOp.muli 1#64 (BitVec.ofNat 64 p))
      = BitVec.ofNat 64 (b * 4096 + s * 64 + p) := by
  simp only [IntOp.addi, IntOp.muli, ← BitVec.ofNat_mul, ← BitVec.ofNat_add]
  congr 1
  omega

/-- The counter's upper word is zero. -/
theorem high_zero (n : ℕ) (h : n < 2 ^ 32) :
    BitVec.setWidth 32 (IntOp.shrui .host (BitVec.ofNat 64 n) 32#64) = 0#32 := by
  have e : IntOp.shrui .host (BitVec.ofNat 64 n) 32#64 = BitVec.ofNat 64 n >>> 32 := by
    simp [IntOp.shrui]
  rw [e]
  apply BitVec.eq_of_toNat_eq
  simp only [BitVec.toNat_setWidth, BitVec.toNat_ushiftRight, BitVec.toNat_ofNat, Nat.shiftRight_eq_div_pow]
  omega

/-- The pattern of the uniform's unit is that power of two. -/
theorem unit_bits : Ideal.ofBits .f32 0x34000000#32 = (((2 : ℝ) ^ (-23 : ℤ) : ℝ) : EReal) := by
  simp [Ideal.ofBits, Ideal.ieee]; norm_num [zpow_neg, ← EReal.coe_mul]

/-- The upper bits of a word, as a number, times the unit is the uniform. -/
theorem upper_unit (w : Word) :
    (FloatOps.sitofp (F := Ideal) .f32 (w >>> 9#32) : EReal) * Ideal.ofBits .f32 0x34000000#32 = ((uni w : ℝ) : EReal) := by
  have h := upper_lt w
  show (((w >>> 9#32).toInt : ℝ) : EReal) * _ = _
  rw [BitVec.toInt_eq_toNat_of_lt (by omega), unit_bits, ← EReal.coe_mul]
  unfold uni
  push_cast
  rfl

/-- A conjunction of ones is one. -/
theorem all_one {S D R : Shape} {l : List (Fin S.rank)} (x : IVec S 1) (v : IVec R 1) (r : S.ReducesTo l D) (k : 0 < R.numel) (hx : ∀ i, x i = 1#1) (hv : ∀ i, v i = 1#1) (j : D.Idx) :
    Host.reduce IntOp.andi x v r k j = 1#1 := by
  rw [Host.reduce_eq_foldl, hv]
  generalize List.filter _ _ = L
  induction L with
  | nil => rfl
  | cons a L ih =>
    rw [List.foldl_cons, hx]
    exact ih

/-- A candidate's number is kept by the wrap of negative indices. -/
theorem wrap_word (q : Fin 64) :
    Scalar.select (IntOp.cmpi .slt (BitVec.ofNat 32 q.val) 0#32) (BitVec.ofNat 32 q.val + 262144#32) (BitVec.ofNat 32 q.val)
      = BitVec.ofNat 32 q.val := by
  revert q
  decide

/-- A candidate's number is in the range of the rows. -/
theorem range_word (q : Fin 64) :
    IntOp.andi (IntOp.cmpi .sge (BitVec.ofNat 32 q.val) 0#32) (IntOp.cmpi .sle (BitVec.ofNat 32 q.val) 262143#32) = 1#1 := by
  revert q
  decide

end Cert.Resample
end
-- ==== Proof.ClBits.lean ====
module

public import proofs.«01_k».proof.Proof.ClOps
public import proofs.«01_k».proof.Proof.Cipher
public import proofs.«01_k».proof.Proof.Words
public import Idealize.ShloMosaic.Lib.StableHlo.RunRead
public import Idealize.ShloMosaic.Lib.Pointwise

/-
  The clamped reference's random words: its counters, and its five stretches of the generator, read at an index.
-/

@[expose] public section

set_option maxRecDepth 16384

noncomputable section

namespace Cert.ClampedIdeal.Line

open Idealize.ShloMosaic Idealize.ShloMosaic.TcCoe
open Cert.ClampedIdeal Cert.ClampedIdeal.Facts₀ Cert.ClampedIdeal.Facts
open Cert.Resample

variable [Facts] (V : Valuation τ sig (Elt Ideal))

/-- The buffers of the key hold its three words. -/
structure Keys (V : Valuation τ sig (Elt Ideal)) : Prop where
  k0 : V (Proc.devRef .tc main_v16) = fun _ => 0#32
  k1 : V (Proc.devRef .tc main_v18) = fun _ => 1234#32
  k2 : V (Proc.devRef .tc main_call0_v1) = fun _ => 466689800#32

/-- Stretch 1 of the generator at an index. -/
theorem after_s1 (h : Keys V) (i : S4096x64x64.Idx) :
    ((StableHlo.after s1 V (Proc.devRef .tc main_call0_v35) i : Word), (StableHlo.after s1 V (Proc.devRef .tc main_call0_v39) i : Word)) = stage1 (V (Proc.devRef .tc main_call0_v3) i, V (Proc.devRef .tc main_call0_v5) i) := by
  have e0 : StableHlo.after s1 V (Proc.devRef .tc main_call0_v35) i = (quadA (V (Proc.devRef .tc main_call0_v3) i, V (Proc.devRef .tc main_call0_v5) i)).1 + 1234#32 := by
    after_reads_simp
    rw [h.k1]
    rfl
  have e1 : StableHlo.after s1 V (Proc.devRef .tc main_call0_v39) i = (quadA (V (Proc.devRef .tc main_call0_v3) i, V (Proc.devRef .tc main_call0_v5) i)).2 + 466689800#32 + 1#32 := by
    after_reads_simp
    rw [h.k2]
    rfl
  rw [e0, e1, BitVec.add_assoc]
  rfl

/-- Stretch 1 leaves the key alone. -/
theorem keys_s1 (h : Keys V) : Keys (StableHlo.after s1 V) where
  k0 := by after_reads_simp; exact h.k0
  k1 := by after_reads_simp; exact h.k1
  k2 := by after_reads_simp; exact h.k2

/-- Stretch 2 of the generator at an index. -/
theorem after_s2 (h : Keys V) (i : S4096x64x64.Idx) :
    ((StableHlo.after s2 V (Proc.devRef .tc main_call0_v69) i : Word), (StableHlo.after s2 V (Proc.devRef .tc main_call0_v73) i : Word)) = stage2 (V (Proc.devRef .tc main_call0_v35) i, V (Proc.devRef .tc main_call0_v39) i) := by
  have e0 : StableHlo.after s2 V (Proc.devRef .tc main_call0_v69) i = (quadB (V (Proc.devRef .tc main_call0_v35) i, V (Proc.devRef .tc main_call0_v39) i)).1 + 466689800#32 := by
    after_reads_simp
    rw [h.k2]
    rfl
  have e1 : StableHlo.after s2 V (Proc.devRef .tc main_call0_v73) i = (quadB (V (Proc.devRef .tc main_call0_v35) i, V (Proc.devRef .tc main_call0_v39) i)).2 + 0#32 + 2#32 := by
    after_reads_simp
    rw [h.k0]
    rfl
  rw [e0, e1, BitVec.add_assoc]
  rfl

/-- Stretch 2 leaves the key alone. -/
theorem keys_s2 (h : Keys V) : Keys (StableHlo.after s2 V) where
  k0 := by after_reads_simp; exact h.k0
  k1 := by after_reads_simp; exact h.k1
  k2 := by after_reads_simp; exact h.k2

/-- Stretch 3 of the generator at an index. -/
theorem after_s3 (h : Keys V) (i : S4096x64x64.Idx) :
    ((StableHlo.after s3 V (Proc.devRef .tc main_call0_v103) i : Word), (StableHlo.after s3 V (Proc.devRef .tc main_call0_v107) i : Word)) = stage3 (V (Proc.devRef .tc main_call0_v69) i, V (Proc.devRef .tc main_call0_v73) i) := by
  have e0 : StableHlo.after s3 V (Proc.devRef .tc main_call0_v103) i = (quadA (V (Proc.devRef .tc main_call0_v69) i, V (Proc.devRef .tc main_call0_v73) i)).1 + 0#32 := by
    after_reads_simp
    rw [h.k0]
    rfl
  have e1 : StableHlo.after s3 V (Proc.devRef .tc main_call0_v107) i = (quadA (V (Proc.devRef .tc main_call0_v69) i, V (Proc.devRef .tc main_call0_v73) i)).2 + 1234#32 + 3#32 := by
    after_reads_simp
    rw [h.k1]
    rfl
  rw [e0, e1, BitVec.add_assoc, BitVec.add_zero]
  rfl

/-- Stretch 3 leaves the key alone. -/
theorem keys_s3 (h : Keys V) : Keys (StableHlo.after s3 V) where
  k0 := by after_reads_simp; exact h.k0
  k1 := by after_reads_simp; exact h.k1
  k2 := by after_reads_simp; exact h.k2

/-- Stretch 4 of the generator at an index. -/
theorem after_s4 (h : Keys V) (i : S4096x64x64.Idx) :
    ((StableHlo.after s4 V (Proc.devRef .tc main_call0_v137) i : Word), (StableHlo.after s4 V (Proc.devRef .tc main_call0_v141) i : Word)) = stage4 (V (Proc.devRef .tc main_call0_v103) i, V (Proc.devRef .tc main_call0_v107) i) := by
  have e0 : StableHlo.after s4 V (Proc.devRef .tc main_call0_v137) i = (quadB (V (Proc.devRef .tc main_call0_v103) i, V (Proc.devRef .tc main_call0_v107) i)).1 + 1234#32 := by
    after_reads_simp
    rw [h.k1]
    rfl
  have e1 : StableHlo.after s4 V (Proc.devRef .tc main_call0_v141) i = (quadB (V (Proc.devRef .tc main_call0_v103) i, V (Proc.devRef .tc main_call0_v107) i)).2 + 466689800#32 + 4#32 := by
    after_reads_simp
    rw [h.k2]
    rfl
  rw [e0, e1, BitVec.add_assoc]
  rfl

/-- Stretch 4 leaves the key alone. -/
theorem keys_s4 (h : Keys V) : Keys (StableHlo.after s4 V) where
  k0 := by after_reads_simp; exact h.k0
  k1 := by after_reads_simp; exact h.k1
  k2 := by after_reads_simp; exact h.k2

/-- Stretch 5 of the generator at an index. -/
theorem after_s5 (h : Keys V) (i : S4096x64x64.Idx) :
    ((StableHlo.after s5 V (Proc.devRef .tc main_v34_0) i : Word), (StableHlo.after s5 V (Proc.devRef .tc main_v34_1) i : Word)) = stage5 (V (Proc.devRef .tc main_call0_v137) i, V (Proc.devRef .tc main_call0_v141) i) := by
  have e0 : StableHlo.after s5 V (Proc.devRef .tc main_v34_0) i = (quadA (V (Proc.devRef .tc main_call0_v137) i, V (Proc.devRef .tc main_call0_v141) i)).1 + 466689800#32 := by
    after_reads_simp
    rw [h.k2]
    rfl
  have e1 : StableHlo.after s5 V (Proc.devRef .tc main_v34_1) i = (quadA (V (Proc.devRef .tc main_call0_v137) i, V (Proc.devRef .tc main_call0_v141) i)).2 + 0#32 + 5#32 := by
    after_reads_simp
    rw [h.k0]
    rfl
  rw [e0, e1, BitVec.add_assoc]
  rfl

/-- Stretch 5 leaves the key alone. -/
theorem keys_s5 (h : Keys V) : Keys (StableHlo.after s5 V) where
  k0 := by after_reads_simp; exact h.k0
  k1 := by after_reads_simp; exact h.k1
  k2 := by after_reads_simp; exact h.k2

/-- The key's high word. -/
theorem word_hi (i : S_.Idx) : StableHlo.after s0 V (Proc.devRef .tc main_v16) i = 0#32 := by
  after_reads_simp
  pointwise []
  after_reads_simp
  pointwise []
  rfl

/-- The key's low word. -/
theorem word_lo (i : S_.Idx) : StableHlo.after s0 V (Proc.devRef .tc main_v18) i = 1234#32 := by
  after_reads_simp
  pointwise []
  after_reads_simp
  pointwise []
  rfl

/-- The opening stretch spells out the key. -/
theorem keys_s0 : Keys (StableHlo.after s0 V) where
  k0 := funext fun i => word_hi V i
  k1 := funext fun i => word_lo V i
  k2 := by
    funext i
    have e : ∀ a c : Word, StableHlo.after s0 V (Proc.devRef .tc main_v16) i = a →
        StableHlo.after s0 V (Proc.devRef .tc main_v18) i = c →
        StableHlo.after s0 V (Proc.devRef .tc main_call0_v1) i = (a ^^^ c) ^^^ 466688986#32 := by
      rintro _ _ rfl rfl
      after_reads_simp
      rfl
    rw [e _ _ (word_hi V i) (word_lo V i)]
    rfl

/-- The generator starts from zero and the draw's place plus the key. -/
theorem after_s0 (b : Fin 4096) (s p : Fin 64) :
    ((StableHlo.after s0 V (Proc.devRef .tc main_call0_v3) (ix3 b s p) : Word), (StableHlo.after s0 V (Proc.devRef .tc main_call0_v5) (ix3 b s p) : Word))
      = (0#32, BitVec.ofNat 32 (b.val * 4096 + s.val * 64 + p.val) + 1234#32) := by
  have e0 : ∀ a c : Word, StableHlo.after s0 V (Proc.devRef .tc main_v33) (ix3 b s p) = a →
      StableHlo.after s0 V (Proc.devRef .tc main_v16) ix0 = c → StableHlo.after s0 V (Proc.devRef .tc main_call0_v3) (ix3 b s p) = a + c := by
    rintro _ _ rfl rfl
    after_reads_simp
    pointwise []
    rfl
  have e1 : ∀ a c : Word, StableHlo.after s0 V (Proc.devRef .tc main_v32) (ix3 b s p) = a →
      StableHlo.after s0 V (Proc.devRef .tc main_v18) ix0 = c → StableHlo.after s0 V (Proc.devRef .tc main_call0_v5) (ix3 b s p) = a + c := by
    rintro _ _ rfl rfl
    after_reads_simp
    pointwise []
    rfl
  have e2 : StableHlo.after s0 V (Proc.devRef .tc main_v33) (ix3 b s p) = 0#32 := by
    after_reads_simp
    pointwise []
    rw [counter, high_zero _ (by omega)]
  have e3 : StableHlo.after s0 V (Proc.devRef .tc main_v32) (ix3 b s p)
      = BitVec.ofNat 32 (b.val * 4096 + s.val * 64 + p.val) := by
    after_reads_simp
    pointwise []
    rw [counter, BitVec.setWidth_ofNat_of_le (by decide)]
  rw [e0 _ _ e2 (word_hi V _), e1 _ _ e3 (word_lo V _)]
  rfl

end Cert.ClampedIdeal.Line
-- ==== Proof.ClPick.lean ====
module

public import proofs.«01_k».proof.Proof.ClOps
public import proofs.«01_k».proof.Proof.Pick
public import Idealize.ShloMosaic.Lib.Pointwise
public import Idealize.ShloMosaic.PureOps.Ideal.Laws

/-
  The clamped reference's arg-max over the candidates is the pick.
-/

@[expose] public section

set_option maxRecDepth 16384

noncomputable section

namespace Cert.ClampedIdeal.Line

open Idealize.ShloMosaic Idealize.ShloMosaic.TcCoe
open Cert.ClampedIdeal Cert.ClampedIdeal.Facts₀ Cert.ClampedIdeal.Facts
open Cert.Resample

variable [Facts]

/-- One step of the arg-max keeps the better of its two pairs. -/
theorem step_better (a b : EReal × Word) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨a1, a2⟩ := a
  obtain ⟨b1, b2⟩ := b
  unfold reducer_argmax_f32_i32
  simp only [Ideal.cmpf_def]
  rcases lt_trichotomy a1 b1 with h | rfl | h
  · simp [Ideal.cmp, IntOp.ori, IntOp.andi, Scalar.select, h, h.le, h.ne, not_lt.2 h.le, Beats]
  · by_cases k : a2.slt b2
    · have k' := BitVec.slt_iff_toInt_lt.1 k
      simp [Ideal.cmp, IntOp.ori, IntOp.andi, IntOp.cmpi, Scalar.select, k, k'.le, Beats]
    · have k' : b2.toInt ≤ a2.toInt := not_lt.1 fun h => k (BitVec.slt_iff_toInt_lt.2 h)
      simp [Ideal.cmp, IntOp.ori, IntOp.andi, IntOp.cmpi, Scalar.select, k, k', Beats]
  · simp [Ideal.cmp, IntOp.ori, IntOp.andi, Scalar.select, h, h.ne', Beats]

/-- An index of the scores lies over a batch and new particle exactly when its first two coordinates do. -/
theorem drop_eq (i : S4096x64x64.Idx) (b : Fin 4096) (s : Fin 64) :
    reducesTo_S4096x64x64_S4096x64_d2.drop i = ix2 b s ↔ i = ix3 b s (i 2) := by
  constructor
  · intro h
    have h0 := congrArg Fin.val (congrFun h 0)
    have h1 := congrArg Fin.val (congrFun h 1)
    have e0 := Shape.ReducesTo.drop_apply_val_of_eq reducesTo_S4096x64x64_S4096x64_d2 i 0 0
    have e1 := Shape.ReducesTo.drop_apply_val_of_eq reducesTo_S4096x64x64_S4096x64_d2 i 1 1
    funext a
    refine Fin.ext ?_
    match a with
    | 0 => exact e0.symm.trans h0
    | 1 => exact e1.symm.trans h1
    | 2 => rfl
  · intro h
    rw [h]
    funext a
    refine Fin.ext ?_
    match a with
    | 0 => exact Shape.ReducesTo.drop_apply_val_of_eq reducesTo_S4096x64x64_S4096x64_d2 _ 0 0
    | 1 => exact Shape.ReducesTo.drop_apply_val_of_eq reducesTo_S4096x64x64_S4096x64_d2 _ 1 1

/-- The arg-max over the candidates of one batch and new particle. -/
theorem argmax_apply (x : FVec Ideal S4096x64x64 .f32) (b : Fin 4096) (s : Fin 64) :
    (Host.argReduce reducer_argmax_f32_i32 x (iotaInDim S4096x64x64 32 2) (constant (F := Ideal) S_ .f32 0xFF800000#32)
      (constantI S_ 32 0#32) reducesTo_S4096x64x64_S4096x64_d2 h_S_ (ix2 b s)).2
      = BitVec.ofNat 32 (pick fun p => x (ix3 b s p)).val := by
  rw [Ideal.argReduce_eq_reduce2, Host.reduce2_eq_foldl_fiber]
  have e : ((constant (F := Ideal) S_ .f32 0xFF800000#32 (Shape.Idx.first h_S_) : EReal),
      constantI S_ 32 0#32 (Shape.Idx.first h_S_)) = (⊥, 0#32) := by
    refine Prod.ext ?_ rfl
    show Ideal.ofBits .f32 0xFF800000#32 = ⊥
    simp [Ideal.ofBits, Ideal.ieee]
  rw [e]
  obtain ⟨h1, h2, h3⟩ := foldl_beats (reducer_argmax_f32_i32 (F := Ideal)) step_better
    (Host.argReduceFiber x (iotaInDim S4096x64x64 32 2) reducesTo_S4096x64x64_S4096x64_d2 (ix2 b s)) ((⊥ : EReal), 0#32)
  have hm : ∀ r : EReal × Word, r ∈ Host.argReduceFiber x (iotaInDim S4096x64x64 32 2)
      reducesTo_S4096x64x64_S4096x64_d2 (ix2 b s) ↔ ∃ p : Fin 64, r = (x (ix3 b s p), BitVec.ofNat 32 p.val) := by
    intro r
    unfold Host.argReduceFiber
    simp only [List.mem_map, List.mem_filter, List.mem_finRange, true_and, decide_eq_true_eq]
    constructor
    · rintro ⟨n, hn, rfl⟩
      have hi := (drop_eq _ _ _).1 hn
      refine ⟨S4096x64x64.rowMajor.symm n 2, Prod.ext ?_ rfl⟩
      exact congrArg x hi
    · rintro ⟨p, rfl⟩
      refine ⟨S4096x64x64.rowMajor (ix3 b s p), ?_, ?_⟩
      · rw [Equiv.symm_apply_apply]
        exact (drop_eq _ _ _).2 rfl
      · rw [Equiv.symm_apply_apply]
        rfl
  refine beats_pick (fun p => x (ix3 b s p)) _ ?_ fun p => h3 _ ((hm _).2 ⟨p, rfl⟩)
  exact h1.imp id fun h => (hm _).1 h

end Cert.ClampedIdeal.Line
-- ==== Proof.Spec.lean ====
module

public import proofs.«01_k».proof.Proof.Score

/-
  The two results as functions of the log-weights, the form in which both programs are read.
-/

@[expose] public section

noncomputable section

namespace Cert.Resample

open Idealize.ShloMosaic

/-- The log-weight of particle `p` in batch `b`: the column of log-weights cut into 64 rows of 4096. -/
def lw (x : Fin 262144 → EReal) (p : Fin 64) (b : Fin 4096) : EReal := x ⟨p.val * 4096 + b.val, by omega⟩

/-- The word drawn for batch `b`, new particle `s` and candidate `p`: the generator at the draw's place in
    row-major order. -/
def draw (b : Fin 4096) (s p : Fin 64) : Word := bits (BitVec.ofNat 32 (b.val * 4096 + s.val * 64 + p.val))

/-- The candidate chosen for new particle `s` of batch `b`. -/
def choice (x : Fin 262144 → EReal) (b : Fin 4096) (s : Fin 64) : Fin 64 :=
  pick fun p => scoreK (draw b s p) (lw x p b)

/-- A candidate's number as a row of the arguments. -/
def row (q : Fin 64) : Fin 262144 := ⟨q.val, by omega⟩

/-- The corrected log-weight of a taken particle, before normalising. -/
def gain (x : EReal) : EReal := Ideal.log (Ideal.div (Ideal.exp x) (weight x))

/-- The new log-weight of particle `s` of batch `b`, before normalising. -/
def newGain (x : Fin 262144 → EReal) (s : Fin 64) (b : Fin 4096) : EReal := gain (x (row (choice x b s)))

/-- The new log-weight, normalised over the batch's 64 new particles. -/
def newWeight (x : Fin 262144 → EReal) (s : Fin 64) (b : Fin 4096) : EReal :=
  newGain x s b - Ideal.log (∑ k : Fin 64, Ideal.exp (newGain x k b))

/-- One column's logarithm of summed exponentials, shifted by its largest entry. -/
def shifted (f : Fin 64 → EReal) : EReal :=
  Finset.univ.fold max ⊥ f + Ideal.log (∑ s : Fin 64, Ideal.exp (f s - Finset.univ.fold max ⊥ f))

end Cert.Resample
-- ==== Proof.Lanes.lean ====
module

public import proofs.«01_k».proof.Proof.Cipher

/-
  Many words at once: a row of words packed into one number, 64 bits each, and the generator on such numbers.
-/

@[expose] public section

namespace Cert.Resample.Lanes

/-- Numbers packed into one, 64 bits each. -/
def pack (f : ℕ → ℕ) : ℕ → ℕ
  | 0 => 0
  | n + 1 => f 0 + 2 ^ 64 * pack (fun i => f (i + 1)) n

/-- `2 ^ k` ones. -/
def ones : ℕ → ℕ
  | 0 => 1
  | k + 1 => ones k + 2 ^ (64 * 2 ^ k) * ones k

/-- The first `2 ^ k` numbers. -/
def iota : ℕ → ℕ
  | 0 => 0
  | k + 1 => iota k + 2 ^ (64 * 2 ^ k) * (iota k + 2 ^ k * ones k)

/-- The low halves of the lanes. -/
def low (k : ℕ) : ℕ := (2 ^ 32 - 1) * ones k

/-- The high halves of the lanes. -/
def high (k : ℕ) : ℕ := 2 ^ 32 * low k

/-- A sum of lanes, wrapped. -/
def addL (k x y : ℕ) : ℕ := (x + y) &&& low k

/-- Lanes rotated to the left by `r`. -/
def rotL (k r x : ℕ) : ℕ := (2 ^ r * x &&& low k) + (2 ^ r * x &&& high k) / 2 ^ 32

/-- One round on lanes. -/
def rndL (k r : ℕ) (s : ℕ × ℕ) : ℕ × ℕ := (addL k s.1 s.2, addL k s.1 s.2 ^^^ rotL k r s.2)

/-- One key injection on lanes. -/
def injL (k a b : ℕ) (s : ℕ × ℕ) : ℕ × ℕ := (addL k s.1 (a * ones k), addL k s.2 (b * ones k))

/-- Four rounds of the first kind. -/
def quadAL (k : ℕ) (s : ℕ × ℕ) : ℕ × ℕ := rndL k 6 (rndL k 26 (rndL k 15 (rndL k 13 s)))
/-- Four rounds of the second kind. -/
def quadBL (k : ℕ) (s : ℕ × ℕ) : ℕ × ℕ := rndL k 24 (rndL k 16 (rndL k 29 (rndL k 17 s)))

/-- The cipher on lanes. -/
def cipherL (k : ℕ) (s : ℕ × ℕ) : ℕ × ℕ :=
  injL k 466689800 5 (quadAL k (injL k 1234 466689804 (quadBL k (injL k 0 1237 (quadAL k
    (injL k 466689800 2 (quadBL k (injL k 1234 466689801 (quadAL k s)))))))))

/-- The exclusive or of a pair. -/
def mixL (s : ℕ × ℕ) : ℕ := s.1 ^^^ s.2

/-- One in lane `j`, if there is such a lane. -/
def hole (k j : ℕ) : ℕ := if j < 2 ^ k then 2 ^ (64 * j) else 0

/-- Whether the words `n`, …, `n + 2 ^ k - 1` of the stream all have one of their upper 23 bits set, but for the one
    in lane `j`. -/
def clear (k n j : ℕ) : Bool :=
  (mixL (cipherL k (0, iota k + (n + 1234) * ones k)) + (2 ^ 32 - 2 ^ 9) * ones k &&& 2 ^ 32 * ones k) + 2 ^ 32 * hole k j
    == 2 ^ 32 * ones k

/-- Packed numbers that agree below `n` pack to the same number. -/
theorem pack_congr {f g : ℕ → ℕ} {n : ℕ} (h : ∀ i < n, f i = g i) : pack f n = pack g n := by
  induction n generalizing f g with
  | zero => rfl
  | succ n ih => rw [pack, pack, h 0 (by omega), ih fun i hi => h (i + 1) (by omega)]

/-- Packed numbers add lane by lane. -/
theorem pack_add (f g : ℕ → ℕ) (n : ℕ) : pack f n + pack g n = pack (fun i => f i + g i) n := by
  induction n generalizing f g with
  | zero => rfl
  | succ n ih => rw [pack, pack, pack, ← ih]; ring

/-- A factor goes into the lanes. -/
theorem mul_pack (c : ℕ) (f : ℕ → ℕ) (n : ℕ) : c * pack f n = pack (fun i => c * f i) n := by
  induction n generalizing f with
  | zero => rfl
  | succ n ih => rw [pack, pack, ← ih]; ring

/-- A row of lanes is cut in two. -/
theorem pack_append (f : ℕ → ℕ) (m n : ℕ) : pack f (m + n) = pack f m + 2 ^ (64 * m) * pack (fun i => f (i + m)) n := by
  induction m generalizing f with
  | zero => simp [pack]
  | succ m ih =>
    rw [show m + 1 + n = (m + n) + 1 by omega, pack, pack, ih, show 64 * (m + 1) = 64 * m + 64 by omega, pow_add]
    have e : (fun i => f (i + m + 1)) = fun i => f (i + (m + 1)) := rfl
    rw [e]
    ring

/-- The ones, as a row of lanes. -/
theorem ones_eq (k : ℕ) : ones k = pack (fun _ => 1) (2 ^ k) := by
  induction k with
  | zero => rfl
  | succ k ih => rw [ones, ih, show 2 ^ (k + 1) = 2 ^ k + 2 ^ k by omega, pack_append]

/-- A constant row of lanes. -/
theorem const_eq (c k : ℕ) : c * ones k = pack (fun _ => c) (2 ^ k) := by
  rw [ones_eq, mul_pack]
  simp

/-- The first numbers, as a row of lanes. -/
theorem iota_eq (k : ℕ) : iota k = pack (fun i => i) (2 ^ k) := by
  induction k with
  | zero => rfl
  | succ k ih => rw [iota, ih, const_eq, pack_add, show 2 ^ (k + 1) = 2 ^ k + 2 ^ k by omega, pack_append]

/-- The one lane, as a row of lanes. -/
theorem hole_eq (k j : ℕ) : hole k j = pack (fun i => if i = j then 1 else 0) (2 ^ k) := by
  have z : ∀ n : ℕ, pack (fun _ => 0) n = 0 := fun n => by
    induction n with
    | zero => rfl
    | succ n ih => rw [pack, ih, mul_zero, add_zero]
  have h : ∀ n j : ℕ, pack (fun i => if i = j then 1 else 0) n = if j < n then 2 ^ (64 * j) else 0 := by
    intro n
    induction n with
    | zero => intro j; rfl
    | succ n ih =>
      intro j
      rw [pack]
      cases j with
      | zero =>
        have e : (fun i => if i + 1 = 0 then 1 else 0) = fun _ : ℕ => 0 := funext fun i => if_neg (by omega)
        rw [e, z]
        simp
      | succ j =>
        have e : (fun i => if i + 1 = j + 1 then 1 else 0) = fun i : ℕ => if i = j then 1 else 0 := by
          funext i; simp
        rw [e, ih, if_neg (by omega)]
        by_cases hj : j < n
        · rw [if_pos hj, if_pos (by omega), show 64 * (j + 1) = 64 + 64 * j by omega, pow_add]; omega
        · rw [if_neg hj, if_neg (by omega), mul_zero, add_zero]
  rw [h, hole]

/-- A bitwise operation on two numbers split at bit 64 works on the two parts. -/
theorem land_split (a b A B : ℕ) (ha : a < 2 ^ 64) (hb : b < 2 ^ 64) :
    (a + 2 ^ 64 * A) &&& (b + 2 ^ 64 * B) = (a &&& b) + 2 ^ 64 * (A &&& B) := by
  apply Nat.eq_of_testBit_eq
  intro i
  rw [Nat.testBit_and, add_comm a, add_comm b, add_comm (a &&& b), Nat.testBit_two_pow_mul_add _ ha,
    Nat.testBit_two_pow_mul_add _ hb, Nat.testBit_two_pow_mul_add _ (Nat.and_lt_two_pow _ hb)]
  split <;> simp

/-- The same for the exclusive or. -/
theorem xor_split (a b A B : ℕ) (ha : a < 2 ^ 64) (hb : b < 2 ^ 64) :
    (a + 2 ^ 64 * A) ^^^ (b + 2 ^ 64 * B) = (a ^^^ b) + 2 ^ 64 * (A ^^^ B) := by
  apply Nat.eq_of_testBit_eq
  intro i
  rw [Nat.testBit_xor, add_comm a, add_comm b, add_comm (a ^^^ b), Nat.testBit_two_pow_mul_add _ ha,
    Nat.testBit_two_pow_mul_add _ hb, Nat.testBit_two_pow_mul_add _ (Nat.xor_lt_two_pow ha hb)]
  split <;> simp

/-- Rows of lanes meet lane by lane. -/
theorem pack_land (f g : ℕ → ℕ) (n : ℕ) (hf : ∀ i, f i < 2 ^ 64) (hg : ∀ i, g i < 2 ^ 64) :
    pack f n &&& pack g n = pack (fun i => f i &&& g i) n := by
  induction n generalizing f g with
  | zero => exact Nat.and_self 0
  | succ n ih => rw [pack, pack, pack, land_split _ _ _ _ (hf 0) (hg 0), ih _ _ (fun i => hf _) fun i => hg _]

/-- Rows of lanes take the exclusive or lane by lane. -/
theorem pack_xor (f g : ℕ → ℕ) (n : ℕ) (hf : ∀ i, f i < 2 ^ 64) (hg : ∀ i, g i < 2 ^ 64) :
    pack f n ^^^ pack g n = pack (fun i => f i ^^^ g i) n := by
  induction n generalizing f g with
  | zero => exact Nat.xor_self 0
  | succ n ih => rw [pack, pack, pack, xor_split _ _ _ _ (hf 0) (hg 0), ih _ _ (fun i => hf _) fun i => hg _]

/-- Equal rows have equal lanes. -/
theorem pack_inj {f g : ℕ → ℕ} {n : ℕ} (hf : ∀ i, f i < 2 ^ 64) (hg : ∀ i, g i < 2 ^ 64) (h : pack f n = pack g n) :
    ∀ i < n, f i = g i := by
  induction n generalizing f g with
  | zero => intro i hi; omega
  | succ n ih =>
    rw [pack, pack] at h
    have h0 := hf 0
    have h1 := hg 0
    have e0 : f 0 = g 0 := by omega
    have e1 := ih (fun i => hf (i + 1)) (fun i => hg (i + 1)) (by omega)
    intro i hi
    cases i with
    | zero => exact e0
    | succ i => exact e1 i (by omega)

/-- A row of words. -/
def row (k : ℕ) (w : ℕ → Word) : ℕ := pack (fun i => (w i).toNat) (2 ^ k)

/-- Two rows of words. -/
def rows (k : ℕ) (s : ℕ → Word × Word) : ℕ × ℕ := (row k fun i => (s i).1, row k fun i => (s i).2)

/-- A word fits its lane. -/
theorem word_lt (w : Word) : w.toNat < 2 ^ 64 := lt_of_lt_of_le w.isLt (by norm_num)

/-- Rows of words add as words. -/
theorem addL_row (k : ℕ) (v w : ℕ → Word) : addL k (row k v) (row k w) = row k fun i => v i + w i := by
  unfold addL row low
  rw [pack_add, const_eq, pack_land _ _ _ (fun i => by have := (v i).isLt; have := (w i).isLt; omega) (fun i => by norm_num)]
  refine pack_congr fun i _ => ?_
  rw [Nat.and_two_pow_sub_one_eq_mod, BitVec.toNat_add]

/-- Rows of words take the exclusive or as words. -/
theorem xor_row (k : ℕ) (v w : ℕ → Word) : row k v ^^^ row k w = row k fun i => v i ^^^ w i := by
  unfold row
  rw [pack_xor _ _ _ (fun i => word_lt _) fun i => word_lt _]
  refine pack_congr fun i _ => ?_
  rw [BitVec.toNat_xor]

/-- A word's rotation, from its shift into 64 bits. -/
theorem rotl_nat (r q : ℕ) (h : r + q = 32) (w : Word) :
    (2 ^ r * w.toNat) % 2 ^ 32 + (2 ^ r * w.toNat) / 2 ^ 32 = (rotl (BitVec.ofNat 32 r) (BitVec.ofNat 32 q) w).toNat := by
  have hw := w.isLt
  have hp : 2 ^ 32 = 2 ^ r * 2 ^ q := by rw [← pow_add, h]
  have hq : w.toNat / 2 ^ q < 2 ^ r := by
    rw [Nat.div_lt_iff_lt_mul (by positivity), ← hp]
    exact hw
  have hr : (BitVec.ofNat 32 r).toNat = r := by rw [BitVec.toNat_ofNat]; omega
  have hq' : (BitVec.ofNat 32 q).toNat = q := by rw [BitVec.toNat_ofNat]; omega
  unfold rotl
  rw [BitVec.shiftLeft_eq', BitVec.ushiftRight_eq', hr, hq', BitVec.toNat_or, BitVec.toNat_shiftLeft, BitVec.toNat_ushiftRight,
    Nat.shiftLeft_eq, Nat.shiftRight_eq_div_pow, mul_comm w.toNat, hp, Nat.mul_mod_mul_left, Nat.mul_div_mul_left _ _ (by positivity),
    Nat.two_pow_add_eq_or_of_lt hq]

/-- The high half of a number below `2 ^ 64`. -/
theorem and_high (x : ℕ) (hx : x < 2 ^ 64) : x &&& 2 ^ 32 * (2 ^ 32 - 1) = 2 ^ 32 * (x / 2 ^ 32) := by
  apply Nat.eq_of_testBit_eq
  intro i
  rw [Nat.testBit_and, Nat.testBit_two_pow_mul, Nat.testBit_two_pow_mul, Nat.testBit_two_pow_sub_one, Nat.testBit_div_two_pow]
  by_cases h : 32 ≤ i
  · by_cases h' : i < 64
    · have e : i - 32 + 32 = i := by omega
      simp [h, e, show i - 32 < 32 by omega]
    · have e : x.testBit i = false := Nat.testBit_lt_two_pow (lt_of_lt_of_le hx (Nat.pow_le_pow_right (by norm_num) (by omega)))
      have e' : i - 32 + 32 = i := by omega
      simp [e, e']
  · simp [h]

/-- A row of words is rotated word by word. -/
theorem rotL_row (k r q : ℕ) (h : r + q = 32) (w : ℕ → Word) :
    rotL k r (row k w) = row k fun i => rotl (BitVec.ofNat 32 r) (BitVec.ofNat 32 q) (w i) := by
  have hb : ∀ i, 2 ^ r * (w i).toNat < 2 ^ 64 := fun i => by
    have h1 : 2 ^ r ≤ 2 ^ 32 := Nat.pow_le_pow_right (by norm_num) (by omega)
    have h2 := (w i).isLt
    calc 2 ^ r * (w i).toNat < 2 ^ 32 * 2 ^ 32 := Nat.mul_lt_mul_of_le_of_lt h1 h2 (by norm_num)
      _ = 2 ^ 64 := by norm_num
  unfold rotL high low row
  rw [mul_pack, const_eq, mul_pack, pack_land _ _ _ hb (fun i => by norm_num), pack_land _ _ _ hb (fun i => by norm_num)]
  have e : pack (fun i => 2 ^ r * (w i).toNat &&& 2 ^ 32 * (2 ^ 32 - 1)) (2 ^ k)
      = 2 ^ 32 * pack (fun i => 2 ^ r * (w i).toNat / 2 ^ 32) (2 ^ k) := by
    rw [mul_pack]
    exact pack_congr fun i _ => and_high _ (hb i)
  rw [e, Nat.mul_div_cancel_left _ (by norm_num), pack_add]
  refine pack_congr fun i _ => ?_
  rw [Nat.and_two_pow_sub_one_eq_mod, rotl_nat r q h]

/-- One round on rows of words. -/
theorem rndL_rows (k r q : ℕ) (h : r + q = 32) (s : ℕ → Word × Word) :
    rndL k r (rows k s) = rows k fun i => rnd (BitVec.ofNat 32 r) (BitVec.ofNat 32 q) (s i) := by
  unfold rndL rows rnd
  simp only
  rw [addL_row, rotL_row k r q h, xor_row]

/-- A constant row of words. -/
theorem const_row (k a : ℕ) (ha : a < 2 ^ 32) : a * ones k = row k fun _ => BitVec.ofNat 32 a := by
  rw [const_eq, row]
  refine pack_congr fun i _ => ?_
  rw [BitVec.toNat_ofNat, Nat.mod_eq_of_lt ha]

/-- One key injection on rows of words. -/
theorem injL_rows (k a b : ℕ) (ha : a < 2 ^ 32) (hb : b < 2 ^ 32) (s : ℕ → Word × Word) :
    injL k a b (rows k s) = rows k fun i => inj (BitVec.ofNat 32 a) (BitVec.ofNat 32 b) (s i) := by
  unfold injL rows inj
  simp only
  rw [const_row k a ha, const_row k b hb, addL_row, addL_row]

/-- The cipher on rows of words. -/
theorem cipherL_rows (k : ℕ) (s : ℕ → Word × Word) : cipherL k (rows k s) = rows k fun i => cipher (s i) := by
  have e : ∀ p : Word × Word, inj2 1237#32 p = inj 0#32 1237#32 p := fun p => by simp [inj2, inj]
  unfold cipherL cipher stage1 stage2 stage3 stage4 stage5 quadAL quadBL quadA quadB
  simp only [e, rndL_rows k 13 19 rfl, rndL_rows k 15 17 rfl, rndL_rows k 26 6 rfl, rndL_rows k 6 26 rfl,
    rndL_rows k 17 15 rfl, rndL_rows k 29 3 rfl, rndL_rows k 16 16 rfl, rndL_rows k 24 8 rfl,
    injL_rows k 1234 466689801 (by norm_num) (by norm_num), injL_rows k 466689800 2 (by norm_num) (by norm_num),
    injL_rows k 0 1237 (by norm_num) (by norm_num), injL_rows k 1234 466689804 (by norm_num) (by norm_num),
    injL_rows k 466689800 5 (by norm_num) (by norm_num)]

/-- The check's meaning: every word of the stretch but one has one of its upper 23 bits set. -/
theorem clear_spec {k n j : ℕ} (hn : n + 1234 + 2 ^ k ≤ 2 ^ 32) (h : clear k n j = true) (i : ℕ) (hi : i < 2 ^ k) (hj : i ≠ j) :
    2 ^ 9 ≤ (bits (BitVec.ofNat 32 (n + i))).toNat := by
  have e : (0, iota k + (n + 1234) * ones k) = rows k fun i => (0#32, BitVec.ofNat 32 (n + i) + 1234#32) := by
    unfold rows row
    rw [iota_eq, const_eq, pack_add]
    refine Prod.ext ?_ (pack_congr fun i hi => ?_)
    · have := const_row k 0 (by norm_num)
      rw [zero_mul] at this
      exact this
    · show i + (n + 1234) = _
      rw [BitVec.toNat_add, BitVec.toNat_ofNat]
      simp only [BitVec.toNat_ofNat]
      omega
  have h' := eq_of_beq h
  rw [e, cipherL_rows] at h'
  unfold mixL rows at h'
  simp only at h'
  rw [xor_row, row, const_eq, const_eq, pack_add, hole_eq, mul_pack, pack_land _ _ _ (fun i => ?_) (fun i => by norm_num),
    pack_add] at h'
  · have h2 := pack_inj (fun i => ?_) (fun i => by norm_num) h' i hi
    · simp only [if_neg hj] at h2
      show 2 ^ 9 ≤ ((cipher (0#32, BitVec.ofNat 32 (n + i) + 1234#32)).1 ^^^ (cipher (0#32, BitVec.ofNat 32 (n + i) + 1234#32)).2).toNat
      by_contra hlt
      rw [not_le] at hlt
      generalize BitVec.toNat _ = x at h2 hlt
      have h3 : (x + (2 ^ 32 - 2 ^ 9)) &&& 2 ^ 32 = 0 := by
        apply Nat.eq_of_testBit_eq
        intro l
        rw [Nat.testBit_and, Nat.testBit_two_pow, Nat.zero_testBit]
        by_cases hl : 32 = l
        · subst hl
          rw [Nat.testBit_lt_two_pow (by omega)]
          rfl
        · simp [hl]
      omega
    · have h1 : (fun i => BitVec.toNat ((cipher (0#32, BitVec.ofNat 32 (n + i) + 1234#32)).1 ^^^ (cipher (0#32, BitVec.ofNat 32 (n + i) + 1234#32)).2) + (2 ^ 32 - 2 ^ 9) &&& 2 ^ 32) i ≤ 2 ^ 32 := Nat.and_le_right
      simp only at h1 ⊢
      split <;> omega
  · have := BitVec.isLt ((cipher (0#32, BitVec.ofNat 32 (n + i) + 1234#32)).1 ^^^ (cipher (0#32, BitVec.ofNat 32 (n + i) + 1234#32)).2)
    omega

end Cert.Resample.Lanes
-- ==== Proof.Zeros.lean ====
module

public import proofs.«01_k».proof.Proof.Lanes

/-
  Where the stream has a word whose upper 23 bits are all zero: four places among the draws of the step, found by
  checking the stream in stretches of `2 ^ 18` words.
-/

@[expose] public section

set_option maxRecDepth 16384

namespace Cert.Resample.Lanes

/-- All words of stretch 0 have an upper bit set. -/
theorem clear_0 : clear 18 0 262144 = true := by decide +kernel
/-- All words of stretch 1 have an upper bit set. -/
theorem clear_1 : clear 18 262144 262144 = true := by decide +kernel
/-- All words of stretch 2 have an upper bit set. -/
theorem clear_2 : clear 18 524288 262144 = true := by decide +kernel
/-- All words of stretch 3 have an upper bit set. -/
theorem clear_3 : clear 18 786432 262144 = true := by decide +kernel
/-- All words of stretch 4 have an upper bit set. -/
theorem clear_4 : clear 18 1048576 262144 = true := by decide +kernel
/-- All words of stretch 5 have an upper bit set. -/
theorem clear_5 : clear 18 1310720 262144 = true := by decide +kernel
/-- All words of stretch 6 have an upper bit set. -/
theorem clear_6 : clear 18 1572864 262144 = true := by decide +kernel
/-- All words of stretch 7 have an upper bit set. -/
theorem clear_7 : clear 18 1835008 262144 = true := by decide +kernel
/-- All words of stretch 8 have an upper bit set. -/
theorem clear_8 : clear 18 2097152 262144 = true := by decide +kernel
/-- All words of stretch 9 have an upper bit set. -/
theorem clear_9 : clear 18 2359296 262144 = true := by decide +kernel
/-- All words of stretch 10 have an upper bit set. -/
theorem clear_10 : clear 18 2621440 262144 = true := by decide +kernel
/-- All words of stretch 11 have an upper bit set. -/
theorem clear_11 : clear 18 2883584 262144 = true := by decide +kernel
/-- All words of stretch 12 have an upper bit set. -/
theorem clear_12 : clear 18 3145728 262144 = true := by decide +kernel
/-- All words of stretch 13 have an upper bit set. -/
theorem clear_13 : clear 18 3407872 262144 = true := by decide +kernel
/-- All words of stretch 14 have an upper bit set. -/
theorem clear_14 : clear 18 3670016 262144 = true := by decide +kernel
/-- All words of stretch 15 have an upper bit set. -/
theorem clear_15 : clear 18 3932160 262144 = true := by decide +kernel
/-- All words of stretch 16 have an upper bit set. -/
theorem clear_16 : clear 18 4194304 262144 = true := by decide +kernel
/-- All words of stretch 17 have an upper bit set. -/
theorem clear_17 : clear 18 4456448 262144 = true := by decide +kernel
/-- All words of stretch 18 have an upper bit set. -/
theorem clear_18 : clear 18 4718592 262144 = true := by decide +kernel
/-- All words of stretch 19 have an upper bit set. -/
theorem clear_19 : clear 18 4980736 262144 = true := by decide +kernel
/-- All words of stretch 20 have an upper bit set. -/
theorem clear_20 : clear 18 5242880 262144 = true := by decide +kernel
/-- All words of stretch 21 have an upper bit set. -/
theorem clear_21 : clear 18 5505024 262144 = true := by decide +kernel
/-- All words of stretch 22 have an upper bit set. -/
theorem clear_22 : clear 18 5767168 262144 = true := by decide +kernel
/-- All words of stretch 23 have an upper bit set. -/
theorem clear_23 : clear 18 6029312 262144 = true := by decide +kernel
/-- All words of stretch 24 have an upper bit set, but for word 132747. -/
theorem clear_24 : clear 18 6291456 132747 = true := by decide +kernel
/-- All words of stretch 25 have an upper bit set. -/
theorem clear_25 : clear 18 6553600 262144 = true := by decide +kernel
/-- All words of stretch 26 have an upper bit set. -/
theorem clear_26 : clear 18 6815744 262144 = true := by decide +kernel
/-- All words of stretch 27 have an upper bit set, but for word 22323. -/
theorem clear_27 : clear 18 7077888 22323 = true := by decide +kernel
/-- All words of stretch 28 have an upper bit set, but for word 258243. -/
theorem clear_28 : clear 18 7340032 258243 = true := by decide +kernel
/-- All words of stretch 29 have an upper bit set. -/
theorem clear_29 : clear 18 7602176 262144 = true := by decide +kernel
/-- All words of stretch 30 have an upper bit set. -/
theorem clear_30 : clear 18 7864320 262144 = true := by decide +kernel
/-- All words of stretch 31 have an upper bit set. -/
theorem clear_31 : clear 18 8126464 262144 = true := by decide +kernel
/-- All words of stretch 32 have an upper bit set. -/
theorem clear_32 : clear 18 8388608 262144 = true := by decide +kernel
/-- All words of stretch 33 have an upper bit set. -/
theorem clear_33 : clear 18 8650752 262144 = true := by decide +kernel
/-- All words of stretch 34 have an upper bit set. -/
theorem clear_34 : clear 18 8912896 262144 = true := by decide +kernel
/-- All words of stretch 35 have an upper bit set. -/
theorem clear_35 : clear 18 9175040 262144 = true := by decide +kernel
/-- All words of stretch 36 have an upper bit set. -/
theorem clear_36 : clear 18 9437184 262144 = true := by decide +kernel
/-- All words of stretch 37 have an upper bit set, but for word 100346. -/
theorem clear_37 : clear 18 9699328 100346 = true := by decide +kernel
/-- All words of stretch 38 have an upper bit set. -/
theorem clear_38 : clear 18 9961472 262144 = true := by decide +kernel
/-- All words of stretch 39 have an upper bit set. -/
theorem clear_39 : clear 18 10223616 262144 = true := by decide +kernel
/-- All words of stretch 40 have an upper bit set. -/
theorem clear_40 : clear 18 10485760 262144 = true := by decide +kernel
/-- All words of stretch 41 have an upper bit set. -/
theorem clear_41 : clear 18 10747904 262144 = true := by decide +kernel
/-- All words of stretch 42 have an upper bit set. -/
theorem clear_42 : clear 18 11010048 262144 = true := by decide +kernel
/-- All words of stretch 43 have an upper bit set. -/
theorem clear_43 : clear 18 11272192 262144 = true := by decide +kernel
/-- All words of stretch 44 have an upper bit set. -/
theorem clear_44 : clear 18 11534336 262144 = true := by decide +kernel
/-- All words of stretch 45 have an upper bit set. -/
theorem clear_45 : clear 18 11796480 262144 = true := by decide +kernel
/-- All words of stretch 46 have an upper bit set. -/
theorem clear_46 : clear 18 12058624 262144 = true := by decide +kernel
/-- All words of stretch 47 have an upper bit set. -/
theorem clear_47 : clear 18 12320768 262144 = true := by decide +kernel
/-- All words of stretch 48 have an upper bit set. -/
theorem clear_48 : clear 18 12582912 262144 = true := by decide +kernel
/-- All words of stretch 49 have an upper bit set. -/
theorem clear_49 : clear 18 12845056 262144 = true := by decide +kernel
/-- All words of stretch 50 have an upper bit set. -/
theorem clear_50 : clear 18 13107200 262144 = true := by decide +kernel
/-- All words of stretch 51 have an upper bit set. -/
theorem clear_51 : clear 18 13369344 262144 = true := by decide +kernel
/-- All words of stretch 52 have an upper bit set. -/
theorem clear_52 : clear 18 13631488 262144 = true := by decide +kernel
/-- All words of stretch 53 have an upper bit set. -/
theorem clear_53 : clear 18 13893632 262144 = true := by decide +kernel
/-- All words of stretch 54 have an upper bit set. -/
theorem clear_54 : clear 18 14155776 262144 = true := by decide +kernel
/-- All words of stretch 55 have an upper bit set. -/
theorem clear_55 : clear 18 14417920 262144 = true := by decide +kernel
/-- All words of stretch 56 have an upper bit set. -/
theorem clear_56 : clear 18 14680064 262144 = true := by decide +kernel
/-- All words of stretch 57 have an upper bit set. -/
theorem clear_57 : clear 18 14942208 262144 = true := by decide +kernel
/-- All words of stretch 58 have an upper bit set. -/
theorem clear_58 : clear 18 15204352 262144 = true := by decide +kernel
/-- All words of stretch 59 have an upper bit set. -/
theorem clear_59 : clear 18 15466496 262144 = true := by decide +kernel
/-- All words of stretch 60 have an upper bit set. -/
theorem clear_60 : clear 18 15728640 262144 = true := by decide +kernel
/-- All words of stretch 61 have an upper bit set. -/
theorem clear_61 : clear 18 15990784 262144 = true := by decide +kernel
/-- All words of stretch 62 have an upper bit set. -/
theorem clear_62 : clear 18 16252928 262144 = true := by decide +kernel
/-- All words of stretch 63 have an upper bit set. -/
theorem clear_63 : clear 18 16515072 262144 = true := by decide +kernel

/-- The lane left out of a stretch, if it has one. -/
def left (c : ℕ) : ℕ := if c = 24 then 132747 else if c = 27 then 22323 else if c = 28 then 258243 else if c = 37 then 100346 else 262144

/-- Every stretch is clear but for the lane left out. -/
theorem clear_all (c : ℕ) (hc : c < 64) : clear 18 (c * 262144) (left c) = true := by
  match c, hc with
  | 0, _ => exact clear_0
  | 1, _ => exact clear_1
  | 2, _ => exact clear_2
  | 3, _ => exact clear_3
  | 4, _ => exact clear_4
  | 5, _ => exact clear_5
  | 6, _ => exact clear_6
  | 7, _ => exact clear_7
  | 8, _ => exact clear_8
  | 9, _ => exact clear_9
  | 10, _ => exact clear_10
  | 11, _ => exact clear_11
  | 12, _ => exact clear_12
  | 13, _ => exact clear_13
  | 14, _ => exact clear_14
  | 15, _ => exact clear_15
  | 16, _ => exact clear_16
  | 17, _ => exact clear_17
  | 18, _ => exact clear_18
  | 19, _ => exact clear_19
  | 20, _ => exact clear_20
  | 21, _ => exact clear_21
  | 22, _ => exact clear_22
  | 23, _ => exact clear_23
  | 24, _ => exact clear_24
  | 25, _ => exact clear_25
  | 26, _ => exact clear_26
  | 27, _ => exact clear_27
  | 28, _ => exact clear_28
  | 29, _ => exact clear_29
  | 30, _ => exact clear_30
  | 31, _ => exact clear_31
  | 32, _ => exact clear_32
  | 33, _ => exact clear_33
  | 34, _ => exact clear_34
  | 35, _ => exact clear_35
  | 36, _ => exact clear_36
  | 37, _ => exact clear_37
  | 38, _ => exact clear_38
  | 39, _ => exact clear_39
  | 40, _ => exact clear_40
  | 41, _ => exact clear_41
  | 42, _ => exact clear_42
  | 43, _ => exact clear_43
  | 44, _ => exact clear_44
  | 45, _ => exact clear_45
  | 46, _ => exact clear_46
  | 47, _ => exact clear_47
  | 48, _ => exact clear_48
  | 49, _ => exact clear_49
  | 50, _ => exact clear_50
  | 51, _ => exact clear_51
  | 52, _ => exact clear_52
  | 53, _ => exact clear_53
  | 54, _ => exact clear_54
  | 55, _ => exact clear_55
  | 56, _ => exact clear_56
  | 57, _ => exact clear_57
  | 58, _ => exact clear_58
  | 59, _ => exact clear_59
  | 60, _ => exact clear_60
  | 61, _ => exact clear_61
  | 62, _ => exact clear_62
  | 63, _ => exact clear_63
  | c + 64, h => omega

/-- A word of the draws has one of its upper 23 bits set, but at four places. -/
theorem bits_ge (n : ℕ) (hn : n < 2 ^ 24) (h0 : n ≠ 6424203) (h1 : n ≠ 7100211) (h2 : n ≠ 7598275) (h3 : n ≠ 9799674) :
    2 ^ 9 ≤ (bits (BitVec.ofNat 32 n)).toNat := by
  have h := clear_spec (k := 18) (by omega) (clear_all (n / 262144) (by omega)) (n % 262144) (by omega) (by
    unfold left
    split_ifs <;> omega)
  rwa [Nat.div_add_mod'] at h

end Cert.Resample.Lanes
-- ==== Proof.Clamp.lean ====
module

public import proofs.«01_k».proof.Proof.Spec
public import proofs.«01_k».proof.Proof.Zeros

/-
  Raising a zero draw to the smallest normal number does not change a choice, when the weights of the four zero draws'
  candidates are not too large: in each of the four rows that hold a zero draw some other candidate's draw is over 15/16.
-/

@[expose] public section

set_option maxRecDepth 16384

noncomputable section

namespace Cert.Resample

open Idealize.ShloMosaic

/-- The smallest normal number. -/
def tiny : ℝ := (2 : ℝ) ^ (-126 : ℤ)

/-- The pattern of the smallest normal number. -/
theorem tiny_bits : Ideal.ofBits .f32 0x00800000#32 = ((tiny : ℝ) : EReal) := by
  unfold tiny
  simp [Ideal.ofBits, Ideal.ieee]; norm_num [zpow_neg, ← EReal.coe_mul]

/-- The clamped reference's score: the Gumbel number of the raised draw plus the weight's logarithm. -/
def scoreC (w : Word) (x : EReal) : EReal :=
  -Ideal.log (-Ideal.log (max ((uni w : ℝ) : EReal) (Ideal.ofBits .f32 0x00800000#32))) + Ideal.log (weight x)

/-- The smallest normal number is positive. -/
theorem tiny_pos : 0 < tiny := by unfold tiny; positivity

/-- The smallest normal number is below the uniform's unit. -/
theorem tiny_lt_unit : tiny < (2 : ℝ) ^ (-23 : ℤ) := zpow_lt_zpow_right₀ (by norm_num) (by norm_num)

/-- The logarithm of the smallest normal number. -/
theorem log_tiny : Real.log tiny = -(126 * Real.log 2) := by
  unfold tiny
  rw [Real.log_zpow]; push_cast; ring

/-- A draw that is not below the smallest normal number keeps its score. -/
theorem scoreC_eq {w : Word} (h : tiny ≤ uni w) (x : EReal) : scoreC w x = scoreR w x := by
  unfold scoreC scoreR
  rw [tiny_bits, max_eq_left (by exact_mod_cast h)]

/-- A word with one of its upper 23 bits set stands for a uniform not below the unit. -/
theorem unit_le_uni {w : Word} (h : 2 ^ 9 ≤ w.toNat) : (2 : ℝ) ^ (-23 : ℤ) ≤ uni w := by
  have k : 1 ≤ (w >>> 9#32).toNat := by simp [Nat.shiftRight_eq_div_pow]; omega
  have k' : (1 : ℝ) ≤ (w >>> 9#32).toNat := by exact_mod_cast k
  unfold uni
  exact le_mul_of_one_le_left (by positivity) k'

/-- The score at a draw `u` of the open unit interval and a weight `r` is a real number. -/
theorem gumbel_real {u r : ℝ} (h0 : 0 < u) (h1 : u < 1) (hr : 0 < r) :
    -Ideal.log (-Ideal.log (u : EReal)) + Ideal.log (r : EReal) = ((Real.log (r / -Real.log u) : ℝ) : EReal) := by
  have hl : 0 < -Real.log u := by have := Real.log_neg h0 h1; linarith
  rw [log_pos h0, ← EReal.coe_neg, log_pos hl, log_pos hr, ← EReal.coe_neg, ← EReal.coe_add, Real.log_div hr.ne' hl.ne']
  congr 1
  ring

/-- Raising a draw does not lower its score. -/
theorem scoreR_le_scoreC (w : Word) {x : EReal} (hx : x < ⊤) : scoreR w x ≤ scoreC w x := by
  by_cases h : tiny ≤ uni w
  · rw [scoreC_eq h]
  · obtain ⟨r, hr, hw⟩ := weight_real hx
    have h' := not_le.1 h
    have ht1 : tiny < 1 := tiny_lt_unit.trans (by norm_num)
    by_cases hu : uni w ≤ 0
    · unfold scoreR
      rw [log_nonpos hu, EReal.neg_bot, Ideal.log_top, EReal.neg_top, EReal.bot_add]
      exact bot_le
    · have hu' := not_le.1 hu
      unfold scoreR scoreC
      rw [tiny_bits, max_eq_right (by exact_mod_cast h'.le), hw, gumbel_real hu' (uni_lt_one w) hr, gumbel_real tiny_pos ht1 hr,
        EReal.coe_le_coe_iff]
      have l1 := Real.log_neg tiny_pos ht1
      have l2 : Real.log (uni w) < Real.log tiny := Real.log_lt_log hu' h'
      exact Real.log_le_log (div_pos hr (by linarith)) (div_le_div_of_nonneg_left hr.le (by linarith) (by linarith))

/-- Where one score is nowhere over another and meets it at the other's pick, the picks are the same. -/
theorem pick_of_le {f g : Fin 64 → EReal} (h : ∀ p, f p ≤ g p) (e : f (pick g) = g (pick g)) : pick g = pick f := by
  refine pick_unique ⟨fun q => ?_, fun q hq => (pick_spec g).2 q ?_⟩
  · rw [e]; exact (h q).trans ((pick_spec g).1 q)
  · refine le_antisymm ((pick_spec g).1 q) ?_
    rw [← e, ← hq]; exact h q

/-- The logarithm of two is at least 7/12, as the sum of those of 4/3 and 3/2. -/
theorem log_two_ge : 7 / 12 ≤ Real.log 2 := by
  have a := Real.one_sub_inv_le_log_of_pos (show (0 : ℝ) < 4 / 3 by norm_num)
  have b := Real.one_sub_inv_le_log_of_pos (show (0 : ℝ) < 3 / 2 by norm_num)
  have e := Real.log_mul (show (4 / 3 : ℝ) ≠ 0 by norm_num) (show (3 / 2 : ℝ) ≠ 0 by norm_num)
  norm_num at a b e
  linarith

/-- A raised draw loses to a draw over 15/16 whose weight is not under the 1024th part. -/
theorem raised_lt {v w : Word} {x y : EReal} (hx : x < ⊤) (hy : y < ⊤) (hv : ¬ tiny ≤ uni v) (hw : 15 / 16 ≤ uni w)
    (hb : weight x ≤ ((1024 : ℝ) : EReal) * weight y) : scoreC v x < scoreC w y := by
  obtain ⟨r, hr, hr'⟩ := weight_real hx
  obtain ⟨t, ht, ht'⟩ := weight_real hy
  have ht1 : tiny < 1 := tiny_lt_unit.trans (by norm_num)
  have hw0 : 0 < uni w := by linarith
  have hwt : tiny ≤ uni w := (tiny_lt_unit.le.trans (by norm_num)).trans hw
  rw [scoreC_eq hwt]
  unfold scoreR scoreC
  rw [hr', ht', ← EReal.coe_mul, EReal.coe_le_coe_iff] at hb
  rw [tiny_bits, max_eq_right (by exact_mod_cast (not_le.1 hv).le), hr', ht', gumbel_real tiny_pos ht1 hr,
    gumbel_real hw0 (uni_lt_one w) ht, EReal.coe_lt_coe_iff, log_tiny, neg_neg]
  have l2 := log_two_ge
  have ln := Real.log_neg hw0 (uni_lt_one w)
  have li : -Real.log (uni w) ≤ 1 / 15 := by
    have a := Real.one_sub_inv_le_log_of_pos hw0
    have b : (uni w)⁻¹ ≤ (15 / 16)⁻¹ := inv_anti₀ (by norm_num) hw
    norm_num at b
    linarith
  refine Real.log_lt_log (by positivity) ?_
  rw [div_lt_div_iff₀ (by positivity) (by linarith)]
  have a1 : r * -Real.log (uni w) ≤ 1024 * t * (1 / 15) := mul_le_mul hb li (by linarith) (by positivity)
  have a2 : t * 73 < t * (126 * Real.log 2) := mul_lt_mul_of_pos_left (by linarith) ht
  linarith

/-- The clamped reference's score has the kernel's pick: either no draw is zero, or only one is, whose weight is
    not over 1024 times that of a draw over 15/16. -/
theorem pick_clamped (w : Fin 64 → Word) (x : Fin 64 → EReal) (hx : ∀ p, x p < ⊤)
    (hw : (∀ p, 2 ^ 9 ≤ (w p).toNat) ∨ ∃ z q, (∀ p, p ≠ z → 2 ^ 9 ≤ (w p).toNat) ∧ 15 / 16 ≤ uni (w q)
      ∧ weight (x z) ≤ ((1024 : ℝ) : EReal) * weight (x q)) :
    pick (fun p => scoreC (w p) (x p)) = pick (fun p => scoreK (w p) (x p)) := by
  rw [← pick_scores w x hx]
  rcases hw with h | ⟨z, q, hz, hq, hb⟩
  · exact congrArg pick (funext fun p => scoreC_eq (tiny_lt_unit.le.trans (unit_le_uni (h p))) _)
  · refine pick_of_le (fun p => scoreR_le_scoreC _ (hx p)) ?_
    by_contra hne
    have hm : ¬ tiny ≤ uni (w (pick fun p => scoreC (w p) (x p))) := fun h => hne (scoreC_eq h _).symm
    have hmz : (pick fun p => scoreC (w p) (x p)) = z := by
      by_contra k
      exact hm (tiny_lt_unit.le.trans (unit_le_uni (hz _ k)))
    have hle := (pick_spec fun p => scoreC (w p) (x p)).1 q
    rw [hmz] at hm hle
    exact absurd hle (not_le.2 (raised_lt (hx _) (hx q) hm hq hb))

/-- A word whose upper bits are at least the 15/16th part of their range stands for a uniform not under 15/16. -/
theorem uni_ge {w : Word} (h : 15 * 2 ^ 19 ≤ (w >>> 9#32).toNat) : 15 / 16 ≤ uni w := by
  have k : ((15 * 2 ^ 19 : ℕ) : ℝ) ≤ (w >>> 9#32).toNat := by exact_mod_cast h
  unfold uni
  rw [zpow_neg, ← div_eq_mul_inv, le_div_iff₀ (by positivity)]
  refine le_trans ?_ k
  norm_num

/-- A large draw in each of the four rows with a zero draw. -/
theorem large_draws : 15 * 2 ^ 19 ≤ (bits (6424235#32) >>> 9#32).toNat ∧ 15 * 2 ^ 19 ≤ (bits (7100173#32) >>> 9#32).toNat
    ∧ 15 * 2 ^ 19 ≤ (bits (7598274#32) >>> 9#32).toNat ∧ 15 * 2 ^ 19 ≤ (bits (9799673#32) >>> 9#32).toNat := by
  decide +kernel

/-- The candidate of each zero draw is not over 1024 times as heavy as the candidate of a large draw of its row. -/
def Light (x : Fin 262144 → EReal) : Prop :=
  weight (lw x 11 1568) ≤ ((1024 : ℝ) : EReal) * weight (lw x 43 1568)
    ∧ weight (lw x 51 1733) ≤ ((1024 : ℝ) : EReal) * weight (lw x 13 1733)
    ∧ weight (lw x 3 1855) ≤ ((1024 : ℝ) : EReal) * weight (lw x 2 1855)
    ∧ weight (lw x 58 2392) ≤ ((1024 : ℝ) : EReal) * weight (lw x 57 2392)

/-- A row of draws holds no zero, or it holds one, of a candidate not too heavy for that of a large draw. -/
theorem row_draws (x : Fin 262144 → EReal) (hb : Light x) (b : Fin 4096) (s : Fin 64) :
    (∀ p, 2 ^ 9 ≤ (draw b s p).toNat) ∨ ∃ z q, (∀ p, p ≠ z → 2 ^ 9 ≤ (draw b s p).toNat) ∧ 15 / 16 ≤ uni (draw b s q)
      ∧ weight (lw x z b) ≤ ((1024 : ℝ) : EReal) * weight (lw x q b) := by
  obtain ⟨l0, l1, l2, l3⟩ := large_draws
  obtain ⟨k0, k1, k2, k3⟩ := hb
  have at_place : ∀ (n : ℕ) (b' : Fin 4096) (z q : Fin 64), 15 * 2 ^ 19 ≤ (bits (BitVec.ofNat 32 n) >>> 9#32).toNat →
      b.val * 4096 + s.val * 64 + q.val = n → b' = b → weight (lw x z b') ≤ ((1024 : ℝ) : EReal) * weight (lw x q b') →
      (∀ p : Fin 64, p.val ≠ z.val → 2 ^ 9 ≤ (draw b s p).toNat) →
      ∃ z q, (∀ p, p ≠ z → 2 ^ 9 ≤ (draw b s p).toNat) ∧ 15 / 16 ≤ uni (draw b s q)
        ∧ weight (lw x z b) ≤ ((1024 : ℝ) : EReal) * weight (lw x q b) := by
    rintro _ _ z q h rfl rfl k hz
    exact ⟨z, q, fun p hp => hz p fun e => hp (Fin.ext e), uni_ge h, k⟩
  have hs := s.isLt
  by_cases h0 : b.val * 64 + s.val = 6424203 / 64
  · refine Or.inr (at_place 6424235 1568 11 43 l0 (by show _ + 43 = _; omega) (Fin.ext (by show 1568 = _; omega)) k0 ?_)
    intro p hp
    have hp' : p.val ≠ 11 := hp
    exact Lanes.bits_ge _ (by omega) (by omega) (by omega) (by omega) (by omega)
  by_cases h1 : b.val * 64 + s.val = 7100211 / 64
  · refine Or.inr (at_place 7100173 1733 51 13 l1 (by show _ + 13 = _; omega) (Fin.ext (by show 1733 = _; omega)) k1 ?_)
    intro p hp
    have hp' : p.val ≠ 51 := hp
    exact Lanes.bits_ge _ (by omega) (by omega) (by omega) (by omega) (by omega)
  by_cases h2 : b.val * 64 + s.val = 7598275 / 64
  · refine Or.inr (at_place 7598274 1855 3 2 l2 (by show _ + 2 = _; omega) (Fin.ext (by show 1855 = _; omega)) k2 ?_)
    intro p hp
    have hp' : p.val ≠ 3 := hp
    exact Lanes.bits_ge _ (by omega) (by omega) (by omega) (by omega) (by omega)
  by_cases h3 : b.val * 64 + s.val = 9799674 / 64
  · refine Or.inr (at_place 9799673 2392 58 57 l3 (by show _ + 57 = _; omega) (Fin.ext (by show 2392 = _; omega)) k3 ?_)
    intro p hp
    have hp' : p.val ≠ 58 := hp
    exact Lanes.bits_ge _ (by omega) (by omega) (by omega) (by omega) (by omega)
  refine Or.inl fun p => ?_
  have hp := p.isLt
  exact Lanes.bits_ge _ (by omega) (by omega) (by omega) (by omega) (by omega)

/-- The candidate chosen is the clamped score's pick, where the zero draws' candidates are not too heavy. -/
theorem choice_clamped (x : Fin 262144 → EReal) (hx : ∀ n, x n < ⊤) (hb : Light x) (b : Fin 4096) (s : Fin 64) :
    pick (fun p => scoreC (draw b s p) (lw x p b)) = choice x b s :=
  pick_clamped (draw b s) (fun p => lw x p b) (fun _ => hx _) (row_draws x hb b s)

end Cert.Resample
end
-- ==== Proof.ClScores.lean ====
module

public import proofs.«01_k».proof.Proof.ClPick
public import proofs.«01_k».proof.Proof.Clamp
public import proofs.«01_k».proof.Proof.Cipher
public import proofs.«01_k».proof.Proof.Words
public import Idealize.ShloMosaic.Lib.StableHlo.RunRead
public import Idealize.ShloMosaic.Lib.Pointwise

/-
  The clamped reference's arg-max of the scores, from the generator's words and the logarithms of the weights.
-/

@[expose] public section

set_option maxRecDepth 16384

noncomputable section

namespace Cert.ClampedIdeal.Line

open Idealize.ShloMosaic Idealize.ShloMosaic.TcCoe
open Cert.ClampedIdeal Cert.ClampedIdeal.Facts₀ Cert.ClampedIdeal.Facts
open Cert.Resample

variable [Facts] (V : Valuation τ sig (Elt Ideal))

/-- One score: the Gumbel of the raised draw plus the logarithm of the candidate's weight. -/
theorem after_s6_score (b : Fin 4096) (s p : Fin 64) (x : EReal) (a c : Word)
    (ha : V (Proc.devRef .tc main_v34_0) (ix3 b s p) = a) (hc : V (Proc.devRef .tc main_v34_1) (ix3 b s p) = c)
    (hl : V (Proc.devRef .tc main_v7) (ix2 b p) = Ideal.log (weight x)) :
    StableHlo.after s6 V (Proc.devRef .tc main_v50) (ix3 b s p) = scoreC (a ^^^ c) x := by
  after_reads_simp
  pointwise []
  rw [hl, ← ha, ← hc, scoreC, ← upper_unit]
  exact congrArg (fun w : Word => -Ideal.log (-Ideal.log (max (FloatOps.sitofp (F := Ideal) FTy.f32 w
    * Ideal.ofBits FTy.f32 0x34000000#32) (Ideal.ofBits FTy.f32 0x00800000#32))) + Ideal.log (weight x))
      (shrui_word .host (BitVec.xor (V (Proc.devRef .tc main_v34_0) (ix3 b s p)) (V (Proc.devRef .tc main_v34_1) (ix3 b s p))) 9#32 (by decide))

/-- The arg-max at a batch and new particle is the number of the pick of the scores. -/
theorem after_s6 (b : Fin 4096) (s : Fin 64) (f : Fin 64 → EReal)
    (hf : ∀ p, StableHlo.after s6 V (Proc.devRef .tc main_v50) (ix3 b s p) = f p) :
    StableHlo.after s6 V (Proc.devRef .tc main_v51) (ix2 b s) = BitVec.ofNat 32 (pick f).val := by
  have e : ∀ x : FVec Ideal S4096x64x64 .f32, StableHlo.after s6 V (Proc.devRef .tc main_v50) = x →
      StableHlo.after s6 V (Proc.devRef .tc main_v51)
        = fun j => (Host.argReduce reducer_argmax_f32_i32 x (iotaInDim S4096x64x64 32 2) (constant S_ .f32 0xFF800000#32)
            (constantI S_ 32 0#32) reducesTo_S4096x64x64_S4096x64_d2 h_S_ j).2 := by
    rintro _ rfl
    after_reads_simp
  rw [e _ rfl]
  refine (argmax_apply _ b s).trans ?_
  rw [← funext hf]

end Cert.ClampedIdeal.Line
-- ==== Proof.ClTake.lean ====
module

public import proofs.«01_k».proof.Proof.ClOps
public import proofs.«01_k».proof.Proof.Spec
public import proofs.«01_k».proof.Proof.Words
public import Idealize.ShloMosaic.Lib.StableHlo.RunRead
public import Idealize.ShloMosaic.Lib.Pointwise
public import Idealize.ShloMosaic.Lib.Routing.Ops

/-
  The clamped reference's two takes: where the indices are numbers of candidates, a row of the result is the
  candidate's row.
-/

@[expose] public section

set_option maxRecDepth 16384

noncomputable section

namespace Cert.ClampedIdeal.Line

open Idealize.ShloMosaic Idealize.ShloMosaic.TcCoe
open Cert.ClampedIdeal Cert.ClampedIdeal.Facts₀ Cert.ClampedIdeal.Facts
open Cert.Resample

variable [Facts] (V : Valuation τ sig (Elt Ideal))

/-- The flat indices, new particle by new particle. -/
theorem after_s7_flat (n : Fin 262144) :
    StableHlo.after s7 V (Proc.devRef .tc main_v53) (ix1 n)
      = V (Proc.devRef .tc main_v51) (ix2 (⟨n.val % 4096, by omega⟩ : Fin 4096) (⟨n.val / 4096, by omega⟩ : Fin 64)) := by
  after_reads_simp
  pointwise []

/-- The first take's indices. -/
theorem after_s7_index2 (q : Fin 262144 → Fin 64)
    (hq : ∀ n, StableHlo.after s7 V (Proc.devRef .tc main_v53) (ix1 n) = BitVec.ofNat 32 (q n).val) (n : Fin 262144) :
    StableHlo.after s7 V (Proc.devRef .tc main_call2_v5) (ix2 n (0 : Fin 1)) = BitVec.ofNat 32 (q n).val := by
  have e : ∀ a : Word, StableHlo.after s7 V (Proc.devRef .tc main_v53) (ix1 n) = a →
      StableHlo.after s7 V (Proc.devRef .tc main_call2_v5) (ix2 n (0 : Fin 1))
        = Scalar.select (IntOp.cmpi .slt a 0#32) (a + 262144#32) a := by
    rintro _ rfl
    after_reads_simp
    pointwise []
    rfl
  rw [e _ (hq n), wrap_word]

/-- The second take's indices. -/
theorem after_s7_index3 (q : Fin 262144 → Fin 64)
    (hq : ∀ n, StableHlo.after s7 V (Proc.devRef .tc main_v53) (ix1 n) = BitVec.ofNat 32 (q n).val) (n : Fin 262144) :
    StableHlo.after s7 V (Proc.devRef .tc main_call3_v5) (ix2 n (0 : Fin 1)) = BitVec.ofNat 32 (q n).val := by
  have e : ∀ a : Word, StableHlo.after s7 V (Proc.devRef .tc main_v53) (ix1 n) = a →
      StableHlo.after s7 V (Proc.devRef .tc main_call3_v5) (ix2 n (0 : Fin 1))
        = Scalar.select (IntOp.cmpi .slt a 0#32) (a + 262144#32) a := by
    rintro _ rfl
    after_reads_simp
    pointwise []
    rfl
  rw [e _ (hq n), wrap_word]

/-- The first take's guard holds everywhere. -/
theorem after_s7_guard2 (q : Fin 262144 → Fin 64)
    (hq : ∀ n, StableHlo.after s7 V (Proc.devRef .tc main_v53) (ix1 n) = BitVec.ofNat 32 (q n).val) (n : Fin 262144) :
    StableHlo.after s7 V (Proc.devRef .tc main_call2_v12) (ix1 n) = 1#1 := by
  have e : ∀ x : IVec S262144x1 1, StableHlo.after s7 V (Proc.devRef .tc main_call2_v11) = x →
      StableHlo.after s7 V (Proc.devRef .tc main_call2_v12)
        = Host.reduce IntOp.andi x (constantI S_ 1 1#1) reducesTo_S262144x1_S262144_d1 h_S_ := by
    rintro _ rfl
    after_reads_simp
  rw [e _ rfl]
  refine all_one _ _ _ _ (fun i => ?_) (fun _ => rfl) _
  idx_vars i
  obtain rfl : i1 = 0 := Subsingleton.elim _ _
  have e' : ∀ a : Word, StableHlo.after s7 V (Proc.devRef .tc main_call2_v5) (ix2 i0 (0 : Fin 1)) = a →
      StableHlo.after s7 V (Proc.devRef .tc main_call2_v11) (ix2 i0 (0 : Fin 1))
        = IntOp.andi (IntOp.cmpi .sge a 0#32) (IntOp.cmpi .sle a 262143#32) := by
    rintro _ rfl
    after_reads_simp
    pointwise []
  exact (e' _ (after_s7_index2 V q hq i0)).trans (range_word _)

/-- The second take's guard holds everywhere. -/
theorem after_s7_guard3 (q : Fin 262144 → Fin 64)
    (hq : ∀ n, StableHlo.after s7 V (Proc.devRef .tc main_v53) (ix1 n) = BitVec.ofNat 32 (q n).val) (n : Fin 262144) :
    StableHlo.after s7 V (Proc.devRef .tc main_call3_v12) (ix1 n) = 1#1 := by
  have e : ∀ x : IVec S262144x1 1, StableHlo.after s7 V (Proc.devRef .tc main_call3_v11) = x →
      StableHlo.after s7 V (Proc.devRef .tc main_call3_v12)
        = Host.reduce IntOp.andi x (constantI S_ 1 1#1) reducesTo_S262144x1_S262144_d1 h_S_ := by
    rintro _ rfl
    after_reads_simp
  rw [e _ rfl]
  refine all_one _ _ _ _ (fun i => ?_) (fun _ => rfl) _
  idx_vars i
  obtain rfl : i1 = 0 := Subsingleton.elim _ _
  have e' : ∀ a : Word, StableHlo.after s7 V (Proc.devRef .tc main_call3_v5) (ix2 i0 (0 : Fin 1)) = a →
      StableHlo.after s7 V (Proc.devRef .tc main_call3_v11) (ix2 i0 (0 : Fin 1))
        = IntOp.andi (IntOp.cmpi .sge a 0#32) (IntOp.cmpi .sle a 262143#32) := by
    rintro _ rfl
    after_reads_simp
    pointwise []
  exact (e' _ (after_s7_index3 V q hq i0)).trans (range_word _)

/-- The rows taken from the particles. -/
theorem after_s7_rows (q : Fin 262144 → Fin 64)
    (hq : ∀ n, StableHlo.after s7 V (Proc.devRef .tc main_v53) (ix1 n) = BitVec.ofNat 32 (q n).val)
    (x : FVec Ideal S262144x128 .f32) (hx : V (Proc.devRef .tc main_arg0) = x) (n : Fin 262144) (d : Fin 128) :
    StableHlo.after s7 V (Proc.devRef .tc main_v54) (ix2 n d) = x (ix2 (row (q n)) d) := by
  have e : ∀ (c : BitVec 1) (k : IVec S262144x1 32), StableHlo.after s7 V (Proc.devRef .tc main_call2_v12) (ix1 n) = c →
      StableHlo.after s7 V (Proc.devRef .tc main_call2_v5) = k → StableHlo.after s7 V (Proc.devRef .tc main_v54) (ix2 n d)
        = Scalar.select c (Host.gather gather_S262144x128_S262144x1_S262144x128_1_0_n_n_0_1_1128 x k (ix2 n d))
          (Ideal.ofBits .f32 0x7FC00000#32) := by
    subst hx
    rintro _ _ rfl rfl
    after_reads_simp
    pointwise []
  rw [e _ _ (after_s7_guard2 V q hq n) rfl]
  refine (Routing.gather_row gather_S262144x128_S262144x1_S262144x128_1_0_n_n_0_1_1128 rfl rfl rfl rfl rfl x _ n d (row (q n))
    ?_ (by decide))
  exact after_s7_index2 V q hq n

/-- The log-weights taken. -/
theorem after_s7_weights (q : Fin 262144 → Fin 64)
    (hq : ∀ n, StableHlo.after s7 V (Proc.devRef .tc main_v53) (ix1 n) = BitVec.ofNat 32 (q n).val)
    (x : FVec Ideal S262144x1 .f32) (hx : V (Proc.devRef .tc main_arg1) = x) (n : Fin 262144) :
    StableHlo.after s7 V (Proc.devRef .tc main_v55) (ix2 n (0 : Fin 1)) = x (ix2 (row (q n)) (0 : Fin 1)) := by
  have e : ∀ (c : BitVec 1) (k : IVec S262144x1 32), StableHlo.after s7 V (Proc.devRef .tc main_call3_v12) (ix1 n) = c →
      StableHlo.after s7 V (Proc.devRef .tc main_call3_v5) = k →
      StableHlo.after s7 V (Proc.devRef .tc main_v55) (ix2 n (0 : Fin 1))
        = Scalar.select c (Host.gather gather_S262144x1_S262144x1_S262144x1_1_0_n_n_0_1_11 x k (ix2 n (0 : Fin 1)))
          (Ideal.ofBits .f32 0x7FC00000#32) := by
    subst hx
    rintro _ _ rfl rfl
    after_reads_simp
    pointwise []
  rw [e _ _ (after_s7_guard3 V q hq n) rfl]
  refine (Routing.gather_row gather_S262144x1_S262144x1_S262144x1_1_0_n_n_0_1_11 rfl rfl rfl rfl rfl x _ n (0 : Fin 1)
    (row (q n)) ?_ (by decide))
  exact after_s7_index3 V q hq n

end Cert.ClampedIdeal.Line
-- ==== Proof.ClNorm.lean ====
module

public import proofs.«01_k».proof.Proof.ClOps
public import proofs.«01_k».proof.Proof.Spec
public import Idealize.ShloMosaic.Lib.StableHlo.RunRead
public import Idealize.ShloMosaic.Lib.Pointwise
public import Idealize.ShloMosaic.PureOps.Ideal.Laws
public import Idealize.ShloMosaic.Lib.IdealHost

/-
  The clamped reference's new log-weights: the gains of the log-weights taken, normalised over the new particles.
-/

@[expose] public section

set_option maxRecDepth 16384

noncomputable section

namespace Cert.ClampedIdeal.Line

open Idealize.ShloMosaic Idealize.ShloMosaic.TcCoe
open Cert.ClampedIdeal Cert.ClampedIdeal.Facts₀ Cert.ClampedIdeal.Facts
open Cert.Resample

variable [Facts] (V : Valuation τ sig (Elt Ideal))

/-- The gains, as a table of new particles and batches. -/
theorem after_s8_gain (s : Fin 64) (b : Fin 4096) (y : EReal)
    (hy : V (Proc.devRef .tc main_v55) (ix2 (⟨s.val * 4096 + b.val, by omega⟩ : Fin 262144) (0 : Fin 1)) = y) :
    StableHlo.after s8 V (Proc.devRef .tc main_v63) (ix2 s b) = gain y := by
  after_reads_simp
  pointwise []
  rw [hy]
  rfl

/-- The new log-weights. -/
theorem after_s8 (f : Fin 64 → Fin 4096 → EReal)
    (hf : ∀ s b, StableHlo.after s8 V (Proc.devRef .tc main_v63) (ix2 s b) = f s b) (s : Fin 64) (b : Fin 4096) :
    StableHlo.after s8 V (Proc.devRef .tc main_v69) (ix2 s b) = f s b - Ideal.log (∑ k : Fin 64, Ideal.exp (f k b)) := by
  have e : ∀ x : FVec Ideal S64x4096 .f32, StableHlo.after s8 V (Proc.devRef .tc main_v63) = x →
      StableHlo.after s8 V (Proc.devRef .tc main_v69) (ix2 s b)
        = x (ix2 s b) - Ideal.log (∑ k : Fin 64, Ideal.exp (x (ix2 k b))) := by
    rintro _ rfl
    after_reads_simp
    pointwise []
  rw [e _ rfl, hf]
  simp only [hf]

end Cert.ClampedIdeal.Line
-- ==== Proof.ClValue.lean ====
module

public import proofs.«01_k».proof.Proof.ClBits
public import proofs.«01_k».proof.Proof.ClScores
public import proofs.«01_k».proof.Proof.ClTake
public import proofs.«01_k».proof.Proof.ClNorm
public import Idealize.ShloMosaic.Lib.Pipeline.Frame

/-
  The clamped reference's two results as functions of its arguments.
-/

@[expose] public section

set_option maxRecDepth 16384

noncomputable section

namespace Cert.ClampedIdeal.Line

open Idealize.ShloMosaic Idealize.ShloMosaic.TcCoe
open Cert.ClampedIdeal Cert.ClampedIdeal.Facts₀ Cert.ClampedIdeal.Facts
open Cert.Resample

variable [Facts] (V : Valuation τ sig (Elt Ideal))

/-- The contents after the generator. -/
def words : Valuation τ sig (Elt Ideal) :=
  StableHlo.after s5 (StableHlo.after s4 (StableHlo.after s3 (StableHlo.after s2 (StableHlo.after s1 (StableHlo.after s0 V)))))

/-- The contents after the arg-max. -/
def chosen : Valuation τ sig (Elt Ideal) := StableHlo.after s6 (words V)

/-- The contents after the takes. -/
def taken : Valuation τ sig (Elt Ideal) := StableHlo.after s7 (chosen V)

/-- The whole line is its stretches in order. -/
theorem after_ops : StableHlo.after ops V = StableHlo.after s8 (taken V) := by
  unfold ops taken chosen words
  simp only [StableHlo.after_append]

/-- The generator's two words at a draw are the cipher's. -/
theorem words_pair (b : Fin 4096) (s p : Fin 64) :
    ((words V (Proc.devRef .tc main_v34_0) (ix3 b s p) : Word), (words V (Proc.devRef .tc main_v34_1) (ix3 b s p) : Word))
      = cipher (0#32, BitVec.ofNat 32 (b.val * 4096 + s.val * 64 + p.val) + 1234#32) := by
  have k0 := keys_s0 V
  have k1 := keys_s1 _ k0
  have k2 := keys_s2 _ k1
  have k3 := keys_s3 _ k2
  have k4 := keys_s4 _ k3
  unfold words
  rw [after_s5 _ k4, after_s4 _ k3, after_s3 _ k2, after_s2 _ k1, after_s1 _ k0, after_s0]
  rfl

/-- The generator leaves the logarithms of the weights. -/
theorem words_logits (b : Fin 4096) (p : Fin 64) (x : FVec Ideal S262144x1 .f32) (hx : V (Proc.devRef .tc main_arg1) = x) :
    words V (Proc.devRef .tc main_v7) (ix2 b p)
      = Ideal.log (weight (lw (fun n => x (ix2 n (0 : Fin 1))) p b)) := by
  have e : words V (Proc.devRef .tc main_v7) = StableHlo.after s0 V (Proc.devRef .tc main_v7) := by
    unfold words
    after_reads_simp
  subst hx
  rw [e]
  after_reads_simp
  pointwise []
  rfl

/-- The generator and the arg-max leave the arguments. -/
theorem chosen_args : chosen V (Proc.devRef .tc main_arg0) = V (Proc.devRef .tc main_arg0)
    ∧ chosen V (Proc.devRef .tc main_arg1) = V (Proc.devRef .tc main_arg1) := by
  unfold chosen words
  constructor <;> after_reads_simp

/-- The arg-max at a batch and new particle is the number of its choice. -/
theorem chosen_index (x : Fin 262144 → EReal) (hV : ∀ n, V (Proc.devRef .tc main_arg1) (ix2 n (0 : Fin 1)) = x n)
    (hx : ∀ n, x n < ⊤)
    (hb : Light x) (b : Fin 4096) (s : Fin 64) :
    chosen V (Proc.devRef .tc main_v51) (ix2 b s) = BitVec.ofNat 32 (choice x b s).val := by
  unfold chosen
  rw [← choice_clamped x hx hb]
  refine after_s6 _ b s _ fun p => ?_
  have hw := words_pair V b s p
  refine (after_s6_score _ b s p (lw x p b) _ _ (congrArg Prod.fst hw) (congrArg Prod.snd hw) ?_).trans rfl
  rw [words_logits V b p _ rfl]
  simp only [hV]

/-- The index taken for a row of the results. -/
def index (x : Fin 262144 → EReal) (n : Fin 262144) : Fin 64 :=
  choice x ⟨n.val % 4096, by omega⟩ ⟨n.val / 4096, by omega⟩

/-- The flat indices are the choices' numbers. -/
theorem flat_index (x : Fin 262144 → EReal) (hV : ∀ n, V (Proc.devRef .tc main_arg1) (ix2 n (0 : Fin 1)) = x n)
    (hx : ∀ n, x n < ⊤)
    (hb : Light x) (n : Fin 262144) :
    StableHlo.after s7 (chosen V) (Proc.devRef .tc main_v53) (ix1 n) = BitVec.ofNat 32 (index x n).val :=
  (after_s7_flat _ n).trans (chosen_index V x hV hx hb _ _)

/-- The new particles: row by row, the row of the candidate chosen. -/
theorem result_rows (x : Fin 262144 → EReal) (hV : ∀ n, V (Proc.devRef .tc main_arg1) (ix2 n (0 : Fin 1)) = x n)
    (hx : ∀ n, x n < ⊤)
    (hb : Light x) (y : FVec Ideal S262144x128 .f32) (hy : V (Proc.devRef .tc main_arg0) = y)
    (n : Fin 262144) (d : Fin 128) :
    StableHlo.after ops V (Proc.devRef .tc main_v54) (ix2 n d) = y (ix2 (row (index x n)) d) := by
  have e : StableHlo.after ops V (Proc.devRef .tc main_v54) = taken V (Proc.devRef .tc main_v54) := by
    rw [after_ops]
    after_reads_simp
  rw [e]
  exact after_s7_rows _ (index x) (flat_index V x hV hx hb) y ((chosen_args V).1.trans hy) n d

/-- The new log-weights. -/
theorem result_weights (x : Fin 262144 → EReal) (hV : ∀ n, V (Proc.devRef .tc main_arg1) (ix2 n (0 : Fin 1)) = x n)
    (hx : ∀ n, x n < ⊤)
    (hb : Light x) (s : Fin 64) (b : Fin 4096) :
    StableHlo.after ops V (Proc.devRef .tc main_v69) (ix2 s b) = newWeight x s b := by
  rw [after_ops]
  refine (after_s8 _ (fun s b => newGain x s b) (fun s b => ?_) s b).trans rfl
  refine after_s8_gain _ s b _ ?_
  refine (after_s7_weights _ (index x) (flat_index V x hV hx hb) _ (chosen_args V).2 _).trans ?_
  rw [hV]
  have eb : (⟨(s.val * 4096 + b.val) % 4096, by omega⟩ : Fin 4096) = b := Fin.ext (by show _ % _ = _; omega)
  have es : (⟨(s.val * 4096 + b.val) / 4096, by omega⟩ : Fin 64) = s := Fin.ext (by show _ / _ = _; omega)
  unfold index
  simp only [eb, es]

end Cert.ClampedIdeal.Line
-- ==== Proof.RefOps.lean ====
/- The reference program as one line of host operations, in nine stretches, and its run: every buffer ends at what the
   line leaves there. -/
module

public import proofs.«01_k».proof.Defs
public import proofs.«01_k».proof.Proof.Gen.ReferenceIdeal
public import Idealize.ShloMosaic.Lib.StableHlo.Run
public import Idealize.ShloMosaic.Lib.StableHlo.RunRead
public import Idealize.ShloMosaic.Lib.StableHlo.RunHlo
public import Idealize.ShloMosaic.Lib.Pipeline.Regions

@[expose] public section

set_option maxRecDepth 16384

noncomputable section

namespace Cert.ReferenceIdeal.Line

open Idealize.ShloMosaic Idealize.SL.Sem Cert.ReferenceIdeal Cert.ReferenceIdeal.Facts₀ Cert.ReferenceIdeal.Facts

variable {F : FTy → Type} [FloatOps F] [Facts]

/-- A tensor of shape `s` and element type `e`. -/
abbrev C (F : FTy → Type) (s : Shape) (e : EltTy) : Type := (⟨s, e⟩ : BufTy).Contents (Elt F)

/-- The key, the flat counters (b·P + s)·P + p split into words, the key schedule's third word, and the log-weights. -/
noncomputable def s0 : List (HloOp τ sig (Elt F)) := [
  StableHlo.unary main_arg1 main_v0 (Host.exp : C F S262144x1 .f32 → C F S262144x1 .f32),
  StableHlo.nullary main_cst (constant S_ .f32 0x3F000000#32),
  StableHlo.unary main_cst main_v1 (broadcastInDim S262144x1 ![] bcast_S_S262144x1 : C F S_ .f32 → C F S262144x1 .f32),
  StableHlo.binary main_v1 main_v0 main_v2 (mulf : C F S262144x1 .f32 → C F S262144x1 .f32 → C F S262144x1 .f32),
  StableHlo.nullary main_cst_0 (constant S_ .f32 0x3C000000#32),
  StableHlo.unary main_cst_0 main_v3 (broadcastInDim S262144x1 ![] bcast_S_S262144x1 : C F S_ .f32 → C F S262144x1 .f32),
  StableHlo.binary main_v2 main_v3 main_v4 (addf : C F S262144x1 .f32 → C F S262144x1 .f32 → C F S262144x1 .f32),
  StableHlo.reshape main_v4 main_v5 (rfl : (.f32 : EltTy) = .f32) shapeCasts_S262144x1_S64x4096,
  StableHlo.unary main_v5 main_v6 ((transpose S4096x64 [1, 0] · transposes_S64x4096_S4096x64_1_0) : C F S64x4096 .f32 → C F S4096x64 .f32),
  StableHlo.unary main_v6 main_v7 (Host.log : C F S4096x64 .f32 → C F S4096x64 .f32),
  StableHlo.nullary main_c (constantI S_ 32 1234#32),
  StableHlo.nullary main_c_1 (constantI S_ 32 32#32),
  StableHlo.binary main_c main_c_1 main_v8 (Host.shrui : C F S_ .i32 → C F S_ .i32 → C F S_ .i32),
  StableHlo.unary main_v8 main_v9 (id : C F S_ .i32 → C F S_ .i32),
  StableHlo.unary main_v9 main_v10 (broadcastInDim S1 ![] bcast_S_S1 : C F S_ .i32 → C F S1 .i32),
  StableHlo.nullary main_c_2 (constantI S_ 32 4294967295#32),
  StableHlo.binary main_c main_c_2 main_v11 (andi : C F S_ .i32 → C F S_ .i32 → C F S_ .i32),
  StableHlo.unary main_v11 main_v12 (id : C F S_ .i32 → C F S_ .i32),
  StableHlo.unary main_v12 main_v13 (broadcastInDim S1 ![] bcast_S_S1 : C F S_ .i32 → C F S1 .i32),
  StableHlo.binary main_v10 main_v13 main_v14 ((fun a b => concatenate S2 0 [⟨S1, a⟩, ⟨S1, b⟩] concatenates_S1_S1_S2_d0) : C F S1 .i32 → C F S1 .i32 → C F S2 .i32),
  StableHlo.unary main_v14 main_v15 ((extractStridedSlice S1 ![0] · slices_S2_S1_0) : C F S2 .i32 → C F S1 .i32),
  StableHlo.reshape main_v15 main_v16 (rfl : (.i32 : EltTy) = .i32) shapeCasts_S1_S_,
  StableHlo.unary main_v14 main_v17 ((extractStridedSlice S1 ![1] · slices_S2_S1_1) : C F S2 .i32 → C F S1 .i32),
  StableHlo.reshape main_v17 main_v18 (rfl : (.i32 : EltTy) = .i32) shapeCasts_S1_S_,
  StableHlo.nullary main_v19 (iotaInDim S4096x64x64 64 0),
  StableHlo.nullary main_v20 (iotaInDim S4096x64x64 64 1),
  StableHlo.nullary main_v21 (iotaInDim S4096x64x64 64 2),
  StableHlo.nullary main_c_3 (constantI S_ 64 4096#64),
  StableHlo.unary main_c_3 main_v22 (broadcastInDim S4096x64x64 ![] bcast_S_S4096x64x64 : C F S_ .i64 → C F S4096x64x64 .i64),
  StableHlo.binary main_v22 main_v19 main_v23 (muli : C F S4096x64x64 .i64 → C F S4096x64x64 .i64 → C F S4096x64x64 .i64),
  StableHlo.nullary main_c_4 (constantI S_ 64 64#64),
  StableHlo.unary main_c_4 main_v24 (broadcastInDim S4096x64x64 ![] bcast_S_S4096x64x64 : C F S_ .i64 → C F S4096x64x64 .i64),
  StableHlo.binary main_v24 main_v20 main_v25 (muli : C F S4096x64x64 .i64 → C F S4096x64x64 .i64 → C F S4096x64x64 .i64),
  StableHlo.nullary main_c_5 (constantI S_ 64 1#64),
  StableHlo.unary main_c_5 main_v26 (broadcastInDim S4096x64x64 ![] bcast_S_S4096x64x64 : C F S_ .i64 → C F S4096x64x64 .i64),
  StableHlo.binary main_v26 main_v21 main_v27 (muli : C F S4096x64x64 .i64 → C F S4096x64x64 .i64 → C F S4096x64x64 .i64),
  StableHlo.binary main_v23 main_v25 main_v28 (addi : C F S4096x64x64 .i64 → C F S4096x64x64 .i64 → C F S4096x64x64 .i64),
  StableHlo.binary main_v28 main_v27 main_v29 (addi : C F S4096x64x64 .i64 → C F S4096x64x64 .i64 → C F S4096x64x64 .i64),
  StableHlo.nullary main_c_6 (constantI S_ 64 32#64),
  StableHlo.unary main_c_6 main_v30 (broadcastInDim S4096x64x64 ![] bcast_S_S4096x64x64 : C F S_ .i64 → C F S4096x64x64 .i64),
  StableHlo.binary main_v29 main_v30 main_v31 (Host.shrui : C F S4096x64x64 .i64 → C F S4096x64x64 .i64 → C F S4096x64x64 .i64),
  StableHlo.unary main_v29 main_v32 ((trunci 32 · natLt_32_64) : C F S4096x64x64 .i64 → C F S4096x64x64 .i32),
  StableHlo.unary main_v31 main_v33 ((trunci 32 · natLt_32_64) : C F S4096x64x64 .i64 → C F S4096x64x64 .i32),
  StableHlo.binary main_v16 main_v18 main_call0_v0 (xori : C F S_ .i32 → C F S_ .i32 → C F S_ .i32),
  StableHlo.nullary main_call0_c ((constantI S_ 32 466688986#32) : C F S_ .i32),
  StableHlo.binary main_call0_v0 main_call0_c main_call0_v1 (xori : C F S_ .i32 → C F S_ .i32 → C F S_ .i32),
  StableHlo.unary main_v16 main_call0_v2 ((broadcastInDim S4096x64x64 ![] bcast_S_S4096x64x64) : C F S_ .i32 → C F S4096x64x64 .i32),
  StableHlo.binary main_v33 main_call0_v2 main_call0_v3 (addi : C F S4096x64x64 .i32 → C F S4096x64x64 .i32 → C F S4096x64x64 .i32),
  StableHlo.unary main_v18 main_call0_v4 ((broadcastInDim S4096x64x64 ![] bcast_S_S4096x64x64) : C F S_ .i32 → C F S4096x64x64 .i32),
  StableHlo.binary main_v32 main_call0_v4 main_call0_v5 (addi : C F S4096x64x64 .i32 → C F S4096x64x64 .i32 → C F S4096x64x64 .i32)]

/-- What stretch 0 writes, in order. -/
noncomputable def w0 : List (Ref sig .tc) := [
  main_v0, main_cst, main_v1, main_v2, main_cst_0, main_v3, main_v4, main_v5, main_v6, main_v7, main_c, main_c_1,
  main_v8, main_v9, main_v10, main_c_2, main_v11, main_v12, main_v13, main_v14, main_v15, main_v16, main_v17, main_v18,
  main_v19, main_v20, main_v21, main_c_3, main_v22, main_v23, main_c_4, main_v24, main_v25, main_c_5, main_v26,
  main_v27, main_v28, main_v29, main_c_6, main_v30, main_v31, main_v32, main_v33, main_call0_v0, main_call0_c,
  main_call0_v1, main_call0_v2, main_call0_v3, main_call0_v4, main_call0_v5]
/-- Threefry rounds 1–4 and the first key injection. -/
noncomputable def s1 : List (HloOp τ sig (Elt F)) := [
  StableHlo.binary main_call0_v3 main_call0_v5 main_call0_v6 (addi : C F S4096x64x64 .i32 → C F S4096x64x64 .i32 → C F S4096x64x64 .i32),
  StableHlo.nullary main_call0_c_0 ((constantI S_ 32 13#32) : C F S_ .i32),
  StableHlo.unary main_call0_c_0 main_call0_v7 ((broadcastInDim S4096x64x64 ![] bcast_S_S4096x64x64) : C F S_ .i32 → C F S4096x64x64 .i32),
  StableHlo.binary main_call0_v5 main_call0_v7 main_call0_v8 (Host.shli : C F S4096x64x64 .i32 → C F S4096x64x64 .i32 → C F S4096x64x64 .i32),
  StableHlo.nullary main_call0_c_1 ((constantI S_ 32 19#32) : C F S_ .i32),
  StableHlo.unary main_call0_c_1 main_call0_v9 ((broadcastInDim S4096x64x64 ![] bcast_S_S4096x64x64) : C F S_ .i32 → C F S4096x64x64 .i32),
  StableHlo.binary main_call0_v5 main_call0_v9 main_call0_v10 (Host.shrui : C F S4096x64x64 .i32 → C F S4096x64x64 .i32 → C F S4096x64x64 .i32),
  StableHlo.binary main_call0_v8 main_call0_v10 main_call0_v11 (ori : C F S4096x64x64 .i32 → C F S4096x64x64 .i32 → C F S4096x64x64 .i32),
  StableHlo.binary main_call0_v6 main_call0_v11 main_call0_v12 (xori : C F S4096x64x64 .i32 → C F S4096x64x64 .i32 → C F S4096x64x64 .i32),
  StableHlo.binary main_call0_v6 main_call0_v12 main_call0_v13 (addi : C F S4096x64x64 .i32 → C F S4096x64x64 .i32 → C F S4096x64x64 .i32),
  StableHlo.nullary main_call0_c_2 ((constantI S_ 32 15#32) : C F S_ .i32),
  StableHlo.unary main_call0_c_2 main_call0_v14 ((broadcastInDim S4096x64x64 ![] bcast_S_S4096x64x64) : C F S_ .i32 → C F S4096x64x64 .i32),
  StableHlo.binary main_call0_v12 main_call0_v14 main_call0_v15 (Host.shli : C F S4096x64x64 .i32 → C F S4096x64x64 .i32 → C F S4096x64x64 .i32),
  StableHlo.nullary main_call0_c_3 ((constantI S_ 32 17#32) : C F S_ .i32),
  StableHlo.unary main_call0_c_3 main_call0_v16 ((broadcastInDim S4096x64x64 ![] bcast_S_S4096x64x64) : C F S_ .i32 → C F S4096x64x64 .i32),
  StableHlo.binary main_call0_v12 main_call0_v16 main_call0_v17 (Host.shrui : C F S4096x64x64 .i32 → C F S4096x64x64 .i32 → C F S4096x64x64 .i32),
  StableHlo.binary main_call0_v15 main_call0_v17 main_call0_v18 (ori : C F S4096x64x64 .i32 → C F S4096x64x64 .i32 → C F S4096x64x64 .i32),
  StableHlo.binary main_call0_v13 main_call0_v18 main_call0_v19 (xori : C F S4096x64x64 .i32 → C F S4096x64x64 .i32 → C F S4096x64x64 .i32),
  StableHlo.binary main_call0_v13 main_call0_v19 main_call0_v20 (addi : C F S4096x64x64 .i32 → C F S4096x64x64 .i32 → C F S4096x64x64 .i32),
  StableHlo.nullary main_call0_c_4 ((constantI S_ 32 26#32) : C F S_ .i32),
  StableHlo.unary main_call0_c_4 main_call0_v21 ((broadcastInDim S4096x64x64 ![] bcast_S_S4096x64x64) : C F S_ .i32 → C F S4096x64x64 .i32),
  StableHlo.binary main_call0_v19 main_call0_v21 main_call0_v22 (Host.shli : C F S4096x64x64 .i32 → C F S4096x64x64 .i32 → C F S4096x64x64 .i32),
  StableHlo.nullary main_call0_c_5 ((constantI S_ 32 6#32) : C F S_ .i32),
  StableHlo.unary main_call0_c_5 main_call0_v23 ((broadcastInDim S4096x64x64 ![] bcast_S_S4096x64x64) : C F S_ .i32 → C F S4096x64x64 .i32),
  StableHlo.binary main_call0_v19 main_call0_v23 main_call0_v24 (Host.shrui : C F S4096x64x64 .i32 → C F S4096x64x64 .i32 → C F S4096x64x64 .i32),
  StableHlo.binary main_call0_v22 main_call0_v24 main_call0_v25 (ori : C F S4096x64x64 .i32 → C F S4096x64x64 .i32 → C F S4096x64x64 .i32),
  StableHlo.binary main_call0_v20 main_call0_v25 main_call0_v26 (xori : C F S4096x64x64 .i32 → C F S4096x64x64 .i32 → C F S4096x64x64 .i32),
  StableHlo.binary main_call0_v20 main_call0_v26 main_call0_v27 (addi : C F S4096x64x64 .i32 → C F S4096x64x64 .i32 → C F S4096x64x64 .i32),
  StableHlo.nullary main_call0_c_6 ((constantI S_ 32 6#32) : C F S_ .i32),
  StableHlo.unary main_call0_c_6 main_call0_v28 ((broadcastInDim S4096x64x64 ![] bcast_S_S4096x64x64) : C F S_ .i32 → C F S4096x64x64 .i32),
  StableHlo.binary main_call0_v26 main_call0_v28 main_call0_v29 (Host.shli : C F S4096x64x64 .i32 → C F S4096x64x64 .i32 → C F S4096x64x64 .i32),
  StableHlo.nullary main_call0_c_7 ((constantI S_ 32 26#32) : C F S_ .i32),
  StableHlo.unary main_call0_c_7 main_call0_v30 ((broadcastInDim S4096x64x64 ![] bcast_S_S4096x64x64) : C F S_ .i32 → C F S4096x64x64 .i32),
  StableHlo.binary main_call0_v26 main_call0_v30 main_call0_v31 (Host.shrui : C F S4096x64x64 .i32 → C F S4096x64x64 .i32 → C F S4096x64x64 .i32),
  StableHlo.binary main_call0_v29 main_call0_v31 main_call0_v32 (ori : C F S4096x64x64 .i32 → C F S4096x64x64 .i32 → C F S4096x64x64 .i32),
  StableHlo.binary main_call0_v27 main_call0_v32 main_call0_v33 (xori : C F S4096x64x64 .i32 → C F S4096x64x64 .i32 → C F S4096x64x64 .i32),
  StableHlo.unary main_v18 main_call0_v34 ((broadcastInDim S4096x64x64 ![] bcast_S_S4096x64x64) : C F S_ .i32 → C F S4096x64x64 .i32),
  StableHlo.binary main_call0_v27 main_call0_v34 main_call0_v35 (addi : C F S4096x64x64 .i32 → C F S4096x64x64 .i32 → C F S4096x64x64 .i32),
  StableHlo.unary main_call0_v1 main_call0_v36 ((broadcastInDim S4096x64x64 ![] bcast_S_S4096x64x64) : C F S_ .i32 → C F S4096x64x64 .i32),
  StableHlo.binary main_call0_v33 main_call0_v36 main_call0_v37 (addi : C F S4096x64x64 .i32 → C F S4096x64x64 .i32 → C F S4096x64x64 .i32),
  StableHlo.nullary main_call0_c_8 ((constantI S_ 32 1#32) : C F S_ .i32),
  StableHlo.unary main_call0_c_8 main_call0_v38 ((broadcastInDim S4096x64x64 ![] bcast_S_S4096x64x64) : C F S_ .i32 → C F S4096x64x64 .i32),
  StableHlo.binary main_call0_v37 main_call0_v38 main_call0_v39 (addi : C F S4096x64x64 .i32 → C F S4096x64x64 .i32 → C F S4096x64x64 .i32)]

/-- What stretch 1 writes, in order. -/
noncomputable def w1 : List (Ref sig .tc) := [
  main_call0_v6, main_call0_c_0, main_call0_v7, main_call0_v8, main_call0_c_1, main_call0_v9, main_call0_v10,
  main_call0_v11, main_call0_v12, main_call0_v13, main_call0_c_2, main_call0_v14, main_call0_v15, main_call0_c_3,
  main_call0_v16, main_call0_v17, main_call0_v18, main_call0_v19, main_call0_v20, main_call0_c_4, main_call0_v21,
  main_call0_v22, main_call0_c_5, main_call0_v23, main_call0_v24, main_call0_v25, main_call0_v26, main_call0_v27,
  main_call0_c_6, main_call0_v28, main_call0_v29, main_call0_c_7, main_call0_v30, main_call0_v31, main_call0_v32,
  main_call0_v33, main_call0_v34, main_call0_v35, main_call0_v36, main_call0_v37, main_call0_c_8, main_call0_v38,
  main_call0_v39]
/-- Threefry rounds 5–8 and the second key injection. -/
noncomputable def s2 : List (HloOp τ sig (Elt F)) := [
  StableHlo.binary main_call0_v35 main_call0_v39 main_call0_v40 (addi : C F S4096x64x64 .i32 → C F S4096x64x64 .i32 → C F S4096x64x64 .i32),
  StableHlo.nullary main_call0_c_9 ((constantI S_ 32 17#32) : C F S_ .i32),
  StableHlo.unary main_call0_c_9 main_call0_v41 ((broadcastInDim S4096x64x64 ![] bcast_S_S4096x64x64) : C F S_ .i32 → C F S4096x64x64 .i32),
  StableHlo.binary main_call0_v39 main_call0_v41 main_call0_v42 (Host.shli : C F S4096x64x64 .i32 → C F S4096x64x64 .i32 → C F S4096x64x64 .i32),
  StableHlo.nullary main_call0_c_10 ((constantI S_ 32 15#32) : C F S_ .i32),
  StableHlo.unary main_call0_c_10 main_call0_v43 ((broadcastInDim S4096x64x64 ![] bcast_S_S4096x64x64) : C F S_ .i32 → C F S4096x64x64 .i32),
  StableHlo.binary main_call0_v39 main_call0_v43 main_call0_v44 (Host.shrui : C F S4096x64x64 .i32 → C F S4096x64x64 .i32 → C F S4096x64x64 .i32),
  StableHlo.binary main_call0_v42 main_call0_v44 main_call0_v45 (ori : C F S4096x64x64 .i32 → C F S4096x64x64 .i32 → C F S4096x64x64 .i32),
  StableHlo.binary main_call0_v40 main_call0_v45 main_call0_v46 (xori : C F S4096x64x64 .i32 → C F S4096x64x64 .i32 → C F S4096x64x64 .i32),
  StableHlo.binary main_call0_v40 main_call0_v46 main_call0_v47 (addi : C F S4096x64x64 .i32 → C F S4096x64x64 .i32 → C F S4096x64x64 .i32),
  StableHlo.nullary main_call0_c_11 ((constantI S_ 32 29#32) : C F S_ .i32),
  StableHlo.unary main_call0_c_11 main_call0_v48 ((broadcastInDim S4096x64x64 ![] bcast_S_S4096x64x64) : C F S_ .i32 → C F S4096x64x64 .i32),
  StableHlo.binary main_call0_v46 main_call0_v48 main_call0_v49 (Host.shli : C F S4096x64x64 .i32 → C F S4096x64x64 .i32 → C F S4096x64x64 .i32),
  StableHlo.nullary main_call0_c_12 ((constantI S_ 32 3#32) : C F S_ .i32),
  StableHlo.unary main_call0_c_12 main_call0_v50 ((broadcastInDim S4096x64x64 ![] bcast_S_S4096x64x64) : C F S_ .i32 → C F S4096x64x64 .i32),
  StableHlo.binary main_call0_v46 main_call0_v50 main_call0_v51 (Host.shrui : C F S4096x64x64 .i32 → C F S4096x64x64 .i32 → C F S4096x64x64 .i32),
  StableHlo.binary main_call0_v49 main_call0_v51 main_call0_v52 (ori : C F S4096x64x64 .i32 → C F S4096x64x64 .i32 → C F S4096x64x64 .i32),
  StableHlo.binary main_call0_v47 main_call0_v52 main_call0_v53 (xori : C F S4096x64x64 .i32 → C F S4096x64x64 .i32 → C F S4096x64x64 .i32),
  StableHlo.binary main_call0_v47 main_call0_v53 main_call0_v54 (addi : C F S4096x64x64 .i32 → C F S4096x64x64 .i32 → C F S4096x64x64 .i32),
  StableHlo.nullary main_call0_c_13 ((constantI S_ 32 16#32) : C F S_ .i32),
  StableHlo.unary main_call0_c_13 main_call0_v55 ((broadcastInDim S4096x64x64 ![] bcast_S_S4096x64x64) : C F S_ .i32 → C F S4096x64x64 .i32),
  StableHlo.binary main_call0_v53 main_call0_v55 main_call0_v56 (Host.shli : C F S4096x64x64 .i32 → C F S4096x64x64 .i32 → C F S4096x64x64 .i32),
  StableHlo.nullary main_call0_c_14 ((constantI S_ 32 16#32) : C F S_ .i32),
  StableHlo.unary main_call0_c_14 main_call0_v57 ((broadcastInDim S4096x64x64 ![] bcast_S_S4096x64x64) : C F S_ .i32 → C F S4096x64x64 .i32),
  StableHlo.binary main_call0_v53 main_call0_v57 main_call0_v58 (Host.shrui : C F S4096x64x64 .i32 → C F S4096x64x64 .i32 → C F S4096x64x64 .i32),
  StableHlo.binary main_call0_v56 main_call0_v58 main_call0_v59 (ori : C F S4096x64x64 .i32 → C F S4096x64x64 .i32 → C F S4096x64x64 .i32),
  StableHlo.binary main_call0_v54 main_call0_v59 main_call0_v60 (xori : C F S4096x64x64 .i32 → C F S4096x64x64 .i32 → C F S4096x64x64 .i32),
  StableHlo.binary main_call0_v54 main_call0_v60 main_call0_v61 (addi : C F S4096x64x64 .i32 → C F S4096x64x64 .i32 → C F S4096x64x64 .i32),
  StableHlo.nullary main_call0_c_15 ((constantI S_ 32 24#32) : C F S_ .i32),
  StableHlo.unary main_call0_c_15 main_call0_v62 ((broadcastInDim S4096x64x64 ![] bcast_S_S4096x64x64) : C F S_ .i32 → C F S4096x64x64 .i32),
  StableHlo.binary main_call0_v60 main_call0_v62 main_call0_v63 (Host.shli : C F S4096x64x64 .i32 → C F S4096x64x64 .i32 → C F S4096x64x64 .i32),
  StableHlo.nullary main_call0_c_16 ((constantI S_ 32 8#32) : C F S_ .i32),
  StableHlo.unary main_call0_c_16 main_call0_v64 ((broadcastInDim S4096x64x64 ![] bcast_S_S4096x64x64) : C F S_ .i32 → C F S4096x64x64 .i32),
  StableHlo.binary main_call0_v60 main_call0_v64 main_call0_v65 (Host.shrui : C F S4096x64x64 .i32 → C F S4096x64x64 .i32 → C F S4096x64x64 .i32),
  StableHlo.binary main_call0_v63 main_call0_v65 main_call0_v66 (ori : C F S4096x64x64 .i32 → C F S4096x64x64 .i32 → C F S4096x64x64 .i32),
  StableHlo.binary main_call0_v61 main_call0_v66 main_call0_v67 (xori : C F S4096x64x64 .i32 → C F S4096x64x64 .i32 → C F S4096x64x64 .i32),
  StableHlo.unary main_call0_v1 main_call0_v68 ((broadcastInDim S4096x64x64 ![] bcast_S_S4096x64x64) : C F S_ .i32 → C F S4096x64x64 .i32),
  StableHlo.binary main_call0_v61 main_call0_v68 main_call0_v69 (addi : C F S4096x64x64 .i32 → C F S4096x64x64 .i32 → C F S4096x64x64 .i32),
  StableHlo.unary main_v16 main_call0_v70 ((broadcastInDim S4096x64x64 ![] bcast_S_S4096x64x64) : C F S_ .i32 → C F S4096x64x64 .i32),
  StableHlo.binary main_call0_v67 main_call0_v70 main_call0_v71 (addi : C F S4096x64x64 .i32 → C F S4096x64x64 .i32 → C F S4096x64x64 .i32),
  StableHlo.nullary main_call0_c_17 ((constantI S_ 32 2#32) : C F S_ .i32),
  StableHlo.unary main_call0_c_17 main_call0_v72 ((broadcastInDim S4096x64x64 ![] bcast_S_S4096x64x64) : C F S_ .i32 → C F S4096x64x64 .i32),
  StableHlo.binary main_call0_v71 main_call0_v72 main_call0_v73 (addi : C F S4096x64x64 .i32 → C F S4096x64x64 .i32 → C F S4096x64x64 .i32)]

/-- What stretch 2 writes, in order. -/
noncomputable def w2 : List (Ref sig .tc) := [
  main_call0_v40, main_call0_c_9, main_call0_v41, main_call0_v42, main_call0_c_10, main_call0_v43, main_call0_v44,
  main_call0_v45, main_call0_v46, main_call0_v47, main_call0_c_11, main_call0_v48, main_call0_v49, main_call0_c_12,
  main_call0_v50, main_call0_v51, main_call0_v52, main_call0_v53, main_call0_v54, main_call0_c_13, main_call0_v55,
  main_call0_v56, main_call0_c_14, main_call0_v57, main_call0_v58, main_call0_v59, main_call0_v60, main_call0_v61,
  main_call0_c_15, main_call0_v62, main_call0_v63, main_call0_c_16, main_call0_v64, main_call0_v65, main_call0_v66,
  main_call0_v67, main_call0_v68, main_call0_v69, main_call0_v70, main_call0_v71, main_call0_c_17, main_call0_v72,
  main_call0_v73]
/-- Threefry rounds 9–12 and the third key injection. -/
noncomputable def s3 : List (HloOp τ sig (Elt F)) := [
  StableHlo.binary main_call0_v69 main_call0_v73 main_call0_v74 (addi : C F S4096x64x64 .i32 → C F S4096x64x64 .i32 → C F S4096x64x64 .i32),
  StableHlo.nullary main_call0_c_18 ((constantI S_ 32 13#32) : C F S_ .i32),
  StableHlo.unary main_call0_c_18 main_call0_v75 ((broadcastInDim S4096x64x64 ![] bcast_S_S4096x64x64) : C F S_ .i32 → C F S4096x64x64 .i32),
  StableHlo.binary main_call0_v73 main_call0_v75 main_call0_v76 (Host.shli : C F S4096x64x64 .i32 → C F S4096x64x64 .i32 → C F S4096x64x64 .i32),
  StableHlo.nullary main_call0_c_19 ((constantI S_ 32 19#32) : C F S_ .i32),
  StableHlo.unary main_call0_c_19 main_call0_v77 ((broadcastInDim S4096x64x64 ![] bcast_S_S4096x64x64) : C F S_ .i32 → C F S4096x64x64 .i32),
  StableHlo.binary main_call0_v73 main_call0_v77 main_call0_v78 (Host.shrui : C F S4096x64x64 .i32 → C F S4096x64x64 .i32 → C F S4096x64x64 .i32),
  StableHlo.binary main_call0_v76 main_call0_v78 main_call0_v79 (ori : C F S4096x64x64 .i32 → C F S4096x64x64 .i32 → C F S4096x64x64 .i32),
  StableHlo.binary main_call0_v74 main_call0_v79 main_call0_v80 (xori : C F S4096x64x64 .i32 → C F S4096x64x64 .i32 → C F S4096x64x64 .i32),
  StableHlo.binary main_call0_v74 main_call0_v80 main_call0_v81 (addi : C F S4096x64x64 .i32 → C F S4096x64x64 .i32 → C F S4096x64x64 .i32),
  StableHlo.nullary main_call0_c_20 ((constantI S_ 32 15#32) : C F S_ .i32),
  StableHlo.unary main_call0_c_20 main_call0_v82 ((broadcastInDim S4096x64x64 ![] bcast_S_S4096x64x64) : C F S_ .i32 → C F S4096x64x64 .i32),
  StableHlo.binary main_call0_v80 main_call0_v82 main_call0_v83 (Host.shli : C F S4096x64x64 .i32 → C F S4096x64x64 .i32 → C F S4096x64x64 .i32),
  StableHlo.nullary main_call0_c_21 ((constantI S_ 32 17#32) : C F S_ .i32),
  StableHlo.unary main_call0_c_21 main_call0_v84 ((broadcastInDim S4096x64x64 ![] bcast_S_S4096x64x64) : C F S_ .i32 → C F S4096x64x64 .i32),
  StableHlo.binary main_call0_v80 main_call0_v84 main_call0_v85 (Host.shrui : C F S4096x64x64 .i32 → C F S4096x64x64 .i32 → C F S4096x64x64 .i32),
  StableHlo.binary main_call0_v83 main_call0_v85 main_call0_v86 (ori : C F S4096x64x64 .i32 → C F S4096x64x64 .i32 → C F S4096x64x64 .i32),
  StableHlo.binary main_call0_v81 main_call0_v86 main_call0_v87 (xori : C F S4096x64x64 .i32 → C F S4096x64x64 .i32 → C F S4096x64x64 .i32),
  StableHlo.binary main_call0_v81 main_call0_v87 main_call0_v88 (addi : C F S4096x64x64 .i32 → C F S4096x64x64 .i32 → C F S4096x64x64 .i32),
  StableHlo.nullary main_call0_c_22 ((constantI S_ 32 26#32) : C F S_ .i32),
  StableHlo.unary main_call0_c_22 main_call0_v89 ((broadcastInDim S4096x64x64 ![] bcast_S_S4096x64x64) : C F S_ .i32 → C F S4096x64x64 .i32),
  StableHlo.binary main_call0_v87 main_call0_v89 main_call0_v90 (Host.shli : C F S4096x64x64 .i32 → C F S4096x64x64 .i32 → C F S4096x64x64 .i32),
  StableHlo.nullary main_call0_c_23 ((constantI S_ 32 6#32) : C F S_ .i32),
  StableHlo.unary main_call0_c_23 main_call0_v91 ((broadcastInDim S4096x64x64 ![] bcast_S_S4096x64x64) : C F S_ .i32 → C F S4096x64x64 .i32),
  StableHlo.binary main_call0_v87 main_call0_v91 main_call0_v92 (Host.shrui : C F S4096x64x64 .i32 → C F S4096x64x64 .i32 → C F S4096x64x64 .i32),
  StableHlo.binary main_call0_v90 main_call0_v92 main_call0_v93 (ori : C F S4096x64x64 .i32 → C F S4096x64x64 .i32 → C F S4096x64x64 .i32),
  StableHlo.binary main_call0_v88 main_call0_v93 main_call0_v94 (xori : C F S4096x64x64 .i32 → C F S4096x64x64 .i32 → C F S4096x64x64 .i32),
  StableHlo.binary main_call0_v88 main_call0_v94 main_call0_v95 (addi : C F S4096x64x64 .i32 → C F S4096x64x64 .i32 → C F S4096x64x64 .i32),
  StableHlo.nullary main_call0_c_24 ((constantI S_ 32 6#32) : C F S_ .i32),
  StableHlo.unary main_call0_c_24 main_call0_v96 ((broadcastInDim S4096x64x64 ![] bcast_S_S4096x64x64) : C F S_ .i32 → C F S4096x64x64 .i32),
  StableHlo.binary main_call0_v94 main_call0_v96 main_call0_v97 (Host.shli : C F S4096x64x64 .i32 → C F S4096x64x64 .i32 → C F S4096x64x64 .i32),
  StableHlo.nullary main_call0_c_25 ((constantI S_ 32 26#32) : C F S_ .i32),
  StableHlo.unary main_call0_c_25 main_call0_v98 ((broadcastInDim S4096x64x64 ![] bcast_S_S4096x64x64) : C F S_ .i32 → C F S4096x64x64 .i32),
  StableHlo.binary main_call0_v94 main_call0_v98 main_call0_v99 (Host.shrui : C F S4096x64x64 .i32 → C F S4096x64x64 .i32 → C F S4096x64x64 .i32),
  StableHlo.binary main_call0_v97 main_call0_v99 main_call0_v100 (ori : C F S4096x64x64 .i32 → C F S4096x64x64 .i32 → C F S4096x64x64 .i32),
  StableHlo.binary main_call0_v95 main_call0_v100 main_call0_v101 (xori : C F S4096x64x64 .i32 → C F S4096x64x64 .i32 → C F S4096x64x64 .i32),
  StableHlo.unary main_v16 main_call0_v102 ((broadcastInDim S4096x64x64 ![] bcast_S_S4096x64x64) : C F S_ .i32 → C F S4096x64x64 .i32),
  StableHlo.binary main_call0_v95 main_call0_v102 main_call0_v103 (addi : C F S4096x64x64 .i32 → C F S4096x64x64 .i32 → C F S4096x64x64 .i32),
  StableHlo.unary main_v18 main_call0_v104 ((broadcastInDim S4096x64x64 ![] bcast_S_S4096x64x64) : C F S_ .i32 → C F S4096x64x64 .i32),
  StableHlo.binary main_call0_v101 main_call0_v104 main_call0_v105 (addi : C F S4096x64x64 .i32 → C F S4096x64x64 .i32 → C F S4096x64x64 .i32),
  StableHlo.nullary main_call0_c_26 ((constantI S_ 32 3#32) : C F S_ .i32),
  StableHlo.unary main_call0_c_26 main_call0_v106 ((broadcastInDim S4096x64x64 ![] bcast_S_S4096x64x64) : C F S_ .i32 → C F S4096x64x64 .i32),
  StableHlo.binary main_call0_v105 main_call0_v106 main_call0_v107 (addi : C F S4096x64x64 .i32 → C F S4096x64x64 .i32 → C F S4096x64x64 .i32)]

/-- What stretch 3 writes, in order. -/
noncomputable def w3 : List (Ref sig .tc) := [
  main_call0_v74, main_call0_c_18, main_call0_v75, main_call0_v76, main_call0_c_19, main_call0_v77, main_call0_v78,
  main_call0_v79, main_call0_v80, main_call0_v81, main_call0_c_20, main_call0_v82, main_call0_v83, main_call0_c_21,
  main_call0_v84, main_call0_v85, main_call0_v86, main_call0_v87, main_call0_v88, main_call0_c_22, main_call0_v89,
  main_call0_v90, main_call0_c_23, main_call0_v91, main_call0_v92, main_call0_v93, main_call0_v94, main_call0_v95,
  main_call0_c_24, main_call0_v96, main_call0_v97, main_call0_c_25, main_call0_v98, main_call0_v99, main_call0_v100,
  main_call0_v101, main_call0_v102, main_call0_v103, main_call0_v104, main_call0_v105, main_call0_c_26,
  main_call0_v106, main_call0_v107]
/-- Threefry rounds 13–16 and the fourth key injection. -/
noncomputable def s4 : List (HloOp τ sig (Elt F)) := [
  StableHlo.binary main_call0_v103 main_call0_v107 main_call0_v108 (addi : C F S4096x64x64 .i32 → C F S4096x64x64 .i32 → C F S4096x64x64 .i32),
  StableHlo.nullary main_call0_c_27 ((constantI S_ 32 17#32) : C F S_ .i32),
  StableHlo.unary main_call0_c_27 main_call0_v109 ((broadcastInDim S4096x64x64 ![] bcast_S_S4096x64x64) : C F S_ .i32 → C F S4096x64x64 .i32),
  StableHlo.binary main_call0_v107 main_call0_v109 main_call0_v110 (Host.shli : C F S4096x64x64 .i32 → C F S4096x64x64 .i32 → C F S4096x64x64 .i32),
  StableHlo.nullary main_call0_c_28 ((constantI S_ 32 15#32) : C F S_ .i32),
  StableHlo.unary main_call0_c_28 main_call0_v111 ((broadcastInDim S4096x64x64 ![] bcast_S_S4096x64x64) : C F S_ .i32 → C F S4096x64x64 .i32),
  StableHlo.binary main_call0_v107 main_call0_v111 main_call0_v112 (Host.shrui : C F S4096x64x64 .i32 → C F S4096x64x64 .i32 → C F S4096x64x64 .i32),
  StableHlo.binary main_call0_v110 main_call0_v112 main_call0_v113 (ori : C F S4096x64x64 .i32 → C F S4096x64x64 .i32 → C F S4096x64x64 .i32),
  StableHlo.binary main_call0_v108 main_call0_v113 main_call0_v114 (xori : C F S4096x64x64 .i32 → C F S4096x64x64 .i32 → C F S4096x64x64 .i32),
  StableHlo.binary main_call0_v108 main_call0_v114 main_call0_v115 (addi : C F S4096x64x64 .i32 → C F S4096x64x64 .i32 → C F S4096x64x64 .i32),
  StableHlo.nullary main_call0_c_29 ((constantI S_ 32 29#32) : C F S_ .i32),
  StableHlo.unary main_call0_c_29 main_call0_v116 ((broadcastInDim S4096x64x64 ![] bcast_S_S4096x64x64) : C F S_ .i32 → C F S4096x64x64 .i32),
  StableHlo.binary main_call0_v114 main_call0_v116 main_call0_v117 (Host.shli : C F S4096x64x64 .i32 → C F S4096x64x64 .i32 → C F S4096x64x64 .i32),
  StableHlo.nullary main_call0_c_30 ((constantI S_ 32 3#32) : C F S_ .i32),
  StableHlo.unary main_call0_c_30 main_call0_v118 ((broadcastInDim S4096x64x64 ![] bcast_S_S4096x64x64) : C F S_ .i32 → C F S4096x64x64 .i32),
  StableHlo.binary main_call0_v114 main_call0_v118 main_call0_v119 (Host.shrui : C F S4096x64x64 .i32 → C F S4096x64x64 .i32 → C F S4096x64x64 .i32),
  StableHlo.binary main_call0_v117 main_call0_v119 main_call0_v120 (ori : C F S4096x64x64 .i32 → C F S4096x64x64 .i32 → C F S4096x64x64 .i32),
  StableHlo.binary main_call0_v115 main_call0_v120 main_call0_v121 (xori : C F S4096x64x64 .i32 → C F S4096x64x64 .i32 → C F S4096x64x64 .i32),
  StableHlo.binary main_call0_v115 main_call0_v121 main_call0_v122 (addi : C F S4096x64x64 .i32 → C F S4096x64x64 .i32 → C F S4096x64x64 .i32),
  StableHlo.nullary main_call0_c_31 ((constantI S_ 32 16#32) : C F S_ .i32),
  StableHlo.unary main_call0_c_31 main_call0_v123 ((broadcastInDim S4096x64x64 ![] bcast_S_S4096x64x64) : C F S_ .i32 → C F S4096x64x64 .i32),
  StableHlo.binary main_call0_v121 main_call0_v123 main_call0_v124 (Host.shli : C F S4096x64x64 .i32 → C F S4096x64x64 .i32 → C F S4096x64x64 .i32),
  StableHlo.nullary main_call0_c_32 ((constantI S_ 32 16#32) : C F S_ .i32),
  StableHlo.unary main_call0_c_32 main_call0_v125 ((broadcastInDim S4096x64x64 ![] bcast_S_S4096x64x64) : C F S_ .i32 → C F S4096x64x64 .i32),
  StableHlo.binary main_call0_v121 main_call0_v125 main_call0_v126 (Host.shrui : C F S4096x64x64 .i32 → C F S4096x64x64 .i32 → C F S4096x64x64 .i32),
  StableHlo.binary main_call0_v124 main_call0_v126 main_call0_v127 (ori : C F S4096x64x64 .i32 → C F S4096x64x64 .i32 → C F S4096x64x64 .i32),
  StableHlo.binary main_call0_v122 main_call0_v127 main_call0_v128 (xori : C F S4096x64x64 .i32 → C F S4096x64x64 .i32 → C F S4096x64x64 .i32),
  StableHlo.binary main_call0_v122 main_call0_v128 main_call0_v129 (addi : C F S4096x64x64 .i32 → C F S4096x64x64 .i32 → C F S4096x64x64 .i32),
  StableHlo.nullary main_call0_c_33 ((constantI S_ 32 24#32) : C F S_ .i32),
  StableHlo.unary main_call0_c_33 main_call0_v130 ((broadcastInDim S4096x64x64 ![] bcast_S_S4096x64x64) : C F S_ .i32 → C F S4096x64x64 .i32),
  StableHlo.binary main_call0_v128 main_call0_v130 main_call0_v131 (Host.shli : C F S4096x64x64 .i32 → C F S4096x64x64 .i32 → C F S4096x64x64 .i32),
  StableHlo.nullary main_call0_c_34 ((constantI S_ 32 8#32) : C F S_ .i32),
  StableHlo.unary main_call0_c_34 main_call0_v132 ((broadcastInDim S4096x64x64 ![] bcast_S_S4096x64x64) : C F S_ .i32 → C F S4096x64x64 .i32),
  StableHlo.binary main_call0_v128 main_call0_v132 main_call0_v133 (Host.shrui : C F S4096x64x64 .i32 → C F S4096x64x64 .i32 → C F S4096x64x64 .i32),
  StableHlo.binary main_call0_v131 main_call0_v133 main_call0_v134 (ori : C F S4096x64x64 .i32 → C F S4096x64x64 .i32 → C F S4096x64x64 .i32),
  StableHlo.binary main_call0_v129 main_call0_v134 main_call0_v135 (xori : C F S4096x64x64 .i32 → C F S4096x64x64 .i32 → C F S4096x64x64 .i32),
  StableHlo.unary main_v18 main_call0_v136 ((broadcastInDim S4096x64x64 ![] bcast_S_S4096x64x64) : C F S_ .i32 → C F S4096x64x64 .i32),
  StableHlo.binary main_call0_v129 main_call0_v136 main_call0_v137 (addi : C F S4096x64x64 .i32 → C F S4096x64x64 .i32 → C F S4096x64x64 .i32),
  StableHlo.unary main_call0_v1 main_call0_v138 ((broadcastInDim S4096x64x64 ![] bcast_S_S4096x64x64) : C F S_ .i32 → C F S4096x64x64 .i32),
  StableHlo.binary main_call0_v135 main_call0_v138 main_call0_v139 (addi : C F S4096x64x64 .i32 → C F S4096x64x64 .i32 → C F S4096x64x64 .i32),
  StableHlo.nullary main_call0_c_35 ((constantI S_ 32 4#32) : C F S_ .i32),
  StableHlo.unary main_call0_c_35 main_call0_v140 ((broadcastInDim S4096x64x64 ![] bcast_S_S4096x64x64) : C F S_ .i32 → C F S4096x64x64 .i32),
  StableHlo.binary main_call0_v139 main_call0_v140 main_call0_v141 (addi : C F S4096x64x64 .i32 → C F S4096x64x64 .i32 → C F S4096x64x64 .i32)]

/-- What stretch 4 writes, in order. -/
noncomputable def w4 : List (Ref sig .tc) := [
  main_call0_v108, main_call0_c_27, main_call0_v109, main_call0_v110, main_call0_c_28, main_call0_v111,
  main_call0_v112, main_call0_v113, main_call0_v114, main_call0_v115, main_call0_c_29, main_call0_v116,
  main_call0_v117, main_call0_c_30, main_call0_v118, main_call0_v119, main_call0_v120, main_call0_v121,
  main_call0_v122, main_call0_c_31, main_call0_v123, main_call0_v124, main_call0_c_32, main_call0_v125,
  main_call0_v126, main_call0_v127, main_call0_v128, main_call0_v129, main_call0_c_33, main_call0_v130,
  main_call0_v131, main_call0_c_34, main_call0_v132, main_call0_v133, main_call0_v134, main_call0_v135,
  main_call0_v136, main_call0_v137, main_call0_v138, main_call0_v139, main_call0_c_35, main_call0_v140,
  main_call0_v141]
/-- Threefry rounds 17–20 and the last key injection. -/
noncomputable def s5 : List (HloOp τ sig (Elt F)) := [
  StableHlo.binary main_call0_v137 main_call0_v141 main_call0_v142 (addi : C F S4096x64x64 .i32 → C F S4096x64x64 .i32 → C F S4096x64x64 .i32),
  StableHlo.nullary main_call0_c_36 ((constantI S_ 32 13#32) : C F S_ .i32),
  StableHlo.unary main_call0_c_36 main_call0_v143 ((broadcastInDim S4096x64x64 ![] bcast_S_S4096x64x64) : C F S_ .i32 → C F S4096x64x64 .i32),
  StableHlo.binary main_call0_v141 main_call0_v143 main_call0_v144 (Host.shli : C F S4096x64x64 .i32 → C F S4096x64x64 .i32 → C F S4096x64x64 .i32),
  StableHlo.nullary main_call0_c_37 ((constantI S_ 32 19#32) : C F S_ .i32),
  StableHlo.unary main_call0_c_37 main_call0_v145 ((broadcastInDim S4096x64x64 ![] bcast_S_S4096x64x64) : C F S_ .i32 → C F S4096x64x64 .i32),
  StableHlo.binary main_call0_v141 main_call0_v145 main_call0_v146 (Host.shrui : C F S4096x64x64 .i32 → C F S4096x64x64 .i32 → C F S4096x64x64 .i32),
  StableHlo.binary main_call0_v144 main_call0_v146 main_call0_v147 (ori : C F S4096x64x64 .i32 → C F S4096x64x64 .i32 → C F S4096x64x64 .i32),
  StableHlo.binary main_call0_v142 main_call0_v147 main_call0_v148 (xori : C F S4096x64x64 .i32 → C F S4096x64x64 .i32 → C F S4096x64x64 .i32),
  StableHlo.binary main_call0_v142 main_call0_v148 main_call0_v149 (addi : C F S4096x64x64 .i32 → C F S4096x64x64 .i32 → C F S4096x64x64 .i32),
  StableHlo.nullary main_call0_c_38 ((constantI S_ 32 15#32) : C F S_ .i32),
  StableHlo.unary main_call0_c_38 main_call0_v150 ((broadcastInDim S4096x64x64 ![] bcast_S_S4096x64x64) : C F S_ .i32 → C F S4096x64x64 .i32),
  StableHlo.binary main_call0_v148 main_call0_v150 main_call0_v151 (Host.shli : C F S4096x64x64 .i32 → C F S4096x64x64 .i32 → C F S4096x64x64 .i32),
  StableHlo.nullary main_call0_c_39 ((constantI S_ 32 17#32) : C F S_ .i32),
  StableHlo.unary main_call0_c_39 main_call0_v152 ((broadcastInDim S4096x64x64 ![] bcast_S_S4096x64x64) : C F S_ .i32 → C F S4096x64x64 .i32),
  StableHlo.binary main_call0_v148 main_call0_v152 main_call0_v153 (Host.shrui : C F S4096x64x64 .i32 → C F S4096x64x64 .i32 → C F S4096x64x64 .i32),
  StableHlo.binary main_call0_v151 main_call0_v153 main_call0_v154 (ori : C F S4096x64x64 .i32 → C F S4096x64x64 .i32 → C F S4096x64x64 .i32),
  StableHlo.binary main_call0_v149 main_call0_v154 main_call0_v155 (xori : C F S4096x64x64 .i32 → C F S4096x64x64 .i32 → C F S4096x64x64 .i32),
  StableHlo.binary main_call0_v149 main_call0_v155 main_call0_v156 (addi : C F S4096x64x64 .i32 → C F S4096x64x64 .i32 → C F S4096x64x64 .i32),
  StableHlo.nullary main_call0_c_40 ((constantI S_ 32 26#32) : C F S_ .i32),
  StableHlo.unary main_call0_c_40 main_call0_v157 ((broadcastInDim S4096x64x64 ![] bcast_S_S4096x64x64) : C F S_ .i32 → C F S4096x64x64 .i32),
  StableHlo.binary main_call0_v155 main_call0_v157 main_call0_v158 (Host.shli : C F S4096x64x64 .i32 → C F S4096x64x64 .i32 → C F S4096x64x64 .i32),
  StableHlo.nullary main_call0_c_41 ((constantI S_ 32 6#32) : C F S_ .i32),
  StableHlo.unary main_call0_c_41 main_call0_v159 ((broadcastInDim S4096x64x64 ![] bcast_S_S4096x64x64) : C F S_ .i32 → C F S4096x64x64 .i32),
  StableHlo.binary main_call0_v155 main_call0_v159 main_call0_v160 (Host.shrui : C F S4096x64x64 .i32 → C F S4096x64x64 .i32 → C F S4096x64x64 .i32),
  StableHlo.binary main_call0_v158 main_call0_v160 main_call0_v161 (ori : C F S4096x64x64 .i32 → C F S4096x64x64 .i32 → C F S4096x64x64 .i32),
  StableHlo.binary main_call0_v156 main_call0_v161 main_call0_v162 (xori : C F S4096x64x64 .i32 → C F S4096x64x64 .i32 → C F S4096x64x64 .i32),
  StableHlo.binary main_call0_v156 main_call0_v162 main_call0_v163 (addi : C F S4096x64x64 .i32 → C F S4096x64x64 .i32 → C F S4096x64x64 .i32),
  StableHlo.nullary main_call0_c_42 ((constantI S_ 32 6#32) : C F S_ .i32),
  StableHlo.unary main_call0_c_42 main_call0_v164 ((broadcastInDim S4096x64x64 ![] bcast_S_S4096x64x64) : C F S_ .i32 → C F S4096x64x64 .i32),
  StableHlo.binary main_call0_v162 main_call0_v164 main_call0_v165 (Host.shli : C F S4096x64x64 .i32 → C F S4096x64x64 .i32 → C F S4096x64x64 .i32),
  StableHlo.nullary main_call0_c_43 ((constantI S_ 32 26#32) : C F S_ .i32),
  StableHlo.unary main_call0_c_43 main_call0_v166 ((broadcastInDim S4096x64x64 ![] bcast_S_S4096x64x64) : C F S_ .i32 → C F S4096x64x64 .i32),
  StableHlo.binary main_call0_v162 main_call0_v166 main_call0_v167 (Host.shrui : C F S4096x64x64 .i32 → C F S4096x64x64 .i32 → C F S4096x64x64 .i32),
  StableHlo.binary main_call0_v165 main_call0_v167 main_call0_v168 (ori : C F S4096x64x64 .i32 → C F S4096x64x64 .i32 → C F S4096x64x64 .i32),
  StableHlo.binary main_call0_v163 main_call0_v168 main_call0_v169 (xori : C F S4096x64x64 .i32 → C F S4096x64x64 .i32 → C F S4096x64x64 .i32),
  StableHlo.unary main_call0_v1 main_call0_v170 ((broadcastInDim S4096x64x64 ![] bcast_S_S4096x64x64) : C F S_ .i32 → C F S4096x64x64 .i32),
  StableHlo.binary main_call0_v163 main_call0_v170 main_v34_0 (addi : C F S4096x64x64 .i32 → C F S4096x64x64 .i32 → C F S4096x64x64 .i32),
  StableHlo.unary main_v16 main_call0_v172 ((broadcastInDim S4096x64x64 ![] bcast_S_S4096x64x64) : C F S_ .i32 → C F S4096x64x64 .i32),
  StableHlo.binary main_call0_v169 main_call0_v172 main_call0_v173 (addi : C F S4096x64x64 .i32 → C F S4096x64x64 .i32 → C F S4096x64x64 .i32),
  StableHlo.nullary main_call0_c_44 ((constantI S_ 32 5#32) : C F S_ .i32),
  StableHlo.unary main_call0_c_44 main_call0_v174 ((broadcastInDim S4096x64x64 ![] bcast_S_S4096x64x64) : C F S_ .i32 → C F S4096x64x64 .i32),
  StableHlo.binary main_call0_v173 main_call0_v174 main_v34_1 (addi : C F S4096x64x64 .i32 → C F S4096x64x64 .i32 → C F S4096x64x64 .i32)]

/-- What stretch 5 writes, in order. -/
noncomputable def w5 : List (Ref sig .tc) := [
  main_call0_v142, main_call0_c_36, main_call0_v143, main_call0_v144, main_call0_c_37, main_call0_v145,
  main_call0_v146, main_call0_v147, main_call0_v148, main_call0_v149, main_call0_c_38, main_call0_v150,
  main_call0_v151, main_call0_c_39, main_call0_v152, main_call0_v153, main_call0_v154, main_call0_v155,
  main_call0_v156, main_call0_c_40, main_call0_v157, main_call0_v158, main_call0_c_41, main_call0_v159,
  main_call0_v160, main_call0_v161, main_call0_v162, main_call0_v163, main_call0_c_42, main_call0_v164,
  main_call0_v165, main_call0_c_43, main_call0_v166, main_call0_v167, main_call0_v168, main_call0_v169,
  main_call0_v170, main_v34_0, main_call0_v172, main_call0_v173, main_call0_c_44, main_call0_v174, main_v34_1]
/-- The uniform draws, the Gumbel scores and their first maximal position. -/
noncomputable def s6 : List (HloOp τ sig (Elt F)) := [
  StableHlo.binary main_v34_0 main_v34_1 main_v35 (xori : C F S4096x64x64 .i32 → C F S4096x64x64 .i32 → C F S4096x64x64 .i32),
  StableHlo.nullary main_c_7 (constantI S_ 32 9#32),
  StableHlo.unary main_c_7 main_v36 (broadcastInDim S4096x64x64 ![] bcast_S_S4096x64x64 : C F S_ .i32 → C F S4096x64x64 .i32),
  StableHlo.binary main_v35 main_v36 main_v37 (Host.shrui : C F S4096x64x64 .i32 → C F S4096x64x64 .i32 → C F S4096x64x64 .i32),
  StableHlo.unary main_v37 main_v38 (id : C F S4096x64x64 .i32 → C F S4096x64x64 .i32),
  StableHlo.unary main_v38 main_v39 (sitofp .f32 : C F S4096x64x64 .i32 → C F S4096x64x64 .f32),
  StableHlo.nullary main_cst_8 (constant S_ .f32 0x34000000#32),
  StableHlo.unary main_cst_8 main_v40 (broadcastInDim S4096x64x64 ![] bcast_S_S4096x64x64 : C F S_ .f32 → C F S4096x64x64 .f32),
  StableHlo.binary main_v39 main_v40 main_v41 (mulf : C F S4096x64x64 .f32 → C F S4096x64x64 .f32 → C F S4096x64x64 .f32),
  StableHlo.unary main_v41 main_v42 (Host.log : C F S4096x64x64 .f32 → C F S4096x64x64 .f32),
  StableHlo.unary main_v42 main_v43 (Host.negf : C F S4096x64x64 .f32 → C F S4096x64x64 .f32),
  StableHlo.unary main_v43 main_v44 (Host.log : C F S4096x64x64 .f32 → C F S4096x64x64 .f32),
  StableHlo.unary main_v44 main_v45 (Host.negf : C F S4096x64x64 .f32 → C F S4096x64x64 .f32),
  StableHlo.unary main_v7 main_v46 (broadcastInDim S4096x1x64 ![0, 2] bcast_S4096x64_S4096x1x64_0_2 : C F S4096x64 .f32 → C F S4096x1x64 .f32),
  StableHlo.unary main_v46 main_v47 (broadcastInDim S4096x64x64 ![0, 1, 2] bcast_S4096x1x64_S4096x64x64_0_1_2 : C F S4096x1x64 .f32 → C F S4096x64x64 .f32),
  StableHlo.binary main_v45 main_v47 main_v48 (addf : C F S4096x64x64 .f32 → C F S4096x64x64 .f32 → C F S4096x64x64 .f32),
  StableHlo.nullary main_call1_v0 ((iotaInDim S4096x64x64 32 2) : C F S4096x64x64 .i32),
  StableHlo.nullary main_call1_cst ((constant S_ .f32 0xFF800000#32) : C F S_ .f32),
  StableHlo.nullary main_call1_c ((constantI S_ 32 0#32) : C F S_ .i32),
  StableHlo.quaternary main_v48 main_call1_v0 main_call1_cst main_call1_c main_call1_v1_0 ((fun x y u v j => (Host.argReduce reducer_argmax_f32_i32 x y u v reducesTo_S4096x64x64_S4096x64_d2 h_S_ j).1) : C F S4096x64x64 .f32 → C F S4096x64x64 .i32 → C F S_ .f32 → C F S_ .i32 → C F S4096x64 .f32),
  StableHlo.quaternary main_v48 main_call1_v0 main_call1_cst main_call1_c main_v49 ((fun x y u v j => (Host.argReduce reducer_argmax_f32_i32 x y u v reducesTo_S4096x64x64_S4096x64_d2 h_S_ j).2) : C F S4096x64x64 .f32 → C F S4096x64x64 .i32 → C F S_ .f32 → C F S_ .i32 → C F S4096x64 .i32)]

/-- What stretch 6 writes, in order. -/
noncomputable def w6 : List (Ref sig .tc) := [
  main_v35, main_c_7, main_v36, main_v37, main_v38, main_v39, main_cst_8, main_v40, main_v41, main_v42, main_v43,
  main_v44, main_v45, main_v46, main_v47, main_v48, main_call1_v0, main_call1_cst, main_call1_c, main_call1_v1_0,
  main_v49]
/-- The drawn positions flattened, and the two takes. -/
noncomputable def s7 : List (HloOp τ sig (Elt F)) := [
  StableHlo.unary main_v49 main_v50 ((transpose S64x4096 [1, 0] · transposes_S4096x64_S64x4096_1_0) : C F S4096x64 .i32 → C F S64x4096 .i32),
  StableHlo.reshape main_v50 main_v51 (rfl : (.i32 : EltTy) = .i32) shapeCasts_S64x4096_S262144,
  StableHlo.nullary main_call2_c ((constantI S_ 32 0#32) : C F S_ .i32),
  StableHlo.unary main_call2_c main_call2_v0 ((broadcastInDim S262144 ![] bcast_S_S262144) : C F S_ .i32 → C F S262144 .i32),
  StableHlo.binary main_v51 main_call2_v0 main_call2_v1 ((cmpi .slt) : C F S262144 .i32 → C F S262144 .i32 → C F S262144 .i1),
  StableHlo.nullary main_call2_c_0 ((constantI S_ 32 262144#32) : C F S_ .i32),
  StableHlo.unary main_call2_c_0 main_call2_v2 ((broadcastInDim S262144 ![] bcast_S_S262144) : C F S_ .i32 → C F S262144 .i32),
  StableHlo.binary main_v51 main_call2_v2 main_call2_v3 (addi : C F S262144 .i32 → C F S262144 .i32 → C F S262144 .i32),
  StableHlo.ternary main_call2_v1 main_call2_v3 main_v51 main_call2_v4 (select : C F S262144 .i1 → C F S262144 .i32 → C F S262144 .i32 → C F S262144 .i32),
  StableHlo.unary main_call2_v4 main_call2_v5 ((broadcastInDim S262144x1 ![0] bcast_S262144_S262144x1_0) : C F S262144 .i32 → C F S262144x1 .i32),
  StableHlo.nullary main_call2_c_1 ((constantI S1 32 262143#32) : C F S1 .i32),
  StableHlo.nullary main_call2_c_2 ((constantI S_ 32 0#32) : C F S_ .i32),
  StableHlo.unary main_call2_c_2 main_call2_v6 ((broadcastInDim S262144x1 ![] bcast_S_S262144x1) : C F S_ .i32 → C F S262144x1 .i32),
  StableHlo.binary main_call2_v5 main_call2_v6 main_call2_v7 ((cmpi .sge) : C F S262144x1 .i32 → C F S262144x1 .i32 → C F S262144x1 .i1),
  StableHlo.unary main_call2_c_1 main_call2_v8 ((broadcastInDim S1x1 ![1] bcast_S1_S1x1_1) : C F S1 .i32 → C F S1x1 .i32),
  StableHlo.unary main_call2_v8 main_call2_v9 ((broadcastInDim S262144x1 ![0, 1] bcast_S1x1_S262144x1_0_1) : C F S1x1 .i32 → C F S262144x1 .i32),
  StableHlo.binary main_call2_v5 main_call2_v9 main_call2_v10 ((cmpi .sle) : C F S262144x1 .i32 → C F S262144x1 .i32 → C F S262144x1 .i1),
  StableHlo.binary main_call2_v7 main_call2_v10 main_call2_v11 (andi : C F S262144x1 .i1 → C F S262144x1 .i1 → C F S262144x1 .i1),
  StableHlo.nullary main_call2_c_3 ((constantI S_ 1 1#1) : C F S_ .i1),
  StableHlo.binary main_call2_v11 main_call2_c_3 main_call2_v12 ((fun x v => Host.reduce IntOp.andi x v reducesTo_S262144x1_S262144_d1 h_S_) : C F S262144x1 .i1 → C F S_ .i1 → C F S262144 .i1),
  StableHlo.binary main_arg0 main_call2_v5 main_call2_v13 ((fun x i => Host.gather gather_S262144x128_S262144x1_S262144x128_1_0_n_n_0_1_1128 x i) : C F S262144x128 .f32 → C F S262144x1 .i32 → C F S262144x128 .f32),
  StableHlo.unary main_call2_v12 main_call2_v14 ((broadcastInDim S262144x128 ![0] bcast_S262144_S262144x128_0) : C F S262144 .i1 → C F S262144x128 .i1),
  StableHlo.nullary main_call2_cst ((constant S_ .f32 0x7FC00000#32) : C F S_ .f32),
  StableHlo.unary main_call2_cst main_call2_v15 ((broadcastInDim S262144x128 ![] bcast_S_S262144x128) : C F S_ .f32 → C F S262144x128 .f32),
  StableHlo.ternary main_call2_v14 main_call2_v13 main_call2_v15 main_v52 (select : C F S262144x128 .i1 → C F S262144x128 .f32 → C F S262144x128 .f32 → C F S262144x128 .f32),
  StableHlo.nullary main_call3_c ((constantI S_ 32 0#32) : C F S_ .i32),
  StableHlo.unary main_call3_c main_call3_v0 ((broadcastInDim S262144 ![] bcast_S_S262144) : C F S_ .i32 → C F S262144 .i32),
  StableHlo.binary main_v51 main_call3_v0 main_call3_v1 ((cmpi .slt) : C F S262144 .i32 → C F S262144 .i32 → C F S262144 .i1),
  StableHlo.nullary main_call3_c_0 ((constantI S_ 32 262144#32) : C F S_ .i32),
  StableHlo.unary main_call3_c_0 main_call3_v2 ((broadcastInDim S262144 ![] bcast_S_S262144) : C F S_ .i32 → C F S262144 .i32),
  StableHlo.binary main_v51 main_call3_v2 main_call3_v3 (addi : C F S262144 .i32 → C F S262144 .i32 → C F S262144 .i32),
  StableHlo.ternary main_call3_v1 main_call3_v3 main_v51 main_call3_v4 (select : C F S262144 .i1 → C F S262144 .i32 → C F S262144 .i32 → C F S262144 .i32),
  StableHlo.unary main_call3_v4 main_call3_v5 ((broadcastInDim S262144x1 ![0] bcast_S262144_S262144x1_0) : C F S262144 .i32 → C F S262144x1 .i32),
  StableHlo.nullary main_call3_c_1 ((constantI S1 32 262143#32) : C F S1 .i32),
  StableHlo.nullary main_call3_c_2 ((constantI S_ 32 0#32) : C F S_ .i32),
  StableHlo.unary main_call3_c_2 main_call3_v6 ((broadcastInDim S262144x1 ![] bcast_S_S262144x1) : C F S_ .i32 → C F S262144x1 .i32),
  StableHlo.binary main_call3_v5 main_call3_v6 main_call3_v7 ((cmpi .sge) : C F S262144x1 .i32 → C F S262144x1 .i32 → C F S262144x1 .i1),
  StableHlo.unary main_call3_c_1 main_call3_v8 ((broadcastInDim S1x1 ![1] bcast_S1_S1x1_1) : C F S1 .i32 → C F S1x1 .i32),
  StableHlo.unary main_call3_v8 main_call3_v9 ((broadcastInDim S262144x1 ![0, 1] bcast_S1x1_S262144x1_0_1) : C F S1x1 .i32 → C F S262144x1 .i32),
  StableHlo.binary main_call3_v5 main_call3_v9 main_call3_v10 ((cmpi .sle) : C F S262144x1 .i32 → C F S262144x1 .i32 → C F S262144x1 .i1),
  StableHlo.binary main_call3_v7 main_call3_v10 main_call3_v11 (andi : C F S262144x1 .i1 → C F S262144x1 .i1 → C F S262144x1 .i1),
  StableHlo.nullary main_call3_c_3 ((constantI S_ 1 1#1) : C F S_ .i1),
  StableHlo.binary main_call3_v11 main_call3_c_3 main_call3_v12 ((fun x v => Host.reduce IntOp.andi x v reducesTo_S262144x1_S262144_d1 h_S_) : C F S262144x1 .i1 → C F S_ .i1 → C F S262144 .i1),
  StableHlo.binary main_arg1 main_call3_v5 main_call3_v13 ((fun x i => Host.gather gather_S262144x1_S262144x1_S262144x1_1_0_n_n_0_1_11 x i) : C F S262144x1 .f32 → C F S262144x1 .i32 → C F S262144x1 .f32),
  StableHlo.unary main_call3_v12 main_call3_v14 ((broadcastInDim S262144x1 ![0] bcast_S262144_S262144x1_0) : C F S262144 .i1 → C F S262144x1 .i1),
  StableHlo.nullary main_call3_cst ((constant S_ .f32 0x7FC00000#32) : C F S_ .f32),
  StableHlo.unary main_call3_cst main_call3_v15 ((broadcastInDim S262144x1 ![] bcast_S_S262144x1) : C F S_ .f32 → C F S262144x1 .f32),
  StableHlo.ternary main_call3_v14 main_call3_v13 main_call3_v15 main_v53 (select : C F S262144x1 .i1 → C F S262144x1 .f32 → C F S262144x1 .f32 → C F S262144x1 .f32)]

/-- What stretch 7 writes, in order. -/
noncomputable def w7 : List (Ref sig .tc) := [
  main_v50, main_v51, main_call2_c, main_call2_v0, main_call2_v1, main_call2_c_0, main_call2_v2, main_call2_v3,
  main_call2_v4, main_call2_v5, main_call2_c_1, main_call2_c_2, main_call2_v6, main_call2_v7, main_call2_v8,
  main_call2_v9, main_call2_v10, main_call2_v11, main_call2_c_3, main_call2_v12, main_call2_v13, main_call2_v14,
  main_call2_cst, main_call2_v15, main_v52, main_call3_c, main_call3_v0, main_call3_v1, main_call3_c_0, main_call3_v2,
  main_call3_v3, main_call3_v4, main_call3_v5, main_call3_c_1, main_call3_c_2, main_call3_v6, main_call3_v7,
  main_call3_v8, main_call3_v9, main_call3_v10, main_call3_v11, main_call3_c_3, main_call3_v12, main_call3_v13,
  main_call3_v14, main_call3_cst, main_call3_v15, main_v53]
/-- The new log-weights and their normalisation over the draws. -/
noncomputable def s8 : List (HloOp τ sig (Elt F)) := [
  StableHlo.unary main_v53 main_v54 (Host.exp : C F S262144x1 .f32 → C F S262144x1 .f32),
  StableHlo.nullary main_cst_9 (constant S_ .f32 0x3F000000#32),
  StableHlo.unary main_cst_9 main_v55 (broadcastInDim S262144x1 ![] bcast_S_S262144x1 : C F S_ .f32 → C F S262144x1 .f32),
  StableHlo.binary main_v55 main_v54 main_v56 (mulf : C F S262144x1 .f32 → C F S262144x1 .f32 → C F S262144x1 .f32),
  StableHlo.nullary main_cst_10 (constant S_ .f32 0x3C000000#32),
  StableHlo.unary main_cst_10 main_v57 (broadcastInDim S262144x1 ![] bcast_S_S262144x1 : C F S_ .f32 → C F S262144x1 .f32),
  StableHlo.binary main_v56 main_v57 main_v58 (addf : C F S262144x1 .f32 → C F S262144x1 .f32 → C F S262144x1 .f32),
  StableHlo.binary main_v54 main_v58 main_v59 (Host.divf : C F S262144x1 .f32 → C F S262144x1 .f32 → C F S262144x1 .f32),
  StableHlo.unary main_v59 main_v60 (Host.log : C F S262144x1 .f32 → C F S262144x1 .f32),
  StableHlo.reshape main_v60 main_v61 (rfl : (.f32 : EltTy) = .f32) shapeCasts_S262144x1_S64x4096,
  StableHlo.unary main_v61 main_v62 (Host.exp : C F S64x4096 .f32 → C F S64x4096 .f32),
  StableHlo.nullary main_cst_11 (constant S_ .f32 0x00000000#32),
  StableHlo.binary main_v62 main_cst_11 main_v63 ((fun x v => Host.reduceAdd x v reducesTo_S64x4096_S4096_d0 h_S_) : C F S64x4096 .f32 → C F S_ .f32 → C F S4096 .f32),
  StableHlo.unary main_v63 main_v64 (broadcastInDim S1x4096 ![1] bcast_S4096_S1x4096_1 : C F S4096 .f32 → C F S1x4096 .f32),
  StableHlo.unary main_v64 main_v65 (Host.log : C F S1x4096 .f32 → C F S1x4096 .f32),
  StableHlo.unary main_v65 main_v66 (broadcastInDim S64x4096 ![0, 1] bcast_S1x4096_S64x4096_0_1 : C F S1x4096 .f32 → C F S64x4096 .f32),
  StableHlo.binary main_v61 main_v66 main_v67 (subf : C F S64x4096 .f32 → C F S64x4096 .f32 → C F S64x4096 .f32)]

/-- What stretch 8 writes, in order. -/
noncomputable def w8 : List (Ref sig .tc) := [
  main_v54, main_cst_9, main_v55, main_v56, main_cst_10, main_v57, main_v58, main_v59, main_v60, main_v61, main_v62,
  main_cst_11, main_v63, main_v64, main_v65, main_v66, main_v67]
/-- The buffers stretch 0 writes, one per operation. -/
theorem writes0 : (s0 (F := F)).map HloOp.writes = w0.map fun r => {Proc.devRef (τ := τ) .tc r} := rfl
/-- No operation of stretch 0 makes a new buffer. -/
theorem fresh0 : (s0 (F := F)).map HloOp.fresh = (s0 (F := F)).map fun _ => (∅ : Finset (DevRef τ sig)) := rfl

/-- The buffers stretch 1 writes, one per operation. -/
theorem writes1 : (s1 (F := F)).map HloOp.writes = w1.map fun r => {Proc.devRef (τ := τ) .tc r} := rfl
/-- No operation of stretch 1 makes a new buffer. -/
theorem fresh1 : (s1 (F := F)).map HloOp.fresh = (s1 (F := F)).map fun _ => (∅ : Finset (DevRef τ sig)) := rfl

/-- The buffers stretch 2 writes, one per operation. -/
theorem writes2 : (s2 (F := F)).map HloOp.writes = w2.map fun r => {Proc.devRef (τ := τ) .tc r} := rfl
/-- No operation of stretch 2 makes a new buffer. -/
theorem fresh2 : (s2 (F := F)).map HloOp.fresh = (s2 (F := F)).map fun _ => (∅ : Finset (DevRef τ sig)) := rfl

/-- The buffers stretch 3 writes, one per operation. -/
theorem writes3 : (s3 (F := F)).map HloOp.writes = w3.map fun r => {Proc.devRef (τ := τ) .tc r} := rfl
/-- No operation of stretch 3 makes a new buffer. -/
theorem fresh3 : (s3 (F := F)).map HloOp.fresh = (s3 (F := F)).map fun _ => (∅ : Finset (DevRef τ sig)) := rfl

/-- The buffers stretch 4 writes, one per operation. -/
theorem writes4 : (s4 (F := F)).map HloOp.writes = w4.map fun r => {Proc.devRef (τ := τ) .tc r} := rfl
/-- No operation of stretch 4 makes a new buffer. -/
theorem fresh4 : (s4 (F := F)).map HloOp.fresh = (s4 (F := F)).map fun _ => (∅ : Finset (DevRef τ sig)) := rfl

/-- The buffers stretch 5 writes, one per operation. -/
theorem writes5 : (s5 (F := F)).map HloOp.writes = w5.map fun r => {Proc.devRef (τ := τ) .tc r} := rfl
/-- No operation of stretch 5 makes a new buffer. -/
theorem fresh5 : (s5 (F := F)).map HloOp.fresh = (s5 (F := F)).map fun _ => (∅ : Finset (DevRef τ sig)) := rfl

/-- The buffers stretch 6 writes, one per operation. -/
theorem writes6 : (s6 (F := F)).map HloOp.writes = w6.map fun r => {Proc.devRef (τ := τ) .tc r} := rfl
/-- No operation of stretch 6 makes a new buffer. -/
theorem fresh6 : (s6 (F := F)).map HloOp.fresh = (s6 (F := F)).map fun _ => (∅ : Finset (DevRef τ sig)) := rfl

/-- The buffers stretch 7 writes, one per operation. -/
theorem writes7 : (s7 (F := F)).map HloOp.writes = w7.map fun r => {Proc.devRef (τ := τ) .tc r} := rfl
/-- No operation of stretch 7 makes a new buffer. -/
theorem fresh7 : (s7 (F := F)).map HloOp.fresh = (s7 (F := F)).map fun _ => (∅ : Finset (DevRef τ sig)) := rfl

/-- The buffers stretch 8 writes, one per operation. -/
theorem writes8 : (s8 (F := F)).map HloOp.writes = w8.map fun r => {Proc.devRef (τ := τ) .tc r} := rfl
/-- No operation of stretch 8 makes a new buffer. -/
theorem fresh8 : (s8 (F := F)).map HloOp.fresh = (s8 (F := F)).map fun _ => (∅ : Finset (DevRef τ sig)) := rfl

/-- The whole line. -/
noncomputable def ops : List (HloOp τ sig (Elt F)) := s0 ++ s1 ++ s2 ++ s3 ++ s4 ++ s5 ++ s6 ++ s7 ++ s8

end Cert.ReferenceIdeal.Line

end
-- ==== Proof.RefRun.lean ====
/- The reference program is its line of host operations, and its run: every buffer ends at what the line leaves there. -/
module

public import proofs.«01_k».proof.Proof.RefOps

@[expose] public section

set_option maxRecDepth 16384

noncomputable section

namespace Cert.ReferenceIdeal.Line

open Idealize.ShloMosaic Idealize.SL.Sem Cert.ReferenceIdeal Cert.ReferenceIdeal.Facts₀ Cert.ReferenceIdeal.Facts

variable {F : FTy → Type} [FloatOps F] [Facts]

/-- The reference is its line. -/
theorem main_eq (d : Dev nD) : main (F := F) d = StableHlo.seq ops := by chain_rfl

/-- What the whole line writes, in order. -/
noncomputable def w : List (Ref sig .tc) := w0 ++ w1 ++ w2 ++ w3 ++ w4 ++ w5 ++ w6 ++ w7 ++ w8

/-- The buffers the line writes, one per operation. -/
theorem writes : (ops (F := F)).map HloOp.writes = w.map fun r => {Proc.devRef (τ := τ) .tc r} := by
  simp only [ops, w, List.map_append, writes0, writes1, writes2, writes3, writes4, writes5, writes6, writes7, writes8]

/-- No operation of the line makes a new buffer. -/
theorem fresh : (ops (F := F)).map HloOp.fresh = (ops (F := F)).map fun _ => (∅ : Finset (DevRef τ sig)) := by
  simp only [ops, List.map_append, fresh0, fresh1, fresh2, fresh3, fresh4, fresh5, fresh6, fresh7, fresh8]

/-- Every operation touches TensorCore buffers only. -/
theorem touches : (ops (F := F)).Forall fun op => op.bufs ⊆ StableHlo.tcRefs τ sig := by
  simp only [ops, s0, s1, s2, s3, s4, s5, s6, s7, s8, List.cons_append, List.nil_append, List.append_assoc, List.Forall,
    StableHlo.nullary_bufs_sub, StableHlo.unary_bufs_sub, StableHlo.binary_bufs_sub, StableHlo.ternary_bufs_sub,
    StableHlo.quaternary_bufs_sub, StableHlo.reshape_bufs_sub, and_self]

/-- From any memory with zero counters the reference ends, its buffers at what the line leaves. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = StableHlo.after ops (StableHlo.launchContents m d) (Proc.devRef .tc b) :=
  StableHlo.run_hlo defs main main_eq (by decide) (by decide) touches
    (List.forall_iff_forall_mem.mp (StableHlo.forall_fresh_of_map fresh)) m ρ

/-- The line leaves the arguments. -/
theorem after_args (V : Valuation τ sig (Elt F)) :
    StableHlo.after ops V (Proc.devRef .tc main_arg0) = V (Proc.devRef .tc main_arg0)
      ∧ StableHlo.after ops V (Proc.devRef .tc main_arg1) = V (Proc.devRef .tc main_arg1) :=
  ⟨StableHlo.after_unwritten w writes (by decide +kernel) V, StableHlo.after_unwritten w writes (by decide +kernel) V⟩

end Cert.ReferenceIdeal.Line

end
-- ==== Proof.RefBits.lean ====
module

public import proofs.«01_k».proof.Proof.RefOps
public import proofs.«01_k».proof.Proof.Cipher
public import proofs.«01_k».proof.Proof.Words
public import Idealize.ShloMosaic.Lib.StableHlo.RunRead
public import Idealize.ShloMosaic.Lib.Pointwise

/-
  The reference's random words: its counters, and its five stretches of the generator, read at an index.
-/

@[expose] public section

set_option maxRecDepth 16384

noncomputable section

namespace Cert.ReferenceIdeal.Line

open Idealize.ShloMosaic Idealize.ShloMosaic.TcCoe
open Cert.ReferenceIdeal Cert.ReferenceIdeal.Facts₀ Cert.ReferenceIdeal.Facts
open Cert.Resample

variable [Facts] (V : Valuation τ sig (Elt Ideal))

/-- The buffers of the key hold its three words. -/
structure Keys (V : Valuation τ sig (Elt Ideal)) : Prop where
  k0 : V (Proc.devRef .tc main_v16) = fun _ => 0#32
  k1 : V (Proc.devRef .tc main_v18) = fun _ => 1234#32
  k2 : V (Proc.devRef .tc main_call0_v1) = fun _ => 466689800#32

/-- Stretch 1 of the generator at an index. -/
theorem after_s1 (h : Keys V) (i : S4096x64x64.Idx) :
    ((StableHlo.after s1 V (Proc.devRef .tc main_call0_v35) i : Word), (StableHlo.after s1 V (Proc.devRef .tc main_call0_v39) i : Word)) = stage1 (V (Proc.devRef .tc main_call0_v3) i, V (Proc.devRef .tc main_call0_v5) i) := by
  have e0 : StableHlo.after s1 V (Proc.devRef .tc main_call0_v35) i = (quadA (V (Proc.devRef .tc main_call0_v3) i, V (Proc.devRef .tc main_call0_v5) i)).1 + 1234#32 := by
    after_reads_simp
    rw [h.k1]
    rfl
  have e1 : StableHlo.after s1 V (Proc.devRef .tc main_call0_v39) i = (quadA (V (Proc.devRef .tc main_call0_v3) i, V (Proc.devRef .tc main_call0_v5) i)).2 + 466689800#32 + 1#32 := by
    after_reads_simp
    rw [h.k2]
    rfl
  rw [e0, e1, BitVec.add_assoc]
  rfl

/-- Stretch 1 leaves the key alone. -/
theorem keys_s1 (h : Keys V) : Keys (StableHlo.after s1 V) where
  k0 := by after_reads_simp; exact h.k0
  k1 := by after_reads_simp; exact h.k1
  k2 := by after_reads_simp; exact h.k2

/-- Stretch 2 of the generator at an index. -/
theorem after_s2 (h : Keys V) (i : S4096x64x64.Idx) :
    ((StableHlo.after s2 V (Proc.devRef .tc main_call0_v69) i : Word), (StableHlo.after s2 V (Proc.devRef .tc main_call0_v73) i : Word)) = stage2 (V (Proc.devRef .tc main_call0_v35) i, V (Proc.devRef .tc main_call0_v39) i) := by
  have e0 : StableHlo.after s2 V (Proc.devRef .tc main_call0_v69) i = (quadB (V (Proc.devRef .tc main_call0_v35) i, V (Proc.devRef .tc main_call0_v39) i)).1 + 466689800#32 := by
    after_reads_simp
    rw [h.k2]
    rfl
  have e1 : StableHlo.after s2 V (Proc.devRef .tc main_call0_v73) i = (quadB (V (Proc.devRef .tc main_call0_v35) i, V (Proc.devRef .tc main_call0_v39) i)).2 + 0#32 + 2#32 := by
    after_reads_simp
    rw [h.k0]
    rfl
  rw [e0, e1, BitVec.add_assoc]
  rfl

/-- Stretch 2 leaves the key alone. -/
theorem keys_s2 (h : Keys V) : Keys (StableHlo.after s2 V) where
  k0 := by after_reads_simp; exact h.k0
  k1 := by after_reads_simp; exact h.k1
  k2 := by after_reads_simp; exact h.k2

/-- Stretch 3 of the generator at an index. -/
theorem after_s3 (h : Keys V) (i : S4096x64x64.Idx) :
    ((StableHlo.after s3 V (Proc.devRef .tc main_call0_v103) i : Word), (StableHlo.after s3 V (Proc.devRef .tc main_call0_v107) i : Word)) = stage3 (V (Proc.devRef .tc main_call0_v69) i, V (Proc.devRef .tc main_call0_v73) i) := by
  have e0 : StableHlo.after s3 V (Proc.devRef .tc main_call0_v103) i = (quadA (V (Proc.devRef .tc main_call0_v69) i, V (Proc.devRef .tc main_call0_v73) i)).1 + 0#32 := by
    after_reads_simp
    rw [h.k0]
    rfl
  have e1 : StableHlo.after s3 V (Proc.devRef .tc main_call0_v107) i = (quadA (V (Proc.devRef .tc main_call0_v69) i, V (Proc.devRef .tc main_call0_v73) i)).2 + 1234#32 + 3#32 := by
    after_reads_simp
    rw [h.k1]
    rfl
  rw [e0, e1, BitVec.add_assoc, BitVec.add_zero]
  rfl

/-- Stretch 3 leaves the key alone. -/
theorem keys_s3 (h : Keys V) : Keys (StableHlo.after s3 V) where
  k0 := by after_reads_simp; exact h.k0
  k1 := by after_reads_simp; exact h.k1
  k2 := by after_reads_simp; exact h.k2

/-- Stretch 4 of the generator at an index. -/
theorem after_s4 (h : Keys V) (i : S4096x64x64.Idx) :
    ((StableHlo.after s4 V (Proc.devRef .tc main_call0_v137) i : Word), (StableHlo.after s4 V (Proc.devRef .tc main_call0_v141) i : Word)) = stage4 (V (Proc.devRef .tc main_call0_v103) i, V (Proc.devRef .tc main_call0_v107) i) := by
  have e0 : StableHlo.after s4 V (Proc.devRef .tc main_call0_v137) i = (quadB (V (Proc.devRef .tc main_call0_v103) i, V (Proc.devRef .tc main_call0_v107) i)).1 + 1234#32 := by
    after_reads_simp
    rw [h.k1]
    rfl
  have e1 : StableHlo.after s4 V (Proc.devRef .tc main_call0_v141) i = (quadB (V (Proc.devRef .tc main_call0_v103) i, V (Proc.devRef .tc main_call0_v107) i)).2 + 466689800#32 + 4#32 := by
    after_reads_simp
    rw [h.k2]
    rfl
  rw [e0, e1, BitVec.add_assoc]
  rfl

/-- Stretch 4 leaves the key alone. -/
theorem keys_s4 (h : Keys V) : Keys (StableHlo.after s4 V) where
  k0 := by after_reads_simp; exact h.k0
  k1 := by after_reads_simp; exact h.k1
  k2 := by after_reads_simp; exact h.k2

/-- Stretch 5 of the generator at an index. -/
theorem after_s5 (h : Keys V) (i : S4096x64x64.Idx) :
    ((StableHlo.after s5 V (Proc.devRef .tc main_v34_0) i : Word), (StableHlo.after s5 V (Proc.devRef .tc main_v34_1) i : Word)) = stage5 (V (Proc.devRef .tc main_call0_v137) i, V (Proc.devRef .tc main_call0_v141) i) := by
  have e0 : StableHlo.after s5 V (Proc.devRef .tc main_v34_0) i = (quadA (V (Proc.devRef .tc main_call0_v137) i, V (Proc.devRef .tc main_call0_v141) i)).1 + 466689800#32 := by
    after_reads_simp
    rw [h.k2]
    rfl
  have e1 : StableHlo.after s5 V (Proc.devRef .tc main_v34_1) i = (quadA (V (Proc.devRef .tc main_call0_v137) i, V (Proc.devRef .tc main_call0_v141) i)).2 + 0#32 + 5#32 := by
    after_reads_simp
    rw [h.k0]
    rfl
  rw [e0, e1, BitVec.add_assoc]
  rfl

/-- Stretch 5 leaves the key alone. -/
theorem keys_s5 (h : Keys V) : Keys (StableHlo.after s5 V) where
  k0 := by after_reads_simp; exact h.k0
  k1 := by after_reads_simp; exact h.k1
  k2 := by after_reads_simp; exact h.k2

/-- The key's high word. -/
theorem word_hi (i : S_.Idx) : StableHlo.after s0 V (Proc.devRef .tc main_v16) i = 0#32 := by
  after_reads_simp
  pointwise []
  after_reads_simp
  pointwise []
  rfl

/-- The key's low word. -/
theorem word_lo (i : S_.Idx) : StableHlo.after s0 V (Proc.devRef .tc main_v18) i = 1234#32 := by
  after_reads_simp
  pointwise []
  after_reads_simp
  pointwise []
  rfl

/-- The opening stretch spells out the key. -/
theorem keys_s0 : Keys (StableHlo.after s0 V) where
  k0 := funext fun i => word_hi V i
  k1 := funext fun i => word_lo V i
  k2 := by
    funext i
    have e : ∀ a c : Word, StableHlo.after s0 V (Proc.devRef .tc main_v16) i = a →
        StableHlo.after s0 V (Proc.devRef .tc main_v18) i = c →
        StableHlo.after s0 V (Proc.devRef .tc main_call0_v1) i = (a ^^^ c) ^^^ 466688986#32 := by
      rintro _ _ rfl rfl
      after_reads_simp
      rfl
    rw [e _ _ (word_hi V i) (word_lo V i)]
    rfl

/-- The generator starts from zero and the draw's place plus the key. -/
theorem after_s0 (b : Fin 4096) (s p : Fin 64) :
    ((StableHlo.after s0 V (Proc.devRef .tc main_call0_v3) (ix3 b s p) : Word), (StableHlo.after s0 V (Proc.devRef .tc main_call0_v5) (ix3 b s p) : Word))
      = (0#32, BitVec.ofNat 32 (b.val * 4096 + s.val * 64 + p.val) + 1234#32) := by
  have e0 : ∀ a c : Word, StableHlo.after s0 V (Proc.devRef .tc main_v33) (ix3 b s p) = a →
      StableHlo.after s0 V (Proc.devRef .tc main_v16) ix0 = c → StableHlo.after s0 V (Proc.devRef .tc main_call0_v3) (ix3 b s p) = a + c := by
    rintro _ _ rfl rfl
    after_reads_simp
    pointwise []
    rfl
  have e1 : ∀ a c : Word, StableHlo.after s0 V (Proc.devRef .tc main_v32) (ix3 b s p) = a →
      StableHlo.after s0 V (Proc.devRef .tc main_v18) ix0 = c → StableHlo.after s0 V (Proc.devRef .tc main_call0_v5) (ix3 b s p) = a + c := by
    rintro _ _ rfl rfl
    after_reads_simp
    pointwise []
    rfl
  have e2 : StableHlo.after s0 V (Proc.devRef .tc main_v33) (ix3 b s p) = 0#32 := by
    after_reads_simp
    pointwise []
    rw [counter, high_zero _ (by omega)]
  have e3 : StableHlo.after s0 V (Proc.devRef .tc main_v32) (ix3 b s p)
      = BitVec.ofNat 32 (b.val * 4096 + s.val * 64 + p.val) := by
    after_reads_simp
    pointwise []
    rw [counter, BitVec.setWidth_ofNat_of_le (by decide)]
  rw [e0 _ _ e2 (word_hi V _), e1 _ _ e3 (word_lo V _)]
  rfl

end Cert.ReferenceIdeal.Line
-- ==== Proof.RefPick.lean ====
module

public import proofs.«01_k».proof.Proof.RefOps
public import proofs.«01_k».proof.Proof.Pick
public import Idealize.ShloMosaic.Lib.Pointwise
public import Idealize.ShloMosaic.PureOps.Ideal.Laws

/-
  The reference's arg-max over the candidates is the pick.
-/

@[expose] public section

set_option maxRecDepth 16384

noncomputable section

namespace Cert.ReferenceIdeal.Line

open Idealize.ShloMosaic Idealize.ShloMosaic.TcCoe
open Cert.ReferenceIdeal Cert.ReferenceIdeal.Facts₀ Cert.ReferenceIdeal.Facts
open Cert.Resample

variable [Facts]

/-- One step of the arg-max keeps the better of its two pairs. -/
theorem step_better (a b : EReal × Word) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨a1, a2⟩ := a
  obtain ⟨b1, b2⟩ := b
  unfold reducer_argmax_f32_i32
  simp only [Ideal.cmpf_def]
  rcases lt_trichotomy a1 b1 with h | rfl | h
  · simp [Ideal.cmp, IntOp.ori, IntOp.andi, Scalar.select, h, h.le, h.ne, not_lt.2 h.le, Beats]
  · by_cases k : a2.slt b2
    · have k' := BitVec.slt_iff_toInt_lt.1 k
      simp [Ideal.cmp, IntOp.ori, IntOp.andi, IntOp.cmpi, Scalar.select, k, k'.le, Beats]
    · have k' : b2.toInt ≤ a2.toInt := not_lt.1 fun h => k (BitVec.slt_iff_toInt_lt.2 h)
      simp [Ideal.cmp, IntOp.ori, IntOp.andi, IntOp.cmpi, Scalar.select, k, k', Beats]
  · simp [Ideal.cmp, IntOp.ori, IntOp.andi, Scalar.select, h, h.ne', Beats]

/-- An index of the scores lies over a batch and new particle exactly when its first two coordinates do. -/
theorem drop_eq (i : S4096x64x64.Idx) (b : Fin 4096) (s : Fin 64) :
    reducesTo_S4096x64x64_S4096x64_d2.drop i = ix2 b s ↔ i = ix3 b s (i 2) := by
  constructor
  · intro h
    have h0 := congrArg Fin.val (congrFun h 0)
    have h1 := congrArg Fin.val (congrFun h 1)
    have e0 := Shape.ReducesTo.drop_apply_val_of_eq reducesTo_S4096x64x64_S4096x64_d2 i 0 0
    have e1 := Shape.ReducesTo.drop_apply_val_of_eq reducesTo_S4096x64x64_S4096x64_d2 i 1 1
    funext a
    refine Fin.ext ?_
    match a with
    | 0 => exact e0.symm.trans h0
    | 1 => exact e1.symm.trans h1
    | 2 => rfl
  · intro h
    rw [h]
    funext a
    refine Fin.ext ?_
    match a with
    | 0 => exact Shape.ReducesTo.drop_apply_val_of_eq reducesTo_S4096x64x64_S4096x64_d2 _ 0 0
    | 1 => exact Shape.ReducesTo.drop_apply_val_of_eq reducesTo_S4096x64x64_S4096x64_d2 _ 1 1

/-- The arg-max over the candidates of one batch and new particle. -/
theorem argmax_apply (x : FVec Ideal S4096x64x64 .f32) (b : Fin 4096) (s : Fin 64) :
    (Host.argReduce reducer_argmax_f32_i32 x (iotaInDim S4096x64x64 32 2) (constant (F := Ideal) S_ .f32 0xFF800000#32)
      (constantI S_ 32 0#32) reducesTo_S4096x64x64_S4096x64_d2 h_S_ (ix2 b s)).2
      = BitVec.ofNat 32 (pick fun p => x (ix3 b s p)).val := by
  rw [Ideal.argReduce_eq_reduce2, Host.reduce2_eq_foldl_fiber]
  have e : ((constant (F := Ideal) S_ .f32 0xFF800000#32 (Shape.Idx.first h_S_) : EReal),
      constantI S_ 32 0#32 (Shape.Idx.first h_S_)) = (⊥, 0#32) := by
    refine Prod.ext ?_ rfl
    show Ideal.ofBits .f32 0xFF800000#32 = ⊥
    simp [Ideal.ofBits, Ideal.ieee]
  rw [e]
  obtain ⟨h1, h2, h3⟩ := foldl_beats (reducer_argmax_f32_i32 (F := Ideal)) step_better
    (Host.argReduceFiber x (iotaInDim S4096x64x64 32 2) reducesTo_S4096x64x64_S4096x64_d2 (ix2 b s)) ((⊥ : EReal), 0#32)
  have hm : ∀ r : EReal × Word, r ∈ Host.argReduceFiber x (iotaInDim S4096x64x64 32 2)
      reducesTo_S4096x64x64_S4096x64_d2 (ix2 b s) ↔ ∃ p : Fin 64, r = (x (ix3 b s p), BitVec.ofNat 32 p.val) := by
    intro r
    unfold Host.argReduceFiber
    simp only [List.mem_map, List.mem_filter, List.mem_finRange, true_and, decide_eq_true_eq]
    constructor
    · rintro ⟨n, hn, rfl⟩
      have hi := (drop_eq _ _ _).1 hn
      refine ⟨S4096x64x64.rowMajor.symm n 2, Prod.ext ?_ rfl⟩
      exact congrArg x hi
    · rintro ⟨p, rfl⟩
      refine ⟨S4096x64x64.rowMajor (ix3 b s p), ?_, ?_⟩
      · rw [Equiv.symm_apply_apply]
        exact (drop_eq _ _ _).2 rfl
      · rw [Equiv.symm_apply_apply]
        rfl
  refine beats_pick (fun p => x (ix3 b s p)) _ ?_ fun p => h3 _ ((hm _).2 ⟨p, rfl⟩)
  exact h1.imp id fun h => (hm _).1 h

end Cert.ReferenceIdeal.Line
-- ==== Proof.RefScores.lean ====
module

public import proofs.«01_k».proof.Proof.RefPick
public import proofs.«01_k».proof.Proof.Score
public import proofs.«01_k».proof.Proof.Cipher
public import proofs.«01_k».proof.Proof.Words
public import Idealize.ShloMosaic.Lib.StableHlo.RunRead
public import Idealize.ShloMosaic.Lib.Pointwise

/-
  The reference's arg-max of the scores, from the generator's words and the logarithms of the weights.
-/

@[expose] public section

set_option maxRecDepth 16384

noncomputable section

namespace Cert.ReferenceIdeal.Line

open Idealize.ShloMosaic Idealize.ShloMosaic.TcCoe
open Cert.ReferenceIdeal Cert.ReferenceIdeal.Facts₀ Cert.ReferenceIdeal.Facts
open Cert.Resample

variable [Facts] (V : Valuation τ sig (Elt Ideal))

/-- One score: the Gumbel of the draw plus the logarithm of the candidate's weight. -/
theorem after_s6_score (b : Fin 4096) (s p : Fin 64) (x : EReal) (a c : Word)
    (ha : V (Proc.devRef .tc main_v34_0) (ix3 b s p) = a) (hc : V (Proc.devRef .tc main_v34_1) (ix3 b s p) = c)
    (hl : V (Proc.devRef .tc main_v7) (ix2 b p) = Ideal.log (weight x)) :
    StableHlo.after s6 V (Proc.devRef .tc main_v48) (ix3 b s p) = scoreR (a ^^^ c) x := by
  after_reads_simp
  pointwise []
  rw [hl, ← ha, ← hc, scoreR, ← upper_unit]
  exact congrArg (fun w : Word => -Ideal.log (-Ideal.log (FloatOps.sitofp (F := Ideal) FTy.f32 w
    * Ideal.ofBits FTy.f32 0x34000000#32)) + Ideal.log (weight x))
      (shrui_word .host (BitVec.xor (V (Proc.devRef .tc main_v34_0) (ix3 b s p)) (V (Proc.devRef .tc main_v34_1) (ix3 b s p))) 9#32 (by decide))

/-- The arg-max at a batch and new particle is the number of the pick of the scores. -/
theorem after_s6 (b : Fin 4096) (s : Fin 64) (f : Fin 64 → EReal)
    (hf : ∀ p, StableHlo.after s6 V (Proc.devRef .tc main_v48) (ix3 b s p) = f p) :
    StableHlo.after s6 V (Proc.devRef .tc main_v49) (ix2 b s) = BitVec.ofNat 32 (pick f).val := by
  have e : ∀ x : FVec Ideal S4096x64x64 .f32, StableHlo.after s6 V (Proc.devRef .tc main_v48) = x →
      StableHlo.after s6 V (Proc.devRef .tc main_v49)
        = fun j => (Host.argReduce reducer_argmax_f32_i32 x (iotaInDim S4096x64x64 32 2) (constant S_ .f32 0xFF800000#32)
            (constantI S_ 32 0#32) reducesTo_S4096x64x64_S4096x64_d2 h_S_ j).2 := by
    rintro _ rfl
    after_reads_simp
  rw [e _ rfl]
  refine (argmax_apply _ b s).trans ?_
  rw [← funext hf]

end Cert.ReferenceIdeal.Line
-- ==== Proof.RefTake.lean ====
module

public import proofs.«01_k».proof.Proof.RefOps
public import proofs.«01_k».proof.Proof.Spec
public import proofs.«01_k».proof.Proof.Words
public import Idealize.ShloMosaic.Lib.StableHlo.RunRead
public import Idealize.ShloMosaic.Lib.Pointwise
public import Idealize.ShloMosaic.Lib.Routing.Ops

/-
  The reference's two takes: where the indices are numbers of candidates, a row of the result is the
  candidate's row.
-/

@[expose] public section

set_option maxRecDepth 16384

noncomputable section

namespace Cert.ReferenceIdeal.Line

open Idealize.ShloMosaic Idealize.ShloMosaic.TcCoe
open Cert.ReferenceIdeal Cert.ReferenceIdeal.Facts₀ Cert.ReferenceIdeal.Facts
open Cert.Resample

variable [Facts] (V : Valuation τ sig (Elt Ideal))

/-- The flat indices, new particle by new particle. -/
theorem after_s7_flat (n : Fin 262144) :
    StableHlo.after s7 V (Proc.devRef .tc main_v51) (ix1 n)
      = V (Proc.devRef .tc main_v49) (ix2 (⟨n.val % 4096, by omega⟩ : Fin 4096) (⟨n.val / 4096, by omega⟩ : Fin 64)) := by
  after_reads_simp
  pointwise []

/-- The first take's indices. -/
theorem after_s7_index2 (q : Fin 262144 → Fin 64)
    (hq : ∀ n, StableHlo.after s7 V (Proc.devRef .tc main_v51) (ix1 n) = BitVec.ofNat 32 (q n).val) (n : Fin 262144) :
    StableHlo.after s7 V (Proc.devRef .tc main_call2_v5) (ix2 n (0 : Fin 1)) = BitVec.ofNat 32 (q n).val := by
  have e : ∀ a : Word, StableHlo.after s7 V (Proc.devRef .tc main_v51) (ix1 n) = a →
      StableHlo.after s7 V (Proc.devRef .tc main_call2_v5) (ix2 n (0 : Fin 1))
        = Scalar.select (IntOp.cmpi .slt a 0#32) (a + 262144#32) a := by
    rintro _ rfl
    after_reads_simp
    pointwise []
    rfl
  rw [e _ (hq n), wrap_word]

/-- The second take's indices. -/
theorem after_s7_index3 (q : Fin 262144 → Fin 64)
    (hq : ∀ n, StableHlo.after s7 V (Proc.devRef .tc main_v51) (ix1 n) = BitVec.ofNat 32 (q n).val) (n : Fin 262144) :
    StableHlo.after s7 V (Proc.devRef .tc main_call3_v5) (ix2 n (0 : Fin 1)) = BitVec.ofNat 32 (q n).val := by
  have e : ∀ a : Word, StableHlo.after s7 V (Proc.devRef .tc main_v51) (ix1 n) = a →
      StableHlo.after s7 V (Proc.devRef .tc main_call3_v5) (ix2 n (0 : Fin 1))
        = Scalar.select (IntOp.cmpi .slt a 0#32) (a + 262144#32) a := by
    rintro _ rfl
    after_reads_simp
    pointwise []
    rfl
  rw [e _ (hq n), wrap_word]

/-- The first take's guard holds everywhere. -/
theorem after_s7_guard2 (q : Fin 262144 → Fin 64)
    (hq : ∀ n, StableHlo.after s7 V (Proc.devRef .tc main_v51) (ix1 n) = BitVec.ofNat 32 (q n).val) (n : Fin 262144) :
    StableHlo.after s7 V (Proc.devRef .tc main_call2_v12) (ix1 n) = 1#1 := by
  have e : ∀ x : IVec S262144x1 1, StableHlo.after s7 V (Proc.devRef .tc main_call2_v11) = x →
      StableHlo.after s7 V (Proc.devRef .tc main_call2_v12)
        = Host.reduce IntOp.andi x (constantI S_ 1 1#1) reducesTo_S262144x1_S262144_d1 h_S_ := by
    rintro _ rfl
    after_reads_simp
  rw [e _ rfl]
  refine all_one _ _ _ _ (fun i => ?_) (fun _ => rfl) _
  idx_vars i
  obtain rfl : i1 = 0 := Subsingleton.elim _ _
  have e' : ∀ a : Word, StableHlo.after s7 V (Proc.devRef .tc main_call2_v5) (ix2 i0 (0 : Fin 1)) = a →
      StableHlo.after s7 V (Proc.devRef .tc main_call2_v11) (ix2 i0 (0 : Fin 1))
        = IntOp.andi (IntOp.cmpi .sge a 0#32) (IntOp.cmpi .sle a 262143#32) := by
    rintro _ rfl
    after_reads_simp
    pointwise []
  exact (e' _ (after_s7_index2 V q hq i0)).trans (range_word _)

/-- The second take's guard holds everywhere. -/
theorem after_s7_guard3 (q : Fin 262144 → Fin 64)
    (hq : ∀ n, StableHlo.after s7 V (Proc.devRef .tc main_v51) (ix1 n) = BitVec.ofNat 32 (q n).val) (n : Fin 262144) :
    StableHlo.after s7 V (Proc.devRef .tc main_call3_v12) (ix1 n) = 1#1 := by
  have e : ∀ x : IVec S262144x1 1, StableHlo.after s7 V (Proc.devRef .tc main_call3_v11) = x →
      StableHlo.after s7 V (Proc.devRef .tc main_call3_v12)
        = Host.reduce IntOp.andi x (constantI S_ 1 1#1) reducesTo_S262144x1_S262144_d1 h_S_ := by
    rintro _ rfl
    after_reads_simp
  rw [e _ rfl]
  refine all_one _ _ _ _ (fun i => ?_) (fun _ => rfl) _
  idx_vars i
  obtain rfl : i1 = 0 := Subsingleton.elim _ _
  have e' : ∀ a : Word, StableHlo.after s7 V (Proc.devRef .tc main_call3_v5) (ix2 i0 (0 : Fin 1)) = a →
      StableHlo.after s7 V (Proc.devRef .tc main_call3_v11) (ix2 i0 (0 : Fin 1))
        = IntOp.andi (IntOp.cmpi .sge a 0#32) (IntOp.cmpi .sle a 262143#32) := by
    rintro _ rfl
    after_reads_simp
    pointwise []
  exact (e' _ (after_s7_index3 V q hq i0)).trans (range_word _)

/-- The rows taken from the particles. -/
theorem after_s7_rows (q : Fin 262144 → Fin 64)
    (hq : ∀ n, StableHlo.after s7 V (Proc.devRef .tc main_v51) (ix1 n) = BitVec.ofNat 32 (q n).val)
    (x : FVec Ideal S262144x128 .f32) (hx : V (Proc.devRef .tc main_arg0) = x) (n : Fin 262144) (d : Fin 128) :
    StableHlo.after s7 V (Proc.devRef .tc main_v52) (ix2 n d) = x (ix2 (row (q n)) d) := by
  have e : ∀ (c : BitVec 1) (k : IVec S262144x1 32), StableHlo.after s7 V (Proc.devRef .tc main_call2_v12) (ix1 n) = c →
      StableHlo.after s7 V (Proc.devRef .tc main_call2_v5) = k → StableHlo.after s7 V (Proc.devRef .tc main_v52) (ix2 n d)
        = Scalar.select c (Host.gather gather_S262144x128_S262144x1_S262144x128_1_0_n_n_0_1_1128 x k (ix2 n d))
          (Ideal.ofBits .f32 0x7FC00000#32) := by
    subst hx
    rintro _ _ rfl rfl
    after_reads_simp
    pointwise []
  rw [e _ _ (after_s7_guard2 V q hq n) rfl]
  refine (Routing.gather_row gather_S262144x128_S262144x1_S262144x128_1_0_n_n_0_1_1128 rfl rfl rfl rfl rfl x _ n d (row (q n))
    ?_ (by decide))
  exact after_s7_index2 V q hq n

/-- The log-weights taken. -/
theorem after_s7_weights (q : Fin 262144 → Fin 64)
    (hq : ∀ n, StableHlo.after s7 V (Proc.devRef .tc main_v51) (ix1 n) = BitVec.ofNat 32 (q n).val)
    (x : FVec Ideal S262144x1 .f32) (hx : V (Proc.devRef .tc main_arg1) = x) (n : Fin 262144) :
    StableHlo.after s7 V (Proc.devRef .tc main_v53) (ix2 n (0 : Fin 1)) = x (ix2 (row (q n)) (0 : Fin 1)) := by
  have e : ∀ (c : BitVec 1) (k : IVec S262144x1 32), StableHlo.after s7 V (Proc.devRef .tc main_call3_v12) (ix1 n) = c →
      StableHlo.after s7 V (Proc.devRef .tc main_call3_v5) = k →
      StableHlo.after s7 V (Proc.devRef .tc main_v53) (ix2 n (0 : Fin 1))
        = Scalar.select c (Host.gather gather_S262144x1_S262144x1_S262144x1_1_0_n_n_0_1_11 x k (ix2 n (0 : Fin 1)))
          (Ideal.ofBits .f32 0x7FC00000#32) := by
    subst hx
    rintro _ _ rfl rfl
    after_reads_simp
    pointwise []
  rw [e _ _ (after_s7_guard3 V q hq n) rfl]
  refine (Routing.gather_row gather_S262144x1_S262144x1_S262144x1_1_0_n_n_0_1_11 rfl rfl rfl rfl rfl x _ n (0 : Fin 1)
    (row (q n)) ?_ (by decide))
  exact after_s7_index3 V q hq n

end Cert.ReferenceIdeal.Line
-- ==== Proof.RefNorm.lean ====
module

public import proofs.«01_k».proof.Proof.RefOps
public import proofs.«01_k».proof.Proof.Spec
public import Idealize.ShloMosaic.Lib.StableHlo.RunRead
public import Idealize.ShloMosaic.Lib.Pointwise
public import Idealize.ShloMosaic.PureOps.Ideal.Laws
public import Idealize.ShloMosaic.Lib.IdealHost

/-
  The reference's new log-weights: the gains of the log-weights taken, normalised over the new particles.
-/

@[expose] public section

set_option maxRecDepth 16384

noncomputable section

namespace Cert.ReferenceIdeal.Line

open Idealize.ShloMosaic Idealize.ShloMosaic.TcCoe
open Cert.ReferenceIdeal Cert.ReferenceIdeal.Facts₀ Cert.ReferenceIdeal.Facts
open Cert.Resample

variable [Facts] (V : Valuation τ sig (Elt Ideal))

/-- The gains, as a table of new particles and batches. -/
theorem after_s8_gain (s : Fin 64) (b : Fin 4096) (y : EReal)
    (hy : V (Proc.devRef .tc main_v53) (ix2 (⟨s.val * 4096 + b.val, by omega⟩ : Fin 262144) (0 : Fin 1)) = y) :
    StableHlo.after s8 V (Proc.devRef .tc main_v61) (ix2 s b) = gain y := by
  after_reads_simp
  pointwise []
  rw [hy]
  rfl

/-- The new log-weights. -/
theorem after_s8 (f : Fin 64 → Fin 4096 → EReal)
    (hf : ∀ s b, StableHlo.after s8 V (Proc.devRef .tc main_v61) (ix2 s b) = f s b) (s : Fin 64) (b : Fin 4096) :
    StableHlo.after s8 V (Proc.devRef .tc main_v67) (ix2 s b) = f s b - Ideal.log (∑ k : Fin 64, Ideal.exp (f k b)) := by
  have e : ∀ x : FVec Ideal S64x4096 .f32, StableHlo.after s8 V (Proc.devRef .tc main_v61) = x →
      StableHlo.after s8 V (Proc.devRef .tc main_v67) (ix2 s b)
        = x (ix2 s b) - Ideal.log (∑ k : Fin 64, Ideal.exp (x (ix2 k b))) := by
    rintro _ rfl
    after_reads_simp
    pointwise []
  rw [e _ rfl, hf]
  simp only [hf]

end Cert.ReferenceIdeal.Line
-- ==== Proof.RefValue.lean ====
module

public import proofs.«01_k».proof.Proof.RefBits
public import proofs.«01_k».proof.Proof.RefScores
public import proofs.«01_k».proof.Proof.RefTake
public import proofs.«01_k».proof.Proof.RefNorm
public import Idealize.ShloMosaic.Lib.Pipeline.Frame

/-
  The reference's two results as functions of its arguments.
-/

@[expose] public section

set_option maxRecDepth 16384

noncomputable section

namespace Cert.ReferenceIdeal.Line

open Idealize.ShloMosaic Idealize.ShloMosaic.TcCoe
open Cert.ReferenceIdeal Cert.ReferenceIdeal.Facts₀ Cert.ReferenceIdeal.Facts
open Cert.Resample

variable [Facts] (V : Valuation τ sig (Elt Ideal))

/-- The contents after the generator. -/
def words : Valuation τ sig (Elt Ideal) :=
  StableHlo.after s5 (StableHlo.after s4 (StableHlo.after s3 (StableHlo.after s2 (StableHlo.after s1 (StableHlo.after s0 V)))))

/-- The contents after the arg-max. -/
def chosen : Valuation τ sig (Elt Ideal) := StableHlo.after s6 (words V)

/-- The contents after the takes. -/
def taken : Valuation τ sig (Elt Ideal) := StableHlo.after s7 (chosen V)

/-- The whole line is its stretches in order. -/
theorem after_ops : StableHlo.after ops V = StableHlo.after s8 (taken V) := by
  unfold ops taken chosen words
  simp only [StableHlo.after_append]

/-- The generator's two words at a draw are the cipher's. -/
theorem words_pair (b : Fin 4096) (s p : Fin 64) :
    ((words V (Proc.devRef .tc main_v34_0) (ix3 b s p) : Word), (words V (Proc.devRef .tc main_v34_1) (ix3 b s p) : Word))
      = cipher (0#32, BitVec.ofNat 32 (b.val * 4096 + s.val * 64 + p.val) + 1234#32) := by
  have k0 := keys_s0 V
  have k1 := keys_s1 _ k0
  have k2 := keys_s2 _ k1
  have k3 := keys_s3 _ k2
  have k4 := keys_s4 _ k3
  unfold words
  rw [after_s5 _ k4, after_s4 _ k3, after_s3 _ k2, after_s2 _ k1, after_s1 _ k0, after_s0]
  rfl

/-- The generator leaves the logarithms of the weights. -/
theorem words_logits (b : Fin 4096) (p : Fin 64) (x : FVec Ideal S262144x1 .f32) (hx : V (Proc.devRef .tc main_arg1) = x) :
    words V (Proc.devRef .tc main_v7) (ix2 b p)
      = Ideal.log (weight (lw (fun n => x (ix2 n (0 : Fin 1))) p b)) := by
  have e : words V (Proc.devRef .tc main_v7) = StableHlo.after s0 V (Proc.devRef .tc main_v7) := by
    unfold words
    after_reads_simp
  subst hx
  rw [e]
  after_reads_simp
  pointwise []
  rfl

/-- The generator and the arg-max leave the arguments. -/
theorem chosen_args : chosen V (Proc.devRef .tc main_arg0) = V (Proc.devRef .tc main_arg0)
    ∧ chosen V (Proc.devRef .tc main_arg1) = V (Proc.devRef .tc main_arg1) := by
  unfold chosen words
  constructor <;> after_reads_simp

/-- The arg-max at a batch and new particle is the number of its choice. -/
theorem chosen_index (x : Fin 262144 → EReal) (hV : ∀ n, V (Proc.devRef .tc main_arg1) (ix2 n (0 : Fin 1)) = x n)
    (hx : ∀ n, x n < ⊤) (b : Fin 4096) (s : Fin 64) :
    chosen V (Proc.devRef .tc main_v49) (ix2 b s) = BitVec.ofNat 32 (choice x b s).val := by
  unfold chosen choice
  rw [← pick_scores (draw b s) (fun p => lw x p b) fun p => hx _]
  refine after_s6 _ b s _ fun p => ?_
  have hw := words_pair V b s p
  refine (after_s6_score _ b s p (lw x p b) _ _ (congrArg Prod.fst hw) (congrArg Prod.snd hw) ?_).trans rfl
  rw [words_logits V b p _ rfl]
  simp only [hV]

/-- The index taken for a row of the results. -/
def index (x : Fin 262144 → EReal) (n : Fin 262144) : Fin 64 :=
  choice x ⟨n.val % 4096, by omega⟩ ⟨n.val / 4096, by omega⟩

/-- The flat indices are the choices' numbers. -/
theorem flat_index (x : Fin 262144 → EReal) (hV : ∀ n, V (Proc.devRef .tc main_arg1) (ix2 n (0 : Fin 1)) = x n)
    (hx : ∀ n, x n < ⊤) (n : Fin 262144) :
    StableHlo.after s7 (chosen V) (Proc.devRef .tc main_v51) (ix1 n) = BitVec.ofNat 32 (index x n).val :=
  (after_s7_flat _ n).trans (chosen_index V x hV hx _ _)

/-- The new particles: row by row, the row of the candidate chosen. -/
theorem result_rows (x : Fin 262144 → EReal) (hV : ∀ n, V (Proc.devRef .tc main_arg1) (ix2 n (0 : Fin 1)) = x n)
    (hx : ∀ n, x n < ⊤) (y : FVec Ideal S262144x128 .f32) (hy : V (Proc.devRef .tc main_arg0) = y)
    (n : Fin 262144) (d : Fin 128) :
    StableHlo.after ops V (Proc.devRef .tc main_v52) (ix2 n d) = y (ix2 (row (index x n)) d) := by
  have e : StableHlo.after ops V (Proc.devRef .tc main_v52) = taken V (Proc.devRef .tc main_v52) := by
    rw [after_ops]
    after_reads_simp
  rw [e]
  exact after_s7_rows _ (index x) (flat_index V x hV hx) y ((chosen_args V).1.trans hy) n d

/-- The new log-weights. -/
theorem result_weights (x : Fin 262144 → EReal) (hV : ∀ n, V (Proc.devRef .tc main_arg1) (ix2 n (0 : Fin 1)) = x n)
    (hx : ∀ n, x n < ⊤) (s : Fin 64) (b : Fin 4096) :
    StableHlo.after ops V (Proc.devRef .tc main_v67) (ix2 s b) = newWeight x s b := by
  rw [after_ops]
  refine (after_s8 _ (fun s b => newGain x s b) (fun s b => ?_) s b).trans rfl
  refine after_s8_gain _ s b _ ?_
  refine (after_s7_weights _ (index x) (flat_index V x hV hx) _ (chosen_args V).2 _).trans ?_
  rw [hV]
  have eb : (⟨(s.val * 4096 + b.val) % 4096, by omega⟩ : Fin 4096) = b := Fin.ext (by show _ % _ = _; omega)
  have es : (⟨(s.val * 4096 + b.val) / 4096, by omega⟩ : Fin 64) = s := Fin.ext (by show _ / _ = _; omega)
  unfold index
  simp only [eb, es]

end Cert.ReferenceIdeal.Line
-- ==== Proof.KerRun.lean ====
module

public import proofs.«01_k».proof.Proof.Gen.KernelIdeal.Frame
public import Idealize.ShloMosaic.Lib.Pipeline.ValueKit
public import Idealize.ShloMosaic.PureOps.Ideal

/-
  The kernel's run over the reals, ending with its two results and its arguments.
-/

@[expose] public section

set_option maxRecDepth 16384

noncomputable section

namespace Cert.Resample.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

set_option backward.isDefEq.respectTransparency.types false in
/-- The kernel's run from any memory: it ends, with its arguments as they were and its two results what the last
    host operation leaves. -/
theorem run : θ_run defs (onTc (τ := τ) (main (F := Ideal))) ⟨m, fun _ => 0, ρ⟩ (fun r => ∀ c : Dev nD,
      r.2.mem ((c.tc : Thread nD τ).loc main_v0_0) = W5 m ρ c (Proc.devRef .tc main_v0_0)
      ∧ r.2.mem ((c.tc : Thread nD τ).loc main_v0_1) = W5 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v0_0 (by decide)), h c _ (mem_uc main_v0_1 (by decide)),
       (h c _ (mem_uc main_arg0 (by decide))).trans (W5_main_arg0 m ρ c),
       (h c _ (mem_uc main_arg1 (by decide))).trans (W5_main_arg1 m ρ c)⟩)

end Cert.Resample.Ker
-- ==== Proof.KerCipher.lean ====
module

public import proofs.«01_k».proof.Proof.Gen.KernelIdeal.Skeleton
public import proofs.«01_k».proof.Proof.Cipher
public import Idealize.ShloMosaic.Lib.Pointwise

/-
  The kernel's random words.

  The body of the fused kernel runs the cipher twice, once for each half of its rows, on whole vectors of
  words. Here each half's vector operations are read as the cipher at every index.
-/

@[expose] public section

set_option maxRecDepth 16384

noncomputable section

namespace Cert.Resample.Ker

open Idealize.ShloMosaic Idealize.ShloMosaic.TcCoe Idealize.SL.Sem Idealize.ShloMosaic.ValueIdx
open Cert.KernelIdeal Cert.KernelIdeal.Gen

/-- A vector of words, one for each row, particle and column of a half block. -/
abbrev Words := IVec S32x64x128 32
/-- A vector of cipher pairs at the same places. -/
abbrev Pairs := S32x64x128.Idx → Word × Word

/-- The second words. -/
def sec (s : Pairs) : Words := fun j => (s j).2
/-- The sums of the two words, which the next round takes as its first words. -/
def tot (s : Pairs) : Words := fun j => (s j).1 + (s j).2
/-- The second words shifted left. -/
def secl (r : Word) (s : Pairs) : Words := fun j => (s j).2 <<< r
/-- A function applied at every place. -/
def each (f : Word × Word → Word × Word) (s : Pairs) : Pairs := fun j => f (s j)
/-- The pairs the kernel starts at: a first word of zero. -/
def start (w : Words) : Pairs := fun j => (0#32, w j)
/-- The words the cipher gives. -/
def words (w : Words) : Words := fun j => mixOf (0#32, w j)

/-- The scores: the logarithm of the uniform number each word stands for, times the column's weight. -/
def score (v1 : FVec Ideal S64x128 .f32) (w : Words) : FVec Ideal S32x64x128 .f32 :=
  mulf (log (subf (bitcastToFloat .f32 (ori (shrui w (broadcast S32x64x128 9#32)) (broadcast S32x64x128 1065353216#32)))
    (broadcast S32x64x128 (Scalar.ofBits .f32 0x3F800000#32))))
    (broadcastTo S32x64x128 (shapeCast S1x64x128 v1 shapeCasts_S64x128_S1x64x128) broadcasts_S1x64x128_S32x64x128)

/-- Where the score is the greatest of its column. -/
def mask (v1 : FVec Ideal S64x128 .f32) (w : Words) : IVec S32x64x128 1 :=
  cmpf .oeq (score v1 w) (broadcastTo S32x64x128
    (shapeCast S32x1x128 (multiReduction .maximumf [1] S32x128 (score v1 w) 0xFF800000#32 reduces_S32x64x128_S32x128 (.inl rfl) rfl)
      shapeCasts_S32x128_S32x1x128) broadcasts_S32x1x128_S32x64x128)

/-- The particle numbers. -/
def nums : Words := iota .tc S32x64x128 32 [1] iota_S32x64x128_d1_w32

/-- A stretch of the first half: from the first injection to the second round of the third group. -/
def mid (s : Word × Word) : Word × Word := rnd 15#32 17#32 (rnd 13#32 19#32 (stage2 s))
/-- From there to the fourth injection. -/
def fin4 (s : Word × Word) : Word × Word :=
  stage4 (inj2 1237#32 (rnd 6#32 26#32 (rnd 26#32 6#32 s)))

/-- The middle stretch and the last four rounds are stages two to four. -/
theorem fin4_mid (s : Word × Word) : fin4 (mid s) = stage4 (stage3 (stage2 s)) := rfl

/-- Value 10 of the kernel's body: the second word at that point of the generator. -/
theorem p10 (v : IVec S32x128 32) : k1_pay10 (F := Ideal) v = sec (each stage1 (start (k1_pay3 (F := Ideal) v))) := by
  funext j; simp only [sec, each, start]; rw [stage1_zero]; rfl

/-- Value 11 of the kernel's body: the sum of the words at that point of the generator. -/
theorem p11 (v : IVec S32x128 32) : k1_pay11 (F := Ideal) v = tot (each stage1 (start (k1_pay3 (F := Ideal) v))) := by
  funext j; simp only [tot, each, start]; rw [stage1_zero]; rfl

/-- Value 12 of the kernel's body: the shifted second word at that point of the generator. -/
theorem p12 (v : IVec S32x128 32) : k1_pay12 (F := Ideal) v = secl 17#32 (each stage1 (start (k1_pay3 (F := Ideal) v))) := by
  funext j; simp only [secl, each, start]; rw [stage1_zero]; rfl

/-- Value 24 of the kernel's body: the second word at that point of the generator. -/
theorem p24 (s : Pairs) : k1_pay24 (sec s) (tot s) (secl 17#32 s) k1_pay13 = sec (each mid s) := rfl
/-- Value 25 of the kernel's body: the sum of the words at that point of the generator. -/
theorem p25 (s : Pairs) : k1_pay25 (sec s) (tot s) (secl 17#32 s) k1_pay13 = tot (each mid s) := rfl
/-- Value 26 of the kernel's body: the shifted second word at that point of the generator. -/
theorem p26 (s : Pairs) : k1_pay26 (sec s) (tot s) (secl 17#32 s) k1_pay13 = secl 26#32 (each mid s) := rfl
/-- Value 38 of the kernel's body: the second word at that point of the generator. -/
theorem p38 (s : Pairs) : k1_pay38 (sec s) (tot s) (secl 26#32 s) k1_pay27 = sec (each fin4 s) := rfl
/-- Value 39 of the kernel's body: the sum of the words at that point of the generator. -/
theorem p39 (s : Pairs) : k1_pay39 (sec s) (tot s) (secl 26#32 s) k1_pay27 = tot (each fin4 s) := rfl
/-- Value 41 of the kernel's body: the scores from the generator's last words. -/
theorem p41 (v1 : FVec Ideal S64x128 .f32) (s : Pairs) : k1_pay41 v1 (sec s) (tot s) k1_pay40
    = mask v1 fun j => (stage5 (s j)).1 ^^^ (stage5 (s j)).2 := rfl

/-- The first half of the rows: the mask is the one of the cipher's words. -/
theorem half1 (v1 : FVec Ideal S64x128 .f32) (v : IVec S32x128 32) :
    k1_pay41 v1
      (k1_pay38 (k1_pay24 (k1_pay10 (F := Ideal) v) (k1_pay11 (F := Ideal) v) (k1_pay12 (F := Ideal) v) k1_pay13)
        (k1_pay25 (k1_pay10 (F := Ideal) v) (k1_pay11 (F := Ideal) v) (k1_pay12 (F := Ideal) v) k1_pay13)
        (k1_pay26 (k1_pay10 (F := Ideal) v) (k1_pay11 (F := Ideal) v) (k1_pay12 (F := Ideal) v) k1_pay13) k1_pay27)
      (k1_pay39 (k1_pay24 (k1_pay10 (F := Ideal) v) (k1_pay11 (F := Ideal) v) (k1_pay12 (F := Ideal) v) k1_pay13)
        (k1_pay25 (k1_pay10 (F := Ideal) v) (k1_pay11 (F := Ideal) v) (k1_pay12 (F := Ideal) v) k1_pay13)
        (k1_pay26 (k1_pay10 (F := Ideal) v) (k1_pay11 (F := Ideal) v) (k1_pay12 (F := Ideal) v) k1_pay13) k1_pay27)
      k1_pay40 = mask v1 (words (k1_pay3 (F := Ideal) v)) := by
  rw [p10, p11, p12, p24, p25, p26, p38, p39, p41]
  rfl

/-! The second half is cut at other rounds. -/

/-- The second half's first stretch: one round. -/
def m0 (s : Word × Word) : Word × Word := rnd 13#32 19#32 s
/-- Its second stretch. -/
def m1 (s : Word × Word) : Word × Word :=
  rnd 16#32 16#32 (rnd 29#32 3#32 (rnd 17#32 15#32 (inj 1234#32 466689801#32 (rnd 6#32 26#32 (rnd 26#32 6#32 (rnd 15#32 17#32 s))))))
/-- Its third stretch. -/
def m2 (s : Word × Word) : Word × Word :=
  rnd 17#32 15#32 (inj2 1237#32 (quadA (inj 466689800#32 2#32 (rnd 24#32 8#32 s))))
/-- Its fourth stretch. -/
def m3 (s : Word × Word) : Word × Word :=
  rnd 26#32 6#32 (rnd 15#32 17#32 (rnd 13#32 19#32 (inj 1234#32 466689804#32 (rnd 24#32 8#32 (rnd 16#32 16#32 (rnd 29#32 3#32 s))))))
/-- Its last stretch. -/
def m4 (s : Word × Word) : Word × Word := inj 466689800#32 5#32 (rnd 6#32 26#32 s)

/-- The five stretches of the second half make the whole cipher. -/
theorem m_all (s : Word × Word) : m4 (m3 (m2 (m1 (m0 s)))) = cipher s := rfl

/-- Value 46 of the kernel's body: the second word at that point of the generator. -/
theorem p46 (v : IVec S32x128 32) : k1_pay46 (F := Ideal) v = sec (each m0 (start (k1_pay45 (F := Ideal) v))) := by
  funext j; simp only [sec, each, start, m0]; rw [rnd_zero]; rfl
/-- Value 47 of the kernel's body: the sum of the words at that point of the generator. -/
theorem p47 (v : IVec S32x128 32) : k1_pay47 (F := Ideal) v = tot (each m0 (start (k1_pay45 (F := Ideal) v))) := by
  funext j; simp only [tot, each, start, m0]; rw [rnd_zero]; rfl
/-- Value 48 of the kernel's body: the shifted second word at that point of the generator. -/
theorem p48 (v : IVec S32x128 32) : k1_pay48 (F := Ideal) v = secl 15#32 (each m0 (start (k1_pay45 (F := Ideal) v))) := by
  funext j; simp only [secl, each, start, m0]; rw [rnd_zero]; rfl
/-- Value 59 of the kernel's body: the second word at that point of the generator. -/
theorem p59 (s : Pairs) : k1_pay59 (sec s) (tot s) (secl 15#32 s) 17#32 = sec (each m1 s) := rfl
/-- Value 60 of the kernel's body: the sum of the words at that point of the generator. -/
theorem p60 (s : Pairs) : k1_pay60 (sec s) (tot s) (secl 15#32 s) 17#32 = tot (each m1 s) := rfl
/-- Value 61 of the kernel's body: the shifted second word at that point of the generator. -/
theorem p61 (s : Pairs) : k1_pay61 (sec s) (tot s) (secl 15#32 s) 17#32 = secl 24#32 (each m1 s) := rfl
/-- Value 72 of the kernel's body: the second word at that point of the generator. -/
theorem p72 (s : Pairs) : k1_pay72 (sec s) (tot s) (secl 24#32 s) 8#32 = sec (each m2 s) := rfl
/-- Value 73 of the kernel's body: the sum of the words at that point of the generator. -/
theorem p73 (s : Pairs) : k1_pay73 (sec s) (tot s) (secl 24#32 s) 8#32 = tot (each m2 s) := rfl
/-- Value 84 of the kernel's body: the second word at that point of the generator. -/
theorem p84 (s : Pairs) : k1_pay84 (sec s) (tot s) 29#32 = sec (each m3 s) := rfl
/-- Value 85 of the kernel's body: the sum of the words at that point of the generator. -/
theorem p85 (s : Pairs) : k1_pay85 (sec s) (tot s) 29#32 = tot (each m3 s) := rfl
/-- Value 86 of the kernel's body: the scores from the generator's last words. -/
theorem p86 (v1 : FVec Ideal S64x128 .f32) (s : Pairs) : k1_pay86 v1 (sec s) (tot s) 6#32
    = k1_pay42 nums (mask v1 fun j => (m4 (s j)).1 ^^^ (m4 (s j)).2) := rfl
/-- The second half starts from the same words as the first. -/
theorem p45 (v : IVec S32x128 32) : k1_pay45 (F := Ideal) v = k1_pay3 (F := Ideal) v := rfl

/-- The second half of the rows: the same one-hot rows, of the same mask. -/
theorem half2 (v1 : FVec Ideal S64x128 .f32) (v : IVec S32x128 32) :
    k1_pay86 v1
      (k1_pay84
        (k1_pay72 (k1_pay59 (k1_pay46 (F := Ideal) v) (k1_pay47 (F := Ideal) v) (k1_pay48 (F := Ideal) v) 17#32)
          (k1_pay60 (k1_pay46 (F := Ideal) v) (k1_pay47 (F := Ideal) v) (k1_pay48 (F := Ideal) v) 17#32)
          (k1_pay61 (k1_pay46 (F := Ideal) v) (k1_pay47 (F := Ideal) v) (k1_pay48 (F := Ideal) v) 17#32) 8#32)
        (k1_pay73 (k1_pay59 (k1_pay46 (F := Ideal) v) (k1_pay47 (F := Ideal) v) (k1_pay48 (F := Ideal) v) 17#32)
          (k1_pay60 (k1_pay46 (F := Ideal) v) (k1_pay47 (F := Ideal) v) (k1_pay48 (F := Ideal) v) 17#32)
          (k1_pay61 (k1_pay46 (F := Ideal) v) (k1_pay47 (F := Ideal) v) (k1_pay48 (F := Ideal) v) 17#32) 8#32) 29#32)
      (k1_pay85
        (k1_pay72 (k1_pay59 (k1_pay46 (F := Ideal) v) (k1_pay47 (F := Ideal) v) (k1_pay48 (F := Ideal) v) 17#32)
          (k1_pay60 (k1_pay46 (F := Ideal) v) (k1_pay47 (F := Ideal) v) (k1_pay48 (F := Ideal) v) 17#32)
          (k1_pay61 (k1_pay46 (F := Ideal) v) (k1_pay47 (F := Ideal) v) (k1_pay48 (F := Ideal) v) 17#32) 8#32)
        (k1_pay73 (k1_pay59 (k1_pay46 (F := Ideal) v) (k1_pay47 (F := Ideal) v) (k1_pay48 (F := Ideal) v) 17#32)
          (k1_pay60 (k1_pay46 (F := Ideal) v) (k1_pay47 (F := Ideal) v) (k1_pay48 (F := Ideal) v) 17#32)
          (k1_pay61 (k1_pay46 (F := Ideal) v) (k1_pay47 (F := Ideal) v) (k1_pay48 (F := Ideal) v) 17#32) 8#32) 29#32)
      6#32 = k1_pay42 nums (mask v1 (words (k1_pay3 (F := Ideal) v))) := by
  rw [p46, p47, p48, p59, p60, p61, p72, p73, p84, p85, p86, p45]
  rfl

end Cert.Resample.Ker
end
-- ==== Proof.KerPure.lean ====
module

public import proofs.«01_k».proof.Proof.KerCipher
public import proofs.«01_k».proof.Proof.Score
public import Idealize.ShloMosaic.Lib.Pointwise

/-
  The fused kernel's stores, read at an index.
-/

@[expose] public section

set_option maxRecDepth 16384

noncomputable section

namespace Cert.Resample.Ker

open Idealize.ShloMosaic Idealize.ShloMosaic.TcCoe Idealize.SL.Sem
open Cert.KernelIdeal Cert.KernelIdeal.Gen

/-- The pattern of minus infinity is the value below all. -/
theorem neg_inf_bits : Ideal.ofBits .f32 4286578688#32 = ⊥ := by
  simp [Ideal.ofBits, Ideal.ieee]

/-- A score at an index. -/
theorem score_apply (v1 : FVec Ideal S64x128 .f32) (w : Words) (s : Fin 32) (p : Fin 64) (b : Fin 128) :
    score v1 w (ix3 s p b) = Ideal.log (uni (w (ix3 s p b)) : ℝ) * v1 (ix2 p b) := by
  pointwise [score]
  rw [shrui_word _ _ _ (by decide), IntOp.ori, pattern_uni]

/-- The mask at an index: whether the score is the one at the pick. -/
theorem mask_apply (v1 : FVec Ideal S64x128 .f32) (w : Words) (s : Fin 32) (p : Fin 64) (b : Fin 128) :
    mask v1 w (ix3 s p b) = BitVec.ofBool (decide (score v1 w (ix3 s p b)
      = score v1 w (ix3 s (pick fun q => score v1 w (ix3 s q b)) b))) := by
  pointwise [mask]
  rw [neg_inf_bits, fold_max_eq]

/-- The least particle number under the mask is the pick's. -/
theorem least_apply (v1 : FVec Ideal S64x128 .f32) (w : Words) (s : Fin 32) (b : Fin 128) :
    Finset.univ.fold IntOp.minsi (2147483647#32)
      (fun p : Fin 64 => Scalar.select (mask v1 w (ix3 s p b)) (BitVec.ofNat 32 p.val) 64#32)
      = BitVec.ofNat 32 (pick fun p => score v1 w (ix3 s p b)).val := by
  rw [← fold_min_eq (fun p => score v1 w (ix3 s p b)) (fun p => score v1 w (ix3 s p b)
    = score v1 w (ix3 s (pick fun q => score v1 w (ix3 s q b)) b)) (fun p => Iff.rfl)]
  congr 1
  funext p
  rw [mask_apply, Scalar.select]
  by_cases h : score v1 w (ix3 s p b) = score v1 w (ix3 s (pick fun q => score v1 w (ix3 s q b)) b)
  · rw [if_pos h, if_pos (by rw [decide_eq_true h]; rfl)]
  · rw [if_neg h, if_neg (by rw [decide_eq_false h]; decide)]

/-- A word as a number. -/
theorem sitofp_word (x : Word) : FloatOps.sitofp (F := Ideal) .f32 x = ((x.toInt : ℝ) : EReal) := rfl

/-- An entry of a one-hot row, as a number. -/
theorem hot_apply (k q : Fin 64) :
    FloatOps.sitofp (F := Ideal) .f32 (BitVec.setWidth 32 (IntOp.cmpi .eq (BitVec.ofNat 32 k.val) (BitVec.ofNat 32 q.val)))
      = if k = q then 1 else (0 : EReal) := by
  have hk := k.isLt
  have hq := q.isLt
  by_cases h : k = q
  · subst h
    simp [IntOp.cmpi, sitofp_word]
  · have hne : ¬ (BitVec.ofNat 32 k.val = BitVec.ofNat 32 q.val) := fun e => h (Fin.ext (by
      have := congrArg BitVec.toNat e
      simp only [BitVec.toNat_ofNat] at this
      omega))
    rw [if_neg h]
    rw [sitofp_word, IntOp.cmpi]
    simp [beq_eq_false_iff_ne.2 hne]

/-- A one-hot row times a column takes the column's entry, whatever the other entries are. -/
theorem sum_hot (q : Fin 64) (x : Fin 64 → EReal) :
    ∑ k : Fin 64, FloatOps.sitofp (F := Ideal) .f32
      (BitVec.setWidth 32 (IntOp.cmpi .eq (BitVec.ofNat 32 k.val) (BitVec.ofNat 32 q.val))) * x k = x q := by
  rw [Finset.sum_eq_single q]
  · rw [hot_apply, if_pos rfl, one_mul]
  · intro k _ hk
    rw [hot_apply, if_neg hk, zero_mul]
  · simp

/-- The stored rows of the table. -/
theorem out_apply (v1 : FVec Ideal S64x128 .f32) (w : Words) (x : FVec Ideal S64x128 .f32)
    (s : Fin 32) (b : Fin 128) (d : Fin 128) :
    k1_pay43 nums (mask v1 w) x (ix3 s b d) = x (ix2 (pick fun p => score v1 w (ix3 s p b)) d) := by
  pointwise [k1_pay43, k1_pay42, nums]
  rw [least_apply]
  exact sum_hot _ fun k => x (ix2 k d)

/-- The stored weights: the greatest of the eight lanes of the picked row. -/
theorem wg_apply (v1 : FVec Ideal S64x128 .f32) (w : Words) (x : FVec Ideal S64x8 .f32)
    (s : Fin 32) (b : Fin 128) :
    k1_pay44 nums (mask v1 w) x (ix2 s b)
      = Finset.univ.fold max ⊥ fun l : Fin 8 => x (ix2 (pick fun p => score v1 w (ix3 s p b)) l) := by
  pointwise [k1_pay44, k1_pay42, nums]
  rw [least_apply, neg_inf_bits]
  congr 1
  funext l
  exact sum_hot _ fun k => x (ix2 k l)

end Cert.Resample.Ker
end
-- ==== Proof.KerBlock.lean ====
module

public import proofs.«01_k».proof.Proof.KerPure
public import proofs.«01_k».proof.Proof.Gen.KernelIdeal.Frame
public import Idealize.ShloMosaic.Lib.Pipeline.ValueKit

/-
  What each of the three kernels leaves in its output blocks, entry by entry, from the blocks it reads.
-/

@[expose] public section

set_option maxRecDepth 16384

noncomputable section

namespace Cert.Resample.Ker

open Idealize.ShloMosaic Idealize.ShloMosaic.TcCoe Idealize.SL.Sem
open Cert.KernelIdeal Cert.KernelIdeal.Gen

/-- The drawn words start from the row's base word plus the particle number. -/
theorem start_apply (v : Vec Ideal S32x128 .i32) (s : Fin 32) (p : Fin 64) (b : Fin 128) :
    k1_pay3 (F := Ideal) v (ix3 s p b) = v (ix2 s b) + BitVec.ofNat 32 p.val := by
  pointwise [k1_pay3]
  rfl

/-- The particle the fused kernel picks for one column `b` of the inverse weights and one base word. -/
def pickAt (x0 : FVec Ideal S64x128 .f32) (n : Word) (b : Fin 128) : Fin 64 :=
  pick fun p => Ideal.log (uni (mixOf (0, n + BitVec.ofNat 32 p.val)) : ℝ) * x0 (ix2 p b)

/-- The pick from a half's scores. -/
theorem pick_half (v1 : FVec Ideal S64x128 .f32) (v : Vec Ideal S32x128 .i32) (s : Fin 32) (b : Fin 128) :
    (pick fun p => score v1 (words (k1_pay3 (F := Ideal) v)) (ix3 s p b)) = pickAt v1 (v (ix2 s b)) b := by
  unfold pickAt
  congr 1; funext p
  rw [score_apply]
  unfold words
  rw [start_apply]
  rfl

/-- The rows of the upper half, stored. -/
theorem rows_upper (v1 : FVec Ideal S64x128 .f32) (a b : IVec S32x64x128 32) (c : BitVec 32) (m : IVec S32x64x128 1)
    (x : Vec Ideal S64x128 .f32) (h : k1_pay86 v1 a b c = k1_pay42 nums m) :
    k1_pay87 v1 a b c x = k1_pay43 nums m x := by
  unfold k1_pay87 k1_pay43
  rw [h]

/-- The gains of the upper half, stored. -/
theorem gains_upper (v1 : FVec Ideal S64x128 .f32) (a b : IVec S32x64x128 32) (c : BitVec 32) (m : IVec S32x64x128 1)
    (x : Vec Ideal S64x8 .f32) (h : k1_pay86 v1 a b c = k1_pay42 nums m) :
    k1_pay1 (k1_pay88 v1 a b c) x = k1_pay44 nums m x := by
  unfold k1_pay1 k1_pay88 k1_pay44
  rw [h]

/-- A half's stored row is the picked row of the table. -/
theorem rows_half (v1 : FVec Ideal S64x128 .f32) (v : Vec Ideal S32x128 .i32) (x : Vec Ideal S64x128 .f32)
    (y : S32x128x128.Idx) :
    k1_pay43 nums (mask v1 (words (k1_pay3 (F := Ideal) v))) x y
      = x (ix2 (pickAt v1 (v (ix2 (y 0) (y 1))) (y 1)) (y 2)) := by
  idx_vars y
  rw [out_apply, pick_half]

/-- A half's stored gain is the largest lane of the picked gains. -/
theorem gains_half (v1 : FVec Ideal S64x128 .f32) (v : Vec Ideal S32x128 .i32) (x : Vec Ideal S64x8 .f32)
    (y : S32x128.Idx) :
    k1_pay44 nums (mask v1 (words (k1_pay3 (F := Ideal) v))) x y
      = Finset.univ.fold max ⊥ fun l : Fin 8 => x (ix2 (pickAt v1 (v y) (y 1)) l) := by
  idx_vars y
  rw [wg_apply, pick_half]

/-- The block of weights passes unchanged through the identity reshape. -/
theorem pay2_eq (x : Vec Ideal S64x128 .f32) : k1_pay2 (View.ld x r1_0) = x := by
  funext y
  pointwise [k1_pay2]
  blk_ext

/-- A whole block read as it is. -/
theorem ld_rows (x : Vec Ideal S64x128 .f32) (y : S64x128.Idx) : View.ld x r1_0 y = x y := by
  pointwise []
  blk_ext

/-- A whole block read as it is. -/
theorem ld_gains (x : Vec Ideal S64x8 .f32) (y : S64x8.Idx) : View.ld x r1_3 y = x y := by
  pointwise []
  blk_ext

/-- The lower half of the base words. -/
theorem ld_lower (x : Vec Ideal S64x128 .i32) (z : S32x128.Idx) (y : S64x128.Idx)
    (h0 : (y 0 : ℕ) = z 0) (h1 : (y 1 : ℕ) = z 1) : View.ld x r1_1 z = x y := by
  pointwise []
  blk_ext

/-- The upper half of the base words. -/
theorem ld_upper (x : Vec Ideal S64x128 .i32) (z : S32x128.Idx) (y : S64x128.Idx)
    (h0 : (y 0 : ℕ) = 32 + z 0) (h1 : (y 1 : ℕ) = z 1) : View.ld x r1_4 z = x y := by
  pointwise []
  blk_ext

/-- The fused kernel's row block: at row `s`, column `b`, the picked row of the table. -/
theorem out14_apply (x0 : Vec Ideal S64x128 .f32) (x1 : Vec Ideal S64x128 .i32) (x2 : Vec Ideal S64x8 .f32)
    (x3 : Vec Ideal S64x128 .f32) (y : S64x128x128.Idx) :
    out1_4 x0 x1 x2 x3 y = x3 (ix2 (pickAt x0 (x1 (ix2 (y 0) (y 1))) (y 1)) (y 2)) := by
  unfold_out out1_4
  canon_tiles x h
  case piece0 =>
    rw [rows_upper _ _ _ _ _ _ (half2 _ _), rows_half, pay2_eq, ld_rows,
      ld_upper x1 (ix2 (x 0) (x 1)) (ix2 (y 0) (y 1)) h0 h1]
    rw [show x 1 = y 1 from Fin.ext h1.symm, show x 2 = y 2 from Fin.ext h2.symm]
  case piece1 =>
    show k1_pay43 nums _ _ _ = _
    rw [half1, rows_half, pay2_eq, ld_rows,
      ld_lower x1 (ix2 (x 0) (x 1)) (ix2 (y 0) (y 1)) h0 h1]
    rw [show x 1 = y 1 from Fin.ext h1.symm, show x 2 = y 2 from Fin.ext h2.symm]

/-- The fused kernel's gain block: at row `s`, column `b`, the largest lane of the picked gains. -/
theorem out15_apply (x0 : Vec Ideal S64x128 .f32) (x1 : Vec Ideal S64x128 .i32) (x2 : Vec Ideal S64x8 .f32)
    (x3 : Vec Ideal S64x128 .f32) (y : S64x128.Idx) :
    out1_5 x0 x1 x2 x3 y = Finset.univ.fold max ⊥ fun l : Fin 8 => x2 (ix2 (pickAt x0 (x1 y) (y 1)) l) := by
  unfold_out out1_5
  canon_tiles x h
  case piece0 =>
    rw [gains_upper _ _ _ _ _ _ (half2 _ _), gains_half, pay2_eq, ld_upper x1 x y h0 h1]
    rw [show x 1 = y 1 from Fin.ext h1.symm]
    congr 1; funext l
    exact ld_gains x2 _
  case piece1 =>
    show k1_pay44 nums _ _ _ = _
    rw [half1, gains_half, pay2_eq, ld_lower x1 x y h0 h1]
    rw [show x 1 = y 1 from Fin.ext h1.symm]
    congr 1; funext l
    exact ld_gains x2 _

/-- Two indices with equal coordinates. -/
theorem eq_of_coords {m n : ℕ} (x y : Shape.Idx ⟨2, ![m, n]⟩) (h0 : (y 0 : ℕ) = x 0) (h1 : (y 1 : ℕ) = x 1) : x = y := by
  funext a
  refine Fin.ext ?_
  match a with
  | 0 => exact h0.symm
  | 1 => exact h1.symm

/-- The first kernel's inverse weights. -/
theorem out02_apply (x0 : Vec Ideal S64x4096 .f32) (x1 : Vec Ideal S64x8 .f32) (y : S64x4096.Idx) :
    out0_2 x0 x1 y = Ideal.div 1 (weight (x0 y)) := by
  unfold out0_2
  canon_tiles x h
  pointwise [k0_pay1]
  rw [eq_of_coords x y h0 h1]
  rfl

/-- The first kernel's gains. -/
theorem out03_apply (x0 : Vec Ideal S64x4096 .f32) (x1 : Vec Ideal S64x8 .f32) (y : S64x8.Idx) :
    out0_3 x0 x1 y = Ideal.log (Ideal.div (Ideal.exp (x1 y)) (weight (x1 y))) := by
  unfold out0_3
  canon_tiles x h
  pointwise [k0_pay2]
  rw [eq_of_coords x y h0 h1]
  rfl

/-- The first kernel's base words. -/
theorem out04_apply (x0 : Vec Ideal S64x4096 .f32) (x1 : Vec Ideal S64x8 .f32) (y : S64x4096.Idx) :
    out0_4 x0 x1 y = BitVec.ofNat 32 ((y 1 : ℕ) * 4096 + (y 0 : ℕ) * 64 + 1234) := by
  unfold out0_4
  canon_tiles x h
  pointwise [k0_pay3]
  rw [h0, h1]
  simp only [IntOp.addi, IntOp.muli, BitVec.ofNat_add, BitVec.ofNat_mul]

/-- The last kernel: each column less its logarithm of summed exponentials, shifted by the column's largest entry. -/
theorem out21_apply (x0 : Vec Ideal S64x4096 .f32) (y : S64x4096.Idx) :
    out2_1 x0 y = x0 y - ((Finset.univ.fold max ⊥ fun s : Fin 64 => x0 (ix2 s (y 1)))
      + Ideal.log (∑ s : Fin 64, Ideal.exp (x0 (ix2 s (y 1)) - Finset.univ.fold max ⊥ fun s : Fin 64 => x0 (ix2 s (y 1))))) := by
  unfold out2_1
  canon_tiles x h
  pointwise [k2_pay1]
  rw [eq_of_coords x y h0 h1, neg_inf_bits]

end Cert.Resample.Ker
-- ==== Proof.KerRegions.lean ====
module

public import proofs.«01_k».proof.Proof.KerBlock
public import proofs.«01_k».proof.Proof.Spec

/-
  The arrays each of the three kernels leaves, from the arrays it finds.
-/

@[expose] public section

set_option maxRecDepth 16384

noncomputable section

namespace Cert.Resample.Ker

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Where the fused kernel's blocks lie at grid point `t`. -/
theorem idx1 : ∀ t : Fin cfg1.N, win1_0.index t = ![0, t.val] ∧ win1_1.index t = ![0, t.val] ∧ win1_2.index t = ![0, 0]
    ∧ win1_3.index t = ![0, 0] ∧ win1_4.index t = ![0, t.val, 0] ∧ win1_5.index t = ![0, t.val] :=
  (by decide +kernel : ∀ t : Fin grid1.N, _)

/-- The one-point kernels' blocks are their whole arrays. -/
theorem idx0 : ∀ t : Fin cfg0.N, win0_0.index t = ![0, 0] ∧ win0_1.index t = ![0, 0] :=
  (by decide +kernel : ∀ t : Fin grid0.N, _)

/-- The last kernel's block is its whole array. -/
theorem idx2 : ∀ t : Fin cfg2.N, win2_0.index t = ![0, 0] :=
  (by decide +kernel : ∀ t : Fin grid2.N, _)

/-- The first kernel's inverse weights. -/
theorem inverse (c : Dev nD) (x : FVec Ideal S64x4096 .f32) (hx : V c main_call0_v0 = x) :
    (dat0 V c).arrAt 2 cfg0.N = fun i : S64x4096.Idx => Ideal.div 1 (weight (x i)) := by
  subst hx
  refine (dat0 V c).arrAt_eq_of_after_last 2 t0_0 (by decide +kernel) _ fun j => ?_
  blk_simp
  rw [after0_2, out02_apply]
  blk_point [iblk0, idx0 t0_0]

/-- The first kernel's gains. -/
theorem gains (c : Dev nD) (x : FVec Ideal S64x8 .f32) (hx : V c main_call0_v4 = x) :
    (dat0 V c).arrAt 3 cfg0.N = fun i : S64x8.Idx => gain (x i) := by
  subst hx
  refine (dat0 V c).arrAt_eq_of_after_last 3 t0_0 (by decide +kernel) _ fun j => ?_
  blk_simp
  rw [after0_3, out03_apply]
  unfold gain
  blk_point [iblk0, idx0 t0_0]

/-- The first kernel's base words. -/
theorem bases (c : Dev nD) : (dat0 V c).arrAt 4 cfg0.N = fun i : S64x4096.Idx =>
    BitVec.ofNat 32 ((i 1 : ℕ) * 4096 + (i 0 : ℕ) * 64 + 1234) := by
  refine (dat0 V c).arrAt_eq_of_after_last 4 t0_0 (by decide +kernel) _ fun j => ?_
  blk_simp
  rw [after0_4, out04_apply]

/-- The last kernel's normalised gains. -/
theorem normalised (c : Dev nD) (x : FVec Ideal S64x4096 .f32) (hx : V c main_call0_v7_1 = x) :
    (dat2 V c).arrAt 1 cfg2.N = fun i : S64x4096.Idx => x i - shifted fun s : Fin 64 => x (ix2 s (i 1)) := by
  subst hx
  refine (dat2 V c).arrAt_eq_of_after_last 1 t2_0 (by decide +kernel) _ fun j => ?_
  have e : ∀ j, iblk2 V c 0 t2_0 j = V c main_call0_v7_1 j := fun j => by blk_ext [iblk2, idx2 t2_0]
  blk_simp
  rw [after2_1, out21_apply]
  unfold shifted
  simp only [e]

/-- The fused kernel's weight block at point `t`. -/
theorem blk_inv (c : Dev nD) (t : Fin cfg1.N) (x : FVec Ideal S64x4096 .f32) (hx : V c main_call0_v6_0 = x)
    (j : S64x128.Idx) (i : S64x4096.Idx) (h0 : (i 0 : ℕ) = j 0) (h1 : (i 1 : ℕ) = t.val * 128 + j 1) :
    iblk1 V c 0 t j = x i := by
  subst hx
  blk_ext [iblk1, idx1 t]

/-- The fused kernel's base words at point `t`. -/
theorem blk_base (c : Dev nD) (t : Fin cfg1.N) (x : IVec S64x4096 32) (hx : V c main_call0_v6_2 = x)
    (j : S64x128.Idx) (i : S64x4096.Idx) (h0 : (i 0 : ℕ) = j 0) (h1 : (i 1 : ℕ) = t.val * 128 + j 1) :
    iblk1 V c 1 t j = x i := by
  subst hx
  blk_ext [iblk1, idx1 t]

/-- The fused kernel's gains, the same at every point. -/
theorem blk_gains (c : Dev nD) (t : Fin cfg1.N) (x : FVec Ideal S64x8 .f32) (hx : V c main_call0_v6_1 = x)
    (j : S64x8.Idx) : iblk1 V c 2 t j = x j := by
  subst hx
  blk_ext [iblk1, idx1 t]

/-- The fused kernel's table, the same at every point. -/
theorem blk_table (c : Dev nD) (t : Fin cfg1.N) (x : FVec Ideal S64x128 .f32) (hx : V c main_call0_v5 = x)
    (j : S64x128.Idx) : iblk1 V c 3 t j = x j := by
  subst hx
  blk_ext [iblk1, idx1 t]

/-- The candidate picked from the whole array of inverse weights and one base word. -/
def pickOf (inv : FVec Ideal S64x4096 .f32) (n : Word) (b : Fin 4096) : Fin 64 :=
  pick fun p => Ideal.log (uni (mixOf (0, n + BitVec.ofNat 32 p.val)) : ℝ) * inv (ix2 p b)

/-- A block's pick is the array's pick at the block's place. -/
theorem pick_blk (c : Dev nD) (t : Fin cfg1.N) (x : FVec Ideal S64x4096 .f32) (hx : V c main_call0_v6_0 = x)
    (n : Word) (b : Fin 128) (b' : Fin 4096) (h : (b' : ℕ) = t.val * 128 + b) :
    pickAt (iblk1 V c 0 t) n b = pickOf x n b' := by
  unfold pickAt pickOf
  congr 1; funext p
  rw [blk_inv V c t x hx (ix2 p b) (ix2 p b') rfl h]

/-- The fused kernel's rows. -/
theorem rows (c : Dev nD) (inv : FVec Ideal S64x4096 .f32) (base : IVec S64x4096 32) (table : FVec Ideal S64x128 .f32)
    (hinv : V c main_call0_v6_0 = inv) (hbase : V c main_call0_v6_2 = base) (htable : V c main_call0_v5 = table) :
    (dat1 V c).arrAt 4 cfg1.N = fun i : S64x4096x128.Idx =>
      table (ix2 (pickOf inv (base (ix2 (i 0) (i 1))) (i 1)) (i 2)) := by
  refine (dat1 V c).arrAt_eq_of_covers 4 _ (by decide +kernel) fun t hf y => ?_
  blk_simp
  rw [after1_4, out14_apply]
  have h0 : (((win1_4.blk t).view.emb y 0 : Fin 64) : ℕ) = y 0 := by blk_simp [idx1 t]
  have h1 : (((win1_4.blk t).view.emb y 1 : Fin 4096) : ℕ) = t.val * 128 + y 1 := by blk_simp [idx1 t]
  have h2 : (((win1_4.blk t).view.emb y 2 : Fin 128) : ℕ) = y 2 := by blk_simp [idx1 t]
  rw [blk_table V c t table htable, pick_blk V c t inv hinv _ _ _ h1,
    blk_base V c t base hbase (ix2 (y 0) (y 1)) (ix2 ((win1_4.blk t).view.emb y 0) ((win1_4.blk t).view.emb y 1)) h0 h1]
  rw [show (win1_4.blk t).view.emb y 2 = y 2 from Fin.ext h2]

/-- The fused kernel's picked gains. -/
theorem picked (c : Dev nD) (inv : FVec Ideal S64x4096 .f32) (base : IVec S64x4096 32) (g : FVec Ideal S64x8 .f32)
    (hinv : V c main_call0_v6_0 = inv) (hbase : V c main_call0_v6_2 = base) (hg : V c main_call0_v6_1 = g) :
    (dat1 V c).arrAt 5 cfg1.N = fun i : S64x4096.Idx =>
      Finset.univ.fold max ⊥ fun l : Fin 8 => g (ix2 (pickOf inv (base i) (i 1)) l) := by
  refine (dat1 V c).arrAt_eq_of_covers 5 _ (by decide +kernel) fun t hf y => ?_
  blk_simp
  rw [after1_5, out15_apply]
  have h0 : (((win1_5.blk t).view.emb y 0 : Fin 64) : ℕ) = y 0 := by blk_simp [idx1 t]
  have h1 : (((win1_5.blk t).view.emb y 1 : Fin 4096) : ℕ) = t.val * 128 + y 1 := by blk_simp [idx1 t]
  rw [pick_blk V c t inv hinv _ _ _ h1, blk_base V c t base hbase y ((win1_5.blk t).view.emb y) h0 h1]
  congr 1; funext l
  exact blk_gains V c t g hg _

end Cert.Resample.Ker
-- ==== Proof.KerHost.lean ====
module

public import proofs.«01_k».proof.Proof.Gen.KernelIdeal.Frame
public import Idealize.ShloMosaic.Lib.Pointwise
public import Idealize.ShloMosaic.Lib.Pipeline.ValueKit

/-
  The kernel's host operations read at an index: the cuts of the arguments and the final layout.
-/

@[expose] public section

set_option maxRecDepth 16384

noncomputable section

namespace Cert.Resample.Ker

open Idealize.ShloMosaic Idealize.ShloMosaic.TcCoe Idealize.SL Idealize.SL.Sem
open Cert.KernelIdeal Cert.KernelIdeal.Gen

/-- The column of log-weights cut into 64 rows. -/
theorem cut_apply (a : FVec Ideal S262144x1 .f32) (p : Fin 64) (b : Fin 4096) :
    shapeCast S64x4096 a shapeCasts_S262144x1_S64x4096 (ix2 p b) = a (ix2 (⟨p.val * 4096 + b.val, by omega⟩ : Fin 262144) (0 : Fin 1)) := by
  pointwise []

/-- The first 64 entries of the column, each in eight lanes. -/
theorem first_apply (a : FVec Ideal S262144x1 .f32) (p : Fin 64) (l : Fin 8) :
    broadcastInDim S64x8 ![0, 1] bcast_S64x1_S64x8_0_1 (shapeCast S64x1 (extractStridedSlice S64 ![0]
      (shapeCast S262144 a shapeCasts_S262144x1_S262144) slices_S262144_S64_0) shapeCasts_S64_S64x1) (ix2 p l)
      = a (ix2 (⟨p.val, by omega⟩ : Fin 262144) (0 : Fin 1)) := by
  pointwise []

/-- The first 64 rows of the particles. -/
theorem table_apply (a : FVec Ideal S262144x128 .f32) (p : Fin 64) (d : Fin 128) :
    extractStridedSlice S64x128 ![0, 0] a slices_S262144x128_S64x128_0_0 (ix2 p d)
      = a (ix2 (⟨p.val, by omega⟩ : Fin 262144) d) := by
  pointwise []

/-- The fused kernel's rows laid out one after another. -/
theorem flat_apply (a : FVec Ideal S64x4096x128 .f32) (n : Fin 262144) (d : Fin 128) :
    shapeCast S262144x128 a shapeCasts_S64x4096x128_S262144x128 (ix2 n d)
      = a (ix3 (⟨n.val / 4096, by omega⟩ : Fin 64) (⟨n.val % 4096, by omega⟩ : Fin 4096) d) := by
  pointwise []

end Cert.Resample.Ker
-- ==== Proof.Norm.lean ====
module

public import proofs.«01_k».proof.Proof.Spec

/-
  The shifted logarithm of summed exponentials against the plain one, for columns of reals and minus infinities.
-/

@[expose] public section

noncomputable section

namespace Cert.Resample

open Idealize.ShloMosaic

/-- The exponential below plus infinity is a real that is not negative. -/
theorem exp_real {x : EReal} (hx : x < ⊤) : ∃ r : ℝ, 0 ≤ r ∧ Ideal.exp x = (r : EReal) := by
  induction x with
  | bot => exact ⟨0, le_rfl, by simp⟩
  | coe x => exact ⟨Real.exp x, (Real.exp_pos x).le, Ideal.exp_coe _⟩
  | top => exact absurd hx (lt_irrefl _)

/-- The logarithm of a real is below plus infinity. -/
theorem log_lt_top (r : ℝ) : Ideal.log (r : EReal) < ⊤ := by
  by_cases h : r ≤ 0
  · rw [log_nonpos h]; exact bot_lt_top
  · rw [log_pos (not_le.1 h)]; exact EReal.coe_lt_top _

/-- A gain is below plus infinity. -/
theorem gain_lt_top {x : EReal} (hx : x < ⊤) : gain x < ⊤ := by
  obtain ⟨e, -, he⟩ := exp_real hx
  obtain ⟨r, hr, hw⟩ := weight_real hx
  unfold gain
  rw [he, hw, Ideal.div_coe hr.ne', ← EReal.coe_mul]
  exact log_lt_top _

/-- Below plus infinity, shifting an exponent by a real scales it. -/
theorem exp_shift {x : EReal} (hx : x < ⊤) (m : ℝ) :
    Ideal.exp (x - (m : EReal)) = Ideal.exp x * (Real.exp (-m) : ℝ) := by
  induction x with
  | bot => rw [sub_eq_add_neg, EReal.bot_add]; simp
  | coe x =>
    rw [← EReal.coe_sub, Ideal.exp_coe, Ideal.exp_coe, ← EReal.coe_mul, ← Real.exp_add]; rfl
  | top => exact absurd hx (lt_irrefl _)

/-- Taking off the shifted logarithm of a column's sum is taking off the plain one. -/
theorem sub_shifted (f : Fin 64 → EReal) (hf : ∀ s, f s < ⊤) (s : Fin 64) :
    f s - shifted f = f s - Ideal.log (∑ k : Fin 64, Ideal.exp (f k)) := by
  unfold shifted
  rw [fold_max_eq]
  have hm := (pick_spec f).1
  generalize hM : f (pick f) = M at hm
  have hMt : M < ⊤ := hM ▸ hf _
  induction M with
  | top => exact absurd hMt (lt_irrefl _)
  | bot =>
    have hs : ∀ k, f k = ⊥ := fun k => le_bot_iff.1 (hm k)
    have h0 : Ideal.log 0 = ⊥ := by
      have := log_nonpos (le_refl (0 : ℝ)); simpa using this
    simp only [hs, Ideal.exp_bot, Finset.sum_const_zero, h0, sub_eq_add_neg, EReal.bot_add]
  | coe m =>
    congr 1
    choose r hr0 hr using fun k => exp_real (hf k)
    have e1 : ∑ k, Ideal.exp (f k) = ((∑ k, r k : ℝ) : EReal) := by
      simp only [hr]; exact (map_sum (⟨⟨((↑) : ℝ → EReal), rfl⟩, fun _ _ => rfl⟩ : ℝ →+ EReal) r Finset.univ).symm
    have e2 : ∑ k, Ideal.exp (f k - (m : EReal)) = ((∑ k, r k * Real.exp (-m) : ℝ) : EReal) := by
      simp only [exp_shift (hf _), hr, ← EReal.coe_mul]
      exact (map_sum (⟨⟨((↑) : ℝ → EReal), rfl⟩, fun _ _ => rfl⟩ : ℝ →+ EReal) (fun k => r k * Real.exp (-m)) Finset.univ).symm
    have hp : 0 < ∑ k, r k := by
      refine Finset.sum_pos' (fun k _ => hr0 k) ⟨pick f, Finset.mem_univ _, ?_⟩
      have := hr (pick f)
      rw [hM, Ideal.exp_coe] at this
      rw [← EReal.coe_injective this]
      exact Real.exp_pos m
    rw [e1, e2, ← Finset.sum_mul, log_pos (mul_pos hp (Real.exp_pos _)), log_pos hp,
      Real.log_mul hp.ne' (Real.exp_pos _).ne', Real.log_exp, ← EReal.coe_add]
    congr 1
    ring

end Cert.Resample
-- ==== Proof.KerValue.lean ====
module

public import proofs.«01_k».proof.Proof.KerRegions
public import proofs.«01_k».proof.Proof.KerHost
public import proofs.«01_k».proof.Proof.Norm
public import Idealize.ShloMosaic.Lib.StableHlo.RunRead

/-
  The kernel's two results as functions of its arguments, and its run ending with them.
-/

@[expose] public section

set_option maxRecDepth 16384

noncomputable section

namespace Cert.Resample.Ker

open Idealize.ShloMosaic Idealize.ShloMosaic.TcCoe Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The largest of eight equal numbers. -/
theorem fold_same (x : EReal) : (Finset.univ.fold max ⊥ fun _ : Fin 8 => x) = x :=
  le_antisymm (Finset.fold_max_le _ |>.2 ⟨bot_le, fun _ _ => le_rfl⟩)
    (Finset.le_fold_max _ |>.2 (Or.inr ⟨0, Finset.mem_univ _, le_rfl⟩))

/-- The log-weights at launch. -/
def logw (c : Dev nD) (n : Fin 262144) : EReal := m ((c : Thread nD τ).loc main_arg1) (ix2 n (0 : Fin 1))

/-- The particles at launch. -/
def parts (c : Dev nD) (n : Fin 262144) (d : Fin 128) : EReal := m ((c : Thread nD τ).loc main_arg0) (ix2 n d)

/-- The first kernel reads the log-weights cut into rows. -/
theorem entry_weights (c : Dev nD) : V1 m ρ c main_call0_v0 = fun i : S64x4096.Idx => lw (logw m c) (i 0) (i 1) := by
  have e : V1 m ρ c main_call0_v0 = shapeCast S64x4096 (m ((c : Thread nD τ).loc main_arg1)) shapeCasts_S262144x1_S64x4096 := by
    show StableHlo.after hostOps0 (W0 m ρ c) (Proc.devRef .tc main_call0_v0) = _
    after_results
    try rfl
  rw [e]
  funext i
  idx_vars i
  exact cut_apply _ _ _

/-- The first kernel reads the first 64 log-weights, each in eight lanes. -/
theorem entry_first (c : Dev nD) : V1 m ρ c main_call0_v4 = fun i : S64x8.Idx => logw m c (row (i 0)) := by
  have e : V1 m ρ c main_call0_v4 = broadcastInDim S64x8 ![0, 1] bcast_S64x1_S64x8_0_1 (shapeCast S64x1
      (extractStridedSlice S64 ![0] (shapeCast S262144 (m ((c : Thread nD τ).loc main_arg1))
        shapeCasts_S262144x1_S262144) slices_S262144_S64_0) shapeCasts_S64_S64x1) := by
    show StableHlo.after hostOps0 (W0 m ρ c) (Proc.devRef .tc main_call0_v4) = _
    after_results
    try rfl
  rw [e]
  funext i
  idx_vars i
  exact first_apply _ _ _

/-- The fused kernel reads the first 64 particles. -/
theorem entry_table (c : Dev nD) : V1 m ρ c main_call0_v5 = fun i : S64x128.Idx => parts m c (row (i 0)) (i 1) := by
  have e : V1 m ρ c main_call0_v5 = extractStridedSlice S64x128 ![0, 0] (m ((c : Thread nD τ).loc main_arg0))
      slices_S262144x128_S64x128_0_0 := by
    show StableHlo.after hostOps0 (W0 m ρ c) (Proc.devRef .tc main_call0_v5) = _
    after_results
    try rfl
  rw [e]
  funext i
  idx_vars i
  exact table_apply _ _ _

/-- The fused kernel finds the inverse weights. -/
theorem found_inverse (c : Dev nD) : V2 m ρ c main_call0_v6_0 = fun i : S64x4096.Idx =>
    Ideal.div 1 (weight (lw (logw m c) (i 0) (i 1))) :=
  (W2_arr m ρ c 2).trans (inverse (V1 m ρ) c _ (entry_weights m ρ c))

/-- The fused kernel finds the gains. -/
theorem found_gains (c : Dev nD) : V2 m ρ c main_call0_v6_1 = fun i : S64x8.Idx => gain (logw m c (row (i 0))) :=
  (W2_arr m ρ c 3).trans (gains (V1 m ρ) c _ (entry_first m ρ c))

/-- The fused kernel finds the base words. -/
theorem found_bases (c : Dev nD) : V2 m ρ c main_call0_v6_2 = fun i : S64x4096.Idx =>
    BitVec.ofNat 32 ((i 1 : ℕ) * 4096 + (i 0 : ℕ) * 64 + 1234) :=
  (W2_arr m ρ c 4).trans (bases (V1 m ρ) c)

/-- The fused kernel finds the table as the host cut it. -/
theorem found_table (c : Dev nD) : V2 m ρ c main_call0_v5 = fun i : S64x128.Idx => parts m c (row (i 0)) (i 1) :=
  (W2_of m ρ c main_call0_v5 (by decide)).trans (entry_table m ρ c)

/-- The generator's word is its two output words mixed. -/
theorem bits_eq (n : Word) : bits n = mixOf (0, n + 1234#32) := rfl

/-- The key's word may be added before or after the particle number. -/
theorem base_add (a p : ℕ) : BitVec.ofNat 32 (a + 1234) + BitVec.ofNat 32 p = BitVec.ofNat 32 (a + p) + 1234#32 := by
  rw [← BitVec.ofNat_add, ← BitVec.ofNat_add]
  congr 1
  omega

/-- The pick from the arrays the fused kernel finds is the choice. -/
theorem pick_found (x : Fin 262144 → EReal) (s : Fin 64) (b : Fin 4096) :
    pickOf (fun i : S64x4096.Idx => Ideal.div 1 (weight (lw x (i 0) (i 1))))
      (BitVec.ofNat 32 (b.val * 4096 + s.val * 64 + 1234)) b = choice x b s := by
  unfold pickOf choice
  refine congrArg pick (funext fun p => ?_)
  unfold scoreK draw
  rw [bits_eq, ← base_add]
  generalize Ideal.log (uni (mixOf _) : ℝ) = A
  rfl

/-- The fused kernel leaves, for new particle `s` of batch `b`, the chosen row. -/
theorem left_rows (c : Dev nD) : V3 m ρ c main_call0_v7_0 = fun i : S64x4096x128.Idx =>
    parts m c (row (choice (logw m c) (i 1) (i 0))) (i 2) := by
  refine (W3_arr m ρ c 4).trans ((rows (V2 m ρ) c _ _ _ (found_inverse m ρ c) (found_bases m ρ c)
    (found_table m ρ c)).trans ?_)
  funext i
  have h : ∀ q q' : Fin 64, q = q' → parts m c (row (ix2 q (i 2) 0)) (ix2 q (i 2) 1) = parts m c (row q') (i 2) := by
    rintro q _ rfl; rfl
  exact h _ _ (pick_found (logw m c) (i 0) (i 1))

/-- The fused kernel leaves the gains of the chosen particles. -/
theorem left_gains (c : Dev nD) : V3 m ρ c main_call0_v7_1 = fun i : S64x4096.Idx =>
    newGain (logw m c) (i 0) (i 1) := by
  refine (W3_arr m ρ c 5).trans ((picked (V2 m ρ) c _ _ _ (found_inverse m ρ c) (found_bases m ρ c)
    (found_gains m ρ c)).trans ?_)
  funext i
  refine Eq.trans (b := Finset.univ.fold max ⊥ fun _ : Fin 8 => newGain (logw m c) (i 0) (i 1))
    (congrArg (fun f : Fin 8 → EReal => Finset.univ.fold max ⊥ f) (funext fun l =>
      congrArg (fun q => gain (logw m c (row q))) (pick_found (logw m c) (i 0) (i 1)))) ?_
  exact fold_same _

/-- The first result: row `n` is the particle chosen for new particle `n / 4096` of batch `n % 4096`. -/
theorem result_rows (c : Dev nD) : W5 m ρ c (Proc.devRef .tc main_v0_0) = fun i : S262144x128.Idx =>
    parts m c (row (choice (logw m c) ⟨(i 0 : ℕ) % 4096, Nat.mod_lt _ (by decide)⟩
      ⟨(i 0 : ℕ) / 4096, Nat.div_lt_of_lt_mul (i 0).isLt⟩)) (i 1) := by
  have e : W5 m ρ c (Proc.devRef .tc main_v0_0) = shapeCast S262144x128 (W4 m ρ c (Proc.devRef .tc main_call0_v7_0))
      shapeCasts_S64x4096x128_S262144x128 := by
    show StableHlo.after hostOps3 (W4 m ρ c) (Proc.devRef .tc main_v0_0) = _
    after_results
    try rfl
  have e2 : W4 m ρ c (Proc.devRef .tc main_call0_v7_0) = W3 m ρ c (Proc.devRef .tc main_call0_v7_0) :=
    W4_of m ρ c main_call0_v7_0 (by decide)
  rw [e, e2, show W3 m ρ c (Proc.devRef .tc main_call0_v7_0) = _ from left_rows m ρ c]
  funext i
  idx_vars i
  rw [flat_apply]
  rfl

/-- The second result: the normalised gains, when no log-weight is plus infinity. -/
theorem result_weights (c : Dev nD) (hx : ∀ n, logw m c n < ⊤) :
    W5 m ρ c (Proc.devRef .tc main_v0_1) = fun i : S64x4096.Idx => newWeight (logw m c) (i 0) (i 1) := by
  refine (W5_of m ρ c main_v0_1 (by decide)).trans ((W4_arr m ρ c 1).trans
    ((normalised (V3 m ρ) c _ (left_gains m ρ c)).trans ?_))
  funext i
  idx_vars i
  exact sub_shifted (fun s => newGain (logw m c) s _) (fun s => gain_lt_top (hx _)) _

end Cert.Resample.Ker
-- ==== Proof.lean ====
/- The proof of the certificate's claim: the programs' frames, and the agreement of the two programs' results over the
   extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ClampedIdeal
public import proofs.«01_k».proof.Proof.ClRun
public import proofs.«01_k».proof.Proof.ClValue
public import proofs.«01_k».proof.Proof.RefRun
public import proofs.«01_k».proof.Proof.RefValue
public import proofs.«01_k».proof.Proof.KerRun
public import proofs.«01_k».proof.Proof.KerValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Resample

/-- The reference's frame. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  θ_run_mono (Cert.ReferenceIdeal.Line.run m g) fun r h =>
    ⟨fun c => ⟨(h c _).trans (Cert.ReferenceIdeal.Line.after_args _).1, (h c _).trans (Cert.ReferenceIdeal.Line.after_args _).2⟩,
      sem_eq_zero_of_no_sems rfl r.2⟩

/-- The clamped reference's frame. -/
theorem clamped_frame (m : (ℓ : Loc Cert.ClampedIdeal.nD Cert.ClampedIdeal.τ Cert.ClampedIdeal.sig) → Buf (Elt Ideal) ℓ)
    (g : Dev Cert.ClampedIdeal.nD → PrngReg) :
    θ_run (Cert.ClampedIdeal.defs (F := Ideal)) (onTc (τ := Cert.ClampedIdeal.τ) (Cert.ClampedIdeal.main (F := Ideal)))
      ⟨m, fun _ => 0, g⟩ (fun r => (∀ c : Dev Cert.ClampedIdeal.nD,
        r.2.mem ((c.tc : Thread Cert.ClampedIdeal.nD Cert.ClampedIdeal.τ).loc Cert.ClampedIdeal.main_arg0)
            = m ((c.tc : Thread Cert.ClampedIdeal.nD Cert.ClampedIdeal.τ).loc Cert.ClampedIdeal.main_arg0)
        ∧ r.2.mem ((c.tc : Thread Cert.ClampedIdeal.nD Cert.ClampedIdeal.τ).loc Cert.ClampedIdeal.main_arg1)
            = m ((c.tc : Thread Cert.ClampedIdeal.nD Cert.ClampedIdeal.τ).loc Cert.ClampedIdeal.main_arg1))
        ∧ r.2.sem = fun _ => 0) :=
  θ_run_mono (Cert.ClampedIdeal.Line.run m g) fun r h =>
    ⟨fun c => ⟨(h c _).trans (Cert.ClampedIdeal.Line.after_args _).1, (h c _).trans (Cert.ClampedIdeal.Line.after_args _).2⟩,
      sem_eq_zero_of_no_sems rfl r.2⟩

/-- The side condition of the first reference's precondition. -/
theorem pre_facts : Cert.Pre_below_infinity.Facts := ⟨by decide⟩

/-- The pattern of the precondition's bound is `+∞`. -/
theorem top_bits : Ideal.ofBits .f32 0x7F800000#32 = ⊤ := by simp [Ideal.ofBits, Ideal.ieee]

/-- The first reference's precondition says that every log-weight is below `+∞`. -/
theorem logw_lt_top (m : (ℓ : Loc Cert.KernelIdeal.nD Cert.KernelIdeal.τ Cert.KernelIdeal.sig) → Buf (Elt Ideal) ℓ)
    (h : Cert.Pre_KernelIdeal_below_infinity (hPre_below_infinity := pre_facts) m) (c : Dev Cert.KernelIdeal.nD) (n : Fin 262144) :
    Cert.Resample.Ker.logw m c n < ⊤ := by
  have e := congrFun (h c) (ix2 n (0 : Fin 1))
  have e' : BitVec.ofBool (decide (Cert.Resample.Ker.logw m c n < Ideal.ofBits .f32 0x7F800000#32)) = 1#1 := e
  rw [top_bits] at e'
  by_contra k
  rw [decide_eq_false k] at e'
  exact absurd e' (by decide)

/-- The kernel and the reference end with the same results. -/
theorem algebraic : Cert.algebraic_KernelIdeal_ReferenceIdeal_pre_below_infinity (hKernelIdeal := Cert.KernelIdeal.Gen.facts)
    (hReferenceIdeal := Cert.ReferenceIdeal.Gen.facts) (hPre_below_infinity := pre_facts) := by
  intro m g m' g' hp ha
  refine ⟨fun c => Cert.KernelIdeal.Gen.W5 m g c (Proc.devRef .tc Cert.KernelIdeal.main_v0_0),
    fun c => Cert.KernelIdeal.Gen.W5 m g c (Proc.devRef .tc Cert.KernelIdeal.main_v0_1), Cert.Resample.Ker.run m g,
    θ_run_mono (Cert.ReferenceIdeal.Line.run m' g') fun r h c => ⟨(h c _).trans ?_, (h c _).trans ?_,
      (h c _).trans (Cert.ReferenceIdeal.Line.after_args _).1, (h c _).trans (Cert.ReferenceIdeal.Line.after_args _).2⟩⟩
  · refine Eq.trans ?_ (Cert.Resample.Ker.result_rows m g c).symm
    funext i
    idx_vars i
    exact Cert.ReferenceIdeal.Line.result_rows (StableHlo.launchContents m' c) (Cert.Resample.Ker.logw m c)
      (fun n => congrFun (ha c).2 (ix2 n (0 : Fin 1))) (logw_lt_top m hp c) _ (ha c).1 i0 i1
  · refine Eq.trans ?_ (Cert.Resample.Ker.result_weights m g c (logw_lt_top m hp c)).symm
    funext i
    idx_vars i
    exact Cert.ReferenceIdeal.Line.result_weights (StableHlo.launchContents m' c) (Cert.Resample.Ker.logw m c)
      (fun n => congrFun (ha c).2 (ix2 n (0 : Fin 1))) (logw_lt_top m hp c) i0 i1

/-- The side conditions of the clamped reference's precondition. -/
theorem light_facts : Cert.Pre_light.Facts :=
  ⟨by decide, by decide, by decide, by decide, by decide, by decide, by decide, by decide, by decide, by decide, by decide⟩

/-- The pattern of the precondition's factor is 1024. -/
theorem factor_bits : Ideal.ofBits .f32 0x44800000#32 = ((1024 : ℝ) : EReal) := by
  simp [Ideal.ofBits, Ideal.ieee]; norm_num [zpow_neg, ← EReal.coe_mul]

/-- A conjunction of two truth values is true exactly when both are. -/
theorem both_true {a b : BitVec 1} (h : IntOp.andi a b = 1#1) : a = 1#1 ∧ b = 1#1 := by
  revert a b
  decide

/-- A truth value that is true stands for a proposition that holds. -/
theorem holds {p : Prop} [Decidable p] (h : BitVec.ofBool (decide p) = 1#1) : p := by
  by_contra k
  rw [decide_eq_false k] at h
  exact absurd h (by decide)

/-- One row cut out of the column of log-weights. -/
theorem cut_at (x : FVec Ideal Cert.Pre_light.S262144x1 .f32) (o : ℕ) (h : Cert.Pre_light.S262144x1.Slices ![o, 0] Cert.Pre_light.S1x1)
    (k : o < 262144) (i : Cert.Pre_light.S1x1.Idx) :
    extractStridedSlice Cert.Pre_light.S1x1 ![o, 0] x h i = x (ix2 (⟨o, k⟩ : Fin 262144) (0 : Fin 1)) := by
  refine congrArg x (funext fun a => Fin.ext ?_)
  match a with
  | 0 =>
    have l : (i 0).val < 1 := (i 0).isLt
    show o + (i 0).val = o
    omega
  | 1 =>
    have l : (i 1).val < 1 := (i 1).isLt
    show 0 + (i 1).val = 0
    omega

/-- A comparison of two rows' weights, as the clamped reference's precondition writes it. -/
theorem compare_at (x : FVec Ideal Cert.Pre_light.S262144x1 .f32) (o r : ℕ)
    (h : Cert.Pre_light.S262144x1.Slices ![o, 0] Cert.Pre_light.S1x1) (h' : Cert.Pre_light.S262144x1.Slices ![r, 0] Cert.Pre_light.S1x1)
    (k : o < 262144) (k' : r < 262144) (i : Cert.Pre_light.S1x1.Idx)
    (e : BitVec.ofBool (decide (weight (extractStridedSlice Cert.Pre_light.S1x1 ![o, 0] x h i)
      ≤ Ideal.ofBits .f32 0x44800000#32 * weight (extractStridedSlice Cert.Pre_light.S1x1 ![r, 0] x h' i))) = 1#1) :
    weight (x (ix2 (⟨o, k⟩ : Fin 262144) (0 : Fin 1))) ≤ ((1024 : ℝ) : EReal) * weight (x (ix2 (⟨r, k'⟩ : Fin 262144) (0 : Fin 1))) := by
  rw [cut_at x o h k i, cut_at x r h' k' i, factor_bits] at e
  exact holds e

/-- The clamped reference's precondition: the zero draws' candidates are not too heavy, and no log-weight is `+∞`. -/
theorem light_at (m : (ℓ : Loc Cert.KernelIdeal.nD Cert.KernelIdeal.τ Cert.KernelIdeal.sig) → Buf (Elt Ideal) ℓ)
    (h : Cert.Pre_KernelIdeal_light (hPre_light := light_facts) m) (c : Dev Cert.KernelIdeal.nD) (n : Fin 262144) :
    Light (Cert.Resample.Ker.logw m c) ∧ Cert.Resample.Ker.logw m c n < ⊤ := by
  have e := congrFun (h c) (ix2 n (0 : Fin 1))
  unfold Cert.Pre_light.fn Cert.Pre_light.fn_part1 Cert.Pre_light.fn_part2 Cert.Pre_light.fn_part3 at e
  obtain ⟨e, e4⟩ := both_true e
  obtain ⟨e, e3⟩ := both_true e
  obtain ⟨e, e2⟩ := both_true e
  obtain ⟨e0, e1⟩ := both_true e
  rw [← top_bits]
  exact ⟨⟨compare_at _ 46624 177696 _ _ (by decide) (by decide) _ e0, compare_at _ 210629 54981 _ _ (by decide) (by decide) _ e1,
    compare_at _ 14143 10047 _ _ (by decide) (by decide) _ e2, compare_at _ 239960 235864 _ _ (by decide) (by decide) _ e3⟩, holds e4⟩

/-- The clamped reference's precondition says that every log-weight is below `+∞`. -/
theorem light_lt_top (m : (ℓ : Loc Cert.KernelIdeal.nD Cert.KernelIdeal.τ Cert.KernelIdeal.sig) → Buf (Elt Ideal) ℓ)
    (h : Cert.Pre_KernelIdeal_light (hPre_light := light_facts) m) (c : Dev Cert.KernelIdeal.nD) (n : Fin 262144) :
    Cert.Resample.Ker.logw m c n < ⊤ :=
  (light_at m h c n).2

/-- The clamped reference's precondition says that the zero draws' candidates are not too heavy. -/
theorem light_weights (m : (ℓ : Loc Cert.KernelIdeal.nD Cert.KernelIdeal.τ Cert.KernelIdeal.sig) → Buf (Elt Ideal) ℓ)
    (h : Cert.Pre_KernelIdeal_light (hPre_light := light_facts) m) (c : Dev Cert.KernelIdeal.nD) :
    Light (Cert.Resample.Ker.logw m c) :=
  (light_at m h c 0).1

/-- The kernel and the clamped reference end with the same results. -/
theorem algebraic_clamped : Cert.algebraic_KernelIdeal_ClampedIdeal_pre_light (hKernelIdeal := Cert.KernelIdeal.Gen.facts)
    (hClampedIdeal := Cert.ClampedIdeal.Gen.facts) (hPre_light := light_facts) := by
  intro m g m' g' hp ha
  refine ⟨fun c => Cert.KernelIdeal.Gen.W5 m g c (Proc.devRef .tc Cert.KernelIdeal.main_v0_0),
    fun c => Cert.KernelIdeal.Gen.W5 m g c (Proc.devRef .tc Cert.KernelIdeal.main_v0_1), Cert.Resample.Ker.run m g,
    θ_run_mono (Cert.ClampedIdeal.Line.run m' g') fun r h c => ⟨(h c _).trans ?_, (h c _).trans ?_,
      (h c _).trans (Cert.ClampedIdeal.Line.after_args _).1, (h c _).trans (Cert.ClampedIdeal.Line.after_args _).2⟩⟩
  · refine Eq.trans ?_ (Cert.Resample.Ker.result_rows m g c).symm
    funext i
    idx_vars i
    exact Cert.ClampedIdeal.Line.result_rows (StableHlo.launchContents m' c) (Cert.Resample.Ker.logw m c)
      (fun n => congrFun (ha c).2 (ix2 n (0 : Fin 1))) (light_lt_top m hp c) (light_weights m hp c) _ (ha c).1 i0 i1
  · refine Eq.trans ?_ (Cert.Resample.Ker.result_weights m g c (light_lt_top m hp c)).symm
    funext i
    idx_vars i
    exact Cert.ClampedIdeal.Line.result_weights (StableHlo.launchContents m' c) (Cert.Resample.Ker.logw m c)
      (fun n => congrFun (ha c).2 (ix2 n (0 : Fin 1))) (light_lt_top m hp c) (light_weights m hp c) i0 i1

/-- The claim. -/
theorem claim : Cert.Claim := ⟨Cert.Kernel.Gen.facts, Cert.KernelIdeal.Gen.facts, Cert.ReferenceIdeal.Gen.facts,
  Cert.ClampedIdeal.Gen.facts, pre_facts, light_facts,
  fun m ρ _ => Cert.Kernel.Gen.frame m ρ, fun m ρ _ => Cert.KernelIdeal.Gen.frame m ρ, fun m ρ _ => Cert.KernelIdeal.Gen.frame m ρ,
  fun m ρ _ => Cert.KernelIdeal.Gen.frame m ρ, fun m ρ _ => reference_frame m ρ, fun m ρ _ => reference_frame m ρ,
  fun m ρ _ => clamped_frame m ρ, fun m ρ _ => clamped_frame m ρ, trivial, algebraic, algebraic_clamped⟩

end Cert.Proof

end
